-- ==== Defs.lean ====
def Pre_NmsIdeal (m : (ℓ : Loc Cert.NmsIdeal.nD Cert.NmsIdeal.τ Cert.NmsIdeal.sig) → Buf (Elt Ideal) ℓ) : Prop :=
  True

def Pre_NmsIdeal_scores_above_floor [hPre_scores_above_floor : Cert.Pre_scores_above_floor.Facts] (m : (ℓ : Loc Cert.NmsIdeal.nD Cert.NmsIdeal.τ Cert.NmsIdeal.sig) → Buf (Elt Ideal) ℓ) : Prop :=
  ∀ c : Dev Cert.NmsIdeal.nD,
    (Cert.Pre_scores_above_floor.fn (F := Ideal) (m ((c.tc : Thread Cert.NmsIdeal.nD Cert.NmsIdeal.τ).loc Cert.NmsIdeal.main_arg0)) (m ((c.tc : Thread Cert.NmsIdeal.nD Cert.NmsIdeal.τ).loc Cert.NmsIdeal.main_arg1))) = (fun _ => 1#1)

def Pre_NmsRefIdeal (m : (ℓ : Loc Cert.NmsRefIdeal.nD Cert.NmsRefIdeal.τ Cert.NmsRefIdeal.sig) → Buf (Elt Ideal) ℓ) : Prop :=
  True

def Pre_NmsRefIdeal_scores_above_floor [hPre_scores_above_floor : Cert.Pre_scores_above_floor.Facts] (m : (ℓ : Loc Cert.NmsRefIdeal.nD Cert.NmsRefIdeal.τ Cert.NmsRefIdeal.sig) → Buf (Elt Ideal) ℓ) : Prop :=
  ∀ c : Dev Cert.NmsRefIdeal.nD,
    (Cert.Pre_scores_above_floor.fn (F := Ideal) (m ((c.tc : Thread Cert.NmsRefIdeal.nD Cert.NmsRefIdeal.τ).loc Cert.NmsRefIdeal.main_arg0)) (m ((c.tc : Thread Cert.NmsRefIdeal.nD Cert.NmsRefIdeal.τ).loc Cert.NmsRefIdeal.main_arg1))) = (fun _ => 1#1)

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def quiescent_NmsIdeal [hNmsIdeal : Cert.NmsIdeal.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1))
      ∧ r.2.sem = fun _ => 0)

def quiescent_NmsIdeal_pre_scores_above_floor [hNmsIdeal : Cert.NmsIdeal.Facts] [hPre_scores_above_floor : Cert.Pre_scores_above_floor.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal_scores_above_floor m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1))
      ∧ r.2.sem = fun _ => 0)

def quiescent_NmsRefIdeal [hNmsRefIdeal : Cert.NmsRefIdeal.Facts] : Prop :=
  ∀ (m : (ℓ : Loc Cert.NmsRefIdeal.nD Cert.NmsRefIdeal.τ Cert.NmsRefIdeal.sig) → Buf (Elt Ideal) ℓ) (g : Dev Cert.NmsRefIdeal.nD → PrngReg), Pre_NmsRefIdeal m →
    θ_run (Cert.NmsRefIdeal.defs (F := Ideal)) (onTc (τ := Cert.NmsRefIdeal.τ) (Cert.NmsRefIdeal.main (F := Ideal))) ⟨m, fun _ => 0, g⟩ (fun r => (∀ c : Dev Cert.NmsRefIdeal.nD,
      r.2.mem ((c.tc : Thread Cert.NmsRefIdeal.nD Cert.NmsRefIdeal.τ).loc Cert.NmsRefIdeal.main_arg0) = m ((c.tc : Thread Cert.NmsRefIdeal.nD Cert.NmsRefIdeal.τ).loc Cert.NmsRefIdeal.main_arg0)
      ∧ r.2.mem ((c.tc : Thread Cert.NmsRefIdeal.nD Cert.NmsRefIdeal.τ).loc Cert.NmsRefIdeal.main_arg1) = m ((c.tc : Thread Cert.NmsRefIdeal.nD Cert.NmsRefIdeal.τ).loc Cert.NmsRefIdeal.main_arg1))
      ∧ r.2.sem = fun _ => 0)

def quiescent_NmsRefIdeal_pre_scores_above_floor [hNmsRefIdeal : Cert.NmsRefIdeal.Facts] [hPre_scores_above_floor : Cert.Pre_scores_above_floor.Facts] : Prop :=
  ∀ (m : (ℓ : Loc Cert.NmsRefIdeal.nD Cert.NmsRefIdeal.τ Cert.NmsRefIdeal.sig) → Buf (Elt Ideal) ℓ) (g : Dev Cert.NmsRefIdeal.nD → PrngReg), Pre_NmsRefIdeal_scores_above_floor m →
    θ_run (Cert.NmsRefIdeal.defs (F := Ideal)) (onTc (τ := Cert.NmsRefIdeal.τ) (Cert.NmsRefIdeal.main (F := Ideal))) ⟨m, fun _ => 0, g⟩ (fun r => (∀ c : Dev Cert.NmsRefIdeal.nD,
      r.2.mem ((c.tc : Thread Cert.NmsRefIdeal.nD Cert.NmsRefIdeal.τ).loc Cert.NmsRefIdeal.main_arg0) = m ((c.tc : Thread Cert.NmsRefIdeal.nD Cert.NmsRefIdeal.τ).loc Cert.NmsRefIdeal.main_arg0)
      ∧ r.2.mem ((c.tc : Thread Cert.NmsRefIdeal.nD Cert.NmsRefIdeal.τ).loc Cert.NmsRefIdeal.main_arg1) = m ((c.tc : Thread Cert.NmsRefIdeal.nD Cert.NmsRefIdeal.τ).loc Cert.NmsRefIdeal.main_arg1))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4))
      ∧ r.2.sem = fun _ => 0)

def algebraic_NmsIdeal_NmsRefIdeal_pre_scores_above_floor [hNmsIdeal : Cert.NmsIdeal.Facts] [hNmsRefIdeal : Cert.NmsRefIdeal.Facts] [hPre_scores_above_floor : Cert.Pre_scores_above_floor.Facts] : Prop :=
  ∀ (m : (ℓ : Loc Cert.NmsIdeal.nD Cert.NmsIdeal.τ Cert.NmsIdeal.sig) → Buf (Elt Ideal) ℓ) (g : Dev Cert.NmsIdeal.nD → PrngReg)
    (m' : (ℓ : Loc Cert.NmsRefIdeal.nD Cert.NmsRefIdeal.τ Cert.NmsRefIdeal.sig) → Buf (Elt Ideal) ℓ) (g' : Dev Cert.NmsRefIdeal.nD → PrngReg), Pre_NmsIdeal_scores_above_floor m →
    (∀ c : Dev Cert.NmsIdeal.nD,
      m' ((c.tc : Thread Cert.NmsRefIdeal.nD Cert.NmsRefIdeal.τ).loc Cert.NmsRefIdeal.main_arg0) = m ((c.tc : Thread Cert.NmsIdeal.nD Cert.NmsIdeal.τ).loc Cert.NmsIdeal.main_arg0)
      ∧ m' ((c.tc : Thread Cert.NmsRefIdeal.nD Cert.NmsRefIdeal.τ).loc Cert.NmsRefIdeal.main_arg1) = m ((c.tc : Thread Cert.NmsIdeal.nD Cert.NmsIdeal.τ).loc Cert.NmsIdeal.main_arg1)) →
    ∃ (v0 : (c : Dev Cert.NmsIdeal.nD) → Buf (Elt Ideal) ((c.tc : Thread Cert.NmsIdeal.nD Cert.NmsIdeal.τ).loc Cert.NmsIdeal.main_v43)),
      θ_run (Cert.NmsIdeal.defs (F := Ideal)) (onTc (τ := Cert.NmsIdeal.τ) (Cert.NmsIdeal.main (F := Ideal))) ⟨m, fun _ => 0, g⟩ (fun r => ∀ c : Dev Cert.NmsIdeal.nD,
          r.2.mem ((c.tc : Thread Cert.NmsIdeal.nD Cert.NmsIdeal.τ).loc Cert.NmsIdeal.main_v43) = v0 c
          ∧ r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
          ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1))
      ∧ θ_run (Cert.NmsRefIdeal.defs (F := Ideal)) (onTc (τ := Cert.NmsRefIdeal.τ) (Cert.NmsRefIdeal.main (F := Ideal))) ⟨m', fun _ => 0, g'⟩ (fun r => ∀ c : Dev Cert.NmsRefIdeal.nD,
          r.2.mem ((c.tc : Thread Cert.NmsRefIdeal.nD Cert.NmsRefIdeal.τ).loc Cert.NmsRefIdeal.main_v172) = v0 c
          ∧ r.2.mem ((c.tc : Thread Cert.NmsRefIdeal.nD Cert.NmsRefIdeal.τ).loc Cert.NmsRefIdeal.main_arg0) = m' ((c.tc : Thread Cert.NmsRefIdeal.nD Cert.NmsRefIdeal.τ).loc Cert.NmsRefIdeal.main_arg0)
          ∧ r.2.mem ((c.tc : Thread Cert.NmsRefIdeal.nD Cert.NmsRefIdeal.τ).loc Cert.NmsRefIdeal.main_arg1) = m' ((c.tc : Thread Cert.NmsRefIdeal.nD Cert.NmsRefIdeal.τ).loc Cert.NmsRefIdeal.main_arg1))

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)
      ∧ m' ((c.tc : Thread Cert.HeadsRefIdeal.nD Cert.HeadsRefIdeal.τ).loc Cert.HeadsRefIdeal.main_arg4) = m ((c.tc : Thread Cert.HeadsIdeal.nD Cert.HeadsIdeal.τ).loc Cert.HeadsIdeal.main_arg4)) →
    ∃ (v0 : (c : Dev Cert.HeadsIdeal.nD) → Buf (Elt Ideal) ((c.tc : Thread Cert.HeadsIdeal.nD Cert.HeadsIdeal.τ).loc Cert.HeadsIdeal.main_v3_0)) (v1 : (c : Dev Cert.HeadsIdeal.nD) → Buf (Elt Ideal) ((c.tc : Thread Cert.HeadsIdeal.nD Cert.HeadsIdeal.τ).loc Cert.HeadsIdeal.main_v3_1)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v3_0) = v0 c
          ∧ r.2.mem ((c.tc : Thread Cert.HeadsIdeal.nD Cert.HeadsIdeal.τ).loc Cert.HeadsIdeal.main_v3_1) = v1 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v11) = v0 c
          ∧ r.2.mem ((c.tc : Thread Cert.HeadsRefIdeal.nD Cert.HeadsRefIdeal.τ).loc Cert.HeadsRefIdeal.main_v13) = v1 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4))

def Claim : Prop :=
  ∃ (hNmsIdeal : Cert.NmsIdeal.Facts) (hNmsRefIdeal : Cert.NmsRefIdeal.Facts) (hHeads : Cert.Heads.Facts) (hHeadsIdeal : Cert.HeadsIdeal.Facts) (hHeadsRefIdeal : Cert.HeadsRefIdeal.Facts) (hPre_scores_above_floor : Cert.Pre_scores_above_floor.Facts),
    quiescent_NmsIdeal (hNmsIdeal := hNmsIdeal)
    ∧ quiescent_NmsIdeal_pre_scores_above_floor (hNmsIdeal := hNmsIdeal) (hPre_scores_above_floor := hPre_scores_above_floor)
    ∧ quiescent_NmsRefIdeal (hNmsRefIdeal := hNmsRefIdeal)
    ∧ quiescent_NmsRefIdeal_pre_scores_above_floor (hNmsRefIdeal := hNmsRefIdeal) (hPre_scores_above_floor := hPre_scores_above_floor)
    ∧ quiescent_Heads (hHeads := hHeads)
    ∧ quiescent_HeadsIdeal (hHeadsIdeal := hHeadsIdeal)
    ∧ quiescent_HeadsRefIdeal (hHeadsRefIdeal := hHeadsRefIdeal)
    ∧ algebraic_NmsIdeal_NmsRefIdeal_pre_scores_above_floor (hNmsIdeal := hNmsIdeal) (hNmsRefIdeal := hNmsRefIdeal) (hPre_scores_above_floor := hPre_scores_above_floor)
    ∧ preserves_Heads_HeadsIdeal
    ∧ algebraic_HeadsIdeal_HeadsRefIdeal (hHeadsIdeal := hHeadsIdeal) (hHeadsRefIdeal := hHeadsRefIdeal)
-- ==== Pre_scores_above_floor.lean ====
abbrev S2x16000x15 : Shape := ⟨3, ![2, 16000, 15]⟩
abbrev S2x16000x60 : Shape := ⟨3, ![2, 16000, 60]⟩
abbrev S_ : Shape := ⟨0, ![]⟩

class Facts : Prop where
  bcast_S_S2x16000x15 : S_.BroadcastsInDim S2x16000x15 (![] : Fin 0 → Fin S2x16000x15.rank)
  reducesTo_S2x16000x15_S_d0_1_2 : S2x16000x15.ReducesTo [0, 1, 2] S_
  h_S_ : 0 < S_.numel

variable [Facts]

def fn {F : FTy → Type} [FloatOps F] (main_arg0 : FVec F S2x16000x15 .f32) (main_arg1 : FVec F S2x16000x60 .f32) : IVec S_ 1 :=
  let main_cst : FVec F S_ .f32 := constant S_ .f32 0xD01502F9#32
  let main_v0 : FVec F S2x16000x15 .f32 := broadcastInDim S2x16000x15 ![] bcast_S_S2x16000x15 main_cst
  let main_v1 : IVec S2x16000x15 1 := cmpf .ogt main_arg0 main_v0
  let main_c : IVec S_ 1 := constantI S_ 1 1#1
  let main_v2 : IVec S_ 1 := (fun x v => Host.reduce IntOp.andi x v reducesTo_S2x16000x15_S_d0_1_2 h_S_) main_v1 main_c
  main_v2
-- ==== NmsIdeal.lean ====
abbrev S2x16000x15 : Shape := ⟨3, ![2, 16000, 15]⟩
abbrev S2x16000x60 : Shape := ⟨3, ![2, 16000, 60]⟩
abbrev S2x240000 : Shape := ⟨2, ![2, 240000]⟩
abbrev S2x2000 : Shape := ⟨2, ![2, 2000]⟩
abbrev S_ : Shape := ⟨0, ![]⟩
abbrev S2x48 : Shape := ⟨2, ![2, 48]⟩
abbrev S2x2048 : Shape := ⟨2, ![2, 2048]⟩
abbrev S480000x4 : Shape := ⟨2, ![480000, 4]⟩
abbrev S2 : Shape := ⟨1, ![2]⟩
abbrev S2x1 : Shape := ⟨2, ![2, 1]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S4096x4 : Shape := ⟨2, ![4096, 4]⟩
abbrev S2x2048x4 : Shape := ⟨3, ![2, 2048, 4]⟩
abbrev S2x2048x1 : Shape := ⟨3, ![2, 2048, 1]⟩
abbrev S2x1x2048 : Shape := ⟨3, ![2, 1, 2048]⟩
abbrev S1x1x2048 : Shape := ⟨3, ![1, 1, 2048]⟩
abbrev S1x2048 : Shape := ⟨2, ![1, 2048]⟩
abbrev S256x256 : Shape := ⟨2, ![256, 256]⟩
abbrev S1x256 : Shape := ⟨2, ![1, 256]⟩
abbrev S256x1 : Shape := ⟨2, ![256, 1]⟩
abbrev S256x2048 : Shape := ⟨2, ![256, 2048]⟩
abbrev S1x256x1 : Shape := ⟨3, ![1, 256, 1]⟩
abbrev S1x1x1 : Shape := ⟨3, ![1, 1, 1]⟩
abbrev S256 : Shape := ⟨1, ![256]⟩
abbrev S2048 : Shape := ⟨1, ![2048]⟩
abbrev S2x1000 : Shape := ⟨2, ![2, 1000]⟩
abbrev S2x1000x1 : Shape := ⟨3, ![2, 1000, 1]⟩
abbrev S2x1000x4 : Shape := ⟨3, ![2, 1000, 4]⟩

abbrev nBuf : Space → Nat
  | .hbm => 100
  | .vmem => 22
  | .smem => 0
  | _ => 0

abbrev bufTy : (tb : Table) → Fin (tcTables nBuf tb) → BufTy
  | .hbm, ⟨0, _⟩ => ⟨S2x16000x15, .f32⟩
  | .hbm, ⟨1, _⟩ => ⟨S2x16000x60, .f32⟩
  | .hbm, ⟨2, _⟩ => ⟨S2x240000, .f32⟩
  | .hbm, ⟨3, _⟩ => ⟨S2x2000, .f32⟩
  | .hbm, ⟨4, _⟩ => ⟨S2x2000, .i32⟩
  | .hbm, ⟨5, _⟩ => ⟨S_, .f32⟩
  | .hbm, ⟨6, _⟩ => ⟨S2x48, .f32⟩
  | .hbm, ⟨7, _⟩ => ⟨S_, .i32⟩
  | .hbm, ⟨8, _⟩ => ⟨S2x48, .i32⟩
  | .hbm, ⟨9, _⟩ => ⟨S2x2048, .f32⟩
  | .hbm, ⟨10, _⟩ => ⟨S2x2048, .i32⟩
  | .hbm, ⟨11, _⟩ => ⟨S480000x4, .f32⟩
  | .hbm, ⟨12, _⟩ => ⟨S2, .i32⟩
  | .hbm, ⟨13, _⟩ => ⟨S2x1, .i32⟩
  | .hbm, ⟨14, _⟩ => ⟨S_, .i32⟩
  | .hbm, ⟨15, _⟩ => ⟨S2x1, .i32⟩
  | .hbm, ⟨16, _⟩ => ⟨S2x1, .i32⟩
  | .hbm, ⟨17, _⟩ => ⟨S2x2048, .i32⟩
  | .hbm, ⟨18, _⟩ => ⟨S2x2048, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S1, .i32⟩
  | .hbm, ⟨29, _⟩ => ⟨S_, .i32⟩
  | .hbm, ⟨30, _⟩ => ⟨S4096x1, .i32⟩
  | .hbm, ⟨31, _⟩ => ⟨S4096x1, .i1⟩
  | .hbm, ⟨32, _⟩ => ⟨S1x1, .i32⟩
  | .hbm, ⟨33, _⟩ => ⟨S4096x1, .i32⟩
  | .hbm, ⟨34, _⟩ => ⟨S4096x1, .i1⟩
  | .hbm, ⟨35, _⟩ => ⟨S4096x1, .i1⟩
  | .hbm, ⟨36, _⟩ => ⟨S_, .i1⟩
  | .hbm, ⟨37, _⟩ => ⟨S4096, .i1⟩
  | .hbm, ⟨38, _⟩ => ⟨S4096x4, .f32⟩
  | .hbm, ⟨39, _⟩ => ⟨S4096x4, .i1⟩
  | .hbm, ⟨40, _⟩ => ⟨S_, .f32⟩
  | .hbm, ⟨41, _⟩ => ⟨S4096x4, .f32⟩
  | .hbm, ⟨42, _⟩ => ⟨S4096x4, .f32⟩
  | .hbm, ⟨43, _⟩ => ⟨S2x2048x4, .f32⟩
  | .hbm, ⟨44, _⟩ => ⟨S2x2048x1, .f32⟩
  | .hbm, ⟨45, _⟩ => ⟨S2x2048, .f32⟩
  | .hbm, ⟨46, _⟩ => ⟨S2x2048x1, .f32⟩
  | .hbm, ⟨47, _⟩ => ⟨S2x2048, .f32⟩
  | .hbm, ⟨48, _⟩ => ⟨S2x2048x1, .f32⟩
  | .hbm, ⟨49, _⟩ => ⟨S2x2048, .f32⟩
  | .hbm, ⟨50, _⟩ => ⟨S2x2048x1, .f32⟩
  | .hbm, ⟨51, _⟩ => ⟨S2x2048, .f32⟩
  | .hbm, ⟨52, _⟩ => ⟨S2x1x2048, .f32⟩
  | .hbm, ⟨53, _⟩ => ⟨S2x1x2048, .i32⟩
  | .hbm, ⟨54, _⟩ => ⟨S2x1x2048, .f32⟩
  | .hbm, ⟨55, _⟩ => ⟨S2x1x2048, .f32⟩
  | .hbm, ⟨56, _⟩ => ⟨S2x1x2048, .f32⟩
  | .hbm, ⟨57, _⟩ => ⟨S2x1x2048, .f32⟩
  | .hbm, ⟨58, _⟩ => ⟨S2x1x2048, .f32⟩
  | .hbm, ⟨59, _⟩ => ⟨S2x1x2048, .f32⟩
  | .hbm, ⟨60, _⟩ => ⟨S2x1x2048, .f32⟩
  | .hbm, ⟨61, _⟩ => ⟨S2x1x2048, .f32⟩
  | .hbm, ⟨62, _⟩ => ⟨S2x1x2048, .i32⟩
  | .hbm, ⟨63, _⟩ => ⟨S2x2048, .f32⟩
  | .hbm, ⟨64, _⟩ => ⟨S2x2048, .f32⟩
  | .hbm, ⟨65, _⟩ => ⟨S2x2048, .f32⟩
  | .hbm, ⟨66, _⟩ => ⟨S2x2048, .f32⟩
  | .hbm, ⟨67, _⟩ => ⟨S2x2048, .i32⟩
  | .hbm, ⟨68, _⟩ => ⟨S2x2048, .i32⟩
  | .hbm, ⟨69, _⟩ => ⟨S2x2048, .i32⟩
  | .hbm, ⟨70, _⟩ => ⟨S2x2048, .i32⟩
  | .hbm, ⟨71, _⟩ => ⟨S2x1000, .i32⟩
  | .hbm, ⟨72, _⟩ => ⟨S2x2048x1, .f32⟩
  | .hbm, ⟨73, _⟩ => ⟨S2x2048x1, .f32⟩
  | .hbm, ⟨74, _⟩ => ⟨S2x2048x1, .f32⟩
  | .hbm, ⟨75, _⟩ => ⟨S2x2048x1, .f32⟩
  | .hbm, ⟨76, _⟩ => ⟨S2x2048x4, .f32⟩
  | .hbm, ⟨77, _⟩ => ⟨S2x1000x1, .i32⟩
  | .hbm, ⟨78, _⟩ => ⟨S_, .i32⟩
  | .hbm, ⟨79, _⟩ => ⟨S2x1000x1, .i32⟩
  | .hbm, ⟨80, _⟩ => ⟨S2x1000x1, .i1⟩
  | .hbm, ⟨81, _⟩ => ⟨S_, .i32⟩
  | .hbm, ⟨82, _⟩ => ⟨S2x1000x1, .i32⟩
  | .hbm, ⟨83, _⟩ => ⟨S2x1000x1, .i32⟩
  | .hbm, ⟨84, _⟩ => ⟨S2x1000x1, .i32⟩
  | .hbm, ⟨85, _⟩ => ⟨S1, .i32⟩
  | .hbm, ⟨86, _⟩ => ⟨S_, .i32⟩
  | .hbm, ⟨87, _⟩ => ⟨S2x1000x1, .i32⟩
  | .hbm, ⟨88, _⟩ => ⟨S2x1000x1, .i1⟩
  | .hbm, ⟨89, _⟩ => ⟨S1x1x1, .i32⟩
  | .hbm, ⟨90, _⟩ => ⟨S2x1000x1, .i32⟩
  | .hbm, ⟨91, _⟩ => ⟨S2x1000x1, .i1⟩
  | .hbm, ⟨92, _⟩ => ⟨S2x1000x1, .i1⟩
  | .hbm, ⟨93, _⟩ => ⟨S_, .i1⟩
  | .hbm, ⟨94, _⟩ => ⟨S2x1000, .i1⟩
  | .hbm, ⟨95, _⟩ => ⟨S2x1000x4, .f32⟩
  | .hbm, ⟨96, _⟩ => ⟨S2x1000x4, .i1⟩
  | .hbm, ⟨97, _⟩ => ⟨S_, .f32⟩
  | .hbm, ⟨98, _⟩ => ⟨S2x1000x4, .f32⟩
  | .hbm, ⟨99, _⟩ => ⟨S2x1000x4, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .i32⟩
  | .local _ .vmem, ⟨3, _⟩ => ⟨S1x1x2048, .i32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .i32⟩
  | .local _ .vmem, ⟨21, _⟩ => ⟨S1x1x2048, .i32⟩
  | _, _ => ⟨S2x16000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29_0 : Ref sig .tc := ⟨.hbm, 58, rfl⟩
abbrev main_v29_1 : Ref sig .tc := ⟨.hbm, 59, rfl⟩
abbrev main_v29_2 : Ref sig .tc := ⟨.hbm, 60, rfl⟩
abbrev main_v29_3 : Ref sig .tc := ⟨.hbm, 61, rfl⟩
abbrev main_v29_4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_call1_v0 : Ref sig .tc := ⟨.hbm, 68, rfl⟩
abbrev main_call1_v1_0 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_c_1 : Ref sig .tc := ⟨.hbm, 85, rfl⟩
abbrev main_call2_c_2 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_c_3 : Ref sig .tc := ⟨.hbm, 93, rfl⟩
abbrev main_call2_v11 : Ref sig .tc := ⟨.hbm, 94, rfl⟩
abbrev main_call2_v12 : Ref sig .tc := ⟨.hbm, 95, rfl⟩
abbrev main_call2_v13 : Ref sig .tc := ⟨.hbm, 96, rfl⟩
abbrev main_call2_cst : Ref sig .tc := ⟨.hbm, 97, rfl⟩
abbrev main_call2_v14 : Ref sig .tc := ⟨.hbm, 98, rfl⟩
abbrev main_v43 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== NmsRefIdeal.lean ====
abbrev S2x16000x15 : Shape := ⟨3, ![2, 16000, 15]⟩
abbrev S2x16000x60 : Shape := ⟨3, ![2, 16000, 60]⟩
abbrev S15x4 : Shape := ⟨2, ![15, 4]⟩
abbrev S160 : Shape := ⟨1, ![160]⟩
abbrev S_ : Shape := ⟨0, ![]⟩
abbrev S100 : Shape := ⟨1, ![100]⟩
abbrev S100x1 : Shape := ⟨2, ![100, 1]⟩
abbrev S100x160 : Shape := ⟨2, ![100, 160]⟩
abbrev S1x160 : Shape := ⟨2, ![1, 160]⟩
abbrev S100x160x1 : Shape := ⟨3, ![100, 160, 1]⟩
abbrev S100x160x4 : Shape := ⟨3, ![100, 160, 4]⟩
abbrev S16000x1x4 : Shape := ⟨3, ![16000, 1, 4]⟩
abbrev S1x15x4 : Shape := ⟨3, ![1, 15, 4]⟩
abbrev S16000x15x4 : Shape := ⟨3, ![16000, 15, 4]⟩
abbrev S2x240000 : Shape := ⟨2, ![2, 240000]⟩
abbrev S2x2000 : Shape := ⟨2, ![2, 2000]⟩
abbrev S2 : Shape := ⟨1, ![2]⟩
abbrev S2x1 : Shape := ⟨2, ![2, 1]⟩
abbrev S4000 : Shape := ⟨1, ![4000]⟩
abbrev S480000x4 : Shape := ⟨2, ![480000, 4]⟩
abbrev S1x240000x4 : Shape := ⟨3, ![1, 240000, 4]⟩
abbrev S2x240000x4 : Shape := ⟨3, ![2, 240000, 4]⟩
abbrev S4000x1 : Shape := ⟨2, ![4000, 1]⟩
abbrev S1 : Shape := ⟨1, ![1]⟩
abbrev S1x1 : Shape := ⟨2, ![1, 1]⟩
abbrev S4000x4 : Shape := ⟨2, ![4000, 4]⟩
abbrev S2x2000x4 : Shape := ⟨3, ![2, 2000, 4]⟩
abbrev S480000 : Shape := ⟨1, ![480000]⟩
abbrev S2x2000x1 : Shape := ⟨3, ![2, 2000, 1]⟩
abbrev S2000 : Shape := ⟨1, ![2000]⟩
abbrev S1x1x1 : Shape := ⟨3, ![1, 1, 1]⟩
abbrev S2x1x2000 : Shape := ⟨3, ![2, 1, 2000]⟩
abbrev S2x2000x2000 : Shape := ⟨3, ![2, 2000, 2000]⟩
abbrev S1x2000 : Shape := ⟨2, ![1, 2000]⟩
abbrev S2x1000 : Shape := ⟨2, ![2, 1000]⟩
abbrev S2x1000x1 : Shape := ⟨3, ![2, 1000, 1]⟩
abbrev S2x1000x4 : Shape := ⟨3, ![2, 1000, 4]⟩

abbrev nBuf : Space → Nat
  | .hbm => 409
  | .vmem => 0
  | .smem => 0
  | _ => 0

abbrev hbmTy0_0 (i : Nat) : BufTy := match i % 128 with
  | 0 => ⟨S2x16000x15, .f32⟩
  | 1 => ⟨S2x16000x60, .f32⟩
  | 2 => ⟨S15x4, .f32⟩
  | 3 => ⟨S160, .f32⟩
  | 4 => ⟨S_, .f32⟩
  | 5 => ⟨S160, .f32⟩
  | 6 => ⟨S160, .f32⟩
  | 7 => ⟨S_, .f32⟩
  | 8 => ⟨S160, .f32⟩
  | 9 => ⟨S160, .f32⟩
  | 10 => ⟨S100, .f32⟩
  | 11 => ⟨S_, .f32⟩
  | 12 => ⟨S100, .f32⟩
  | 13 => ⟨S100, .f32⟩
  | 14 => ⟨S_, .f32⟩
  | 15 => ⟨S100, .f32⟩
  | 16 => ⟨S100, .f32⟩
  | 17 => ⟨S100x1, .f32⟩
  | 18 => ⟨S100x160, .f32⟩
  | 19 => ⟨S1x160, .f32⟩
  | 20 => ⟨S100x160, .f32⟩
  | 21 => ⟨S100x160x1, .f32⟩
  | 22 => ⟨S100x160x1, .f32⟩
  | 23 => ⟨S100x160x1, .f32⟩
  | 24 => ⟨S100x160x1, .f32⟩
  | 25 => ⟨S100x160x4, .f32⟩
  | 26 => ⟨S16000x1x4, .f32⟩
  | 27 => ⟨S1x15x4, .f32⟩
  | 28 => ⟨S16000x15x4, .f32⟩
  | 29 => ⟨S16000x15x4, .f32⟩
  | 30 => ⟨S16000x15x4, .f32⟩
  | 31 => ⟨S2x240000, .f32⟩
  | 32 => ⟨S2x2000, .f32⟩
  | 33 => ⟨S2x2000, .i32⟩
  | 34 => ⟨S2, .i32⟩
  | 35 => ⟨S2x1, .i32⟩
  | 36 => ⟨S_, .i32⟩
  | 37 => ⟨S2x1, .i32⟩
  | 38 => ⟨S2x1, .i32⟩
  | 39 => ⟨S2x2000, .i32⟩
  | 40 => ⟨S2x2000, .i32⟩
  | 41 => ⟨S4000, .i32⟩
  | 42 => ⟨S480000x4, .f32⟩
  | 43 => ⟨S1x240000x4, .f32⟩
  | 44 => ⟨S2x240000x4, .f32⟩
  | 45 => ⟨S480000x4, .f32⟩
  | 46 => ⟨S_, .i32⟩
  | 47 => ⟨S4000, .i32⟩
  | 48 => ⟨S4000, .i1⟩
  | 49 => ⟨S_, .i32⟩
  | 50 => ⟨S4000, .i32⟩
  | 51 => ⟨S4000, .i32⟩
  | 52 => ⟨S4000, .i32⟩
  | 53 => ⟨S4000x1, .i32⟩
  | 54 => ⟨S1, .i32⟩
  | 55 => ⟨S_, .i32⟩
  | 56 => ⟨S4000x1, .i32⟩
  | 57 => ⟨S4000x1, .i1⟩
  | 58 => ⟨S1x1, .i32⟩
  | 59 => ⟨S4000x1, .i32⟩
  | 60 => ⟨S4000x1, .i1⟩
  | 61 => ⟨S4000x1, .i1⟩
  | 62 => ⟨S_, .i1⟩
  | 63 => ⟨S4000, .i1⟩
  | 64 => ⟨S4000x4, .f32⟩
  | 65 => ⟨S4000x4, .i1⟩
  | 66 => ⟨S_, .f32⟩
  | 67 => ⟨S4000x4, .f32⟩
  | 68 => ⟨S4000x4, .f32⟩
  | 69 => ⟨S_, .i32⟩
  | 70 => ⟨S4000, .i32⟩
  | 71 => ⟨S4000, .i1⟩
  | 72 => ⟨S_, .i32⟩
  | 73 => ⟨S4000, .i32⟩
  | 74 => ⟨S4000, .i32⟩
  | 75 => ⟨S4000, .i32⟩
  | 76 => ⟨S4000x1, .i32⟩
  | 77 => ⟨S1, .i32⟩
  | 78 => ⟨S_, .i32⟩
  | 79 => ⟨S4000x1, .i32⟩
  | 80 => ⟨S4000x1, .i1⟩
  | 81 => ⟨S1x1, .i32⟩
  | 82 => ⟨S4000x1, .i32⟩
  | 83 => ⟨S4000x1, .i1⟩
  | 84 => ⟨S4000x1, .i1⟩
  | 85 => ⟨S_, .i1⟩
  | 86 => ⟨S4000, .i1⟩
  | 87 => ⟨S4000x4, .f32⟩
  | 88 => ⟨S4000x4, .i1⟩
  | 89 => ⟨S_, .f32⟩
  | 90 => ⟨S4000x4, .f32⟩
  | 91 => ⟨S4000x4, .f32⟩
  | 92 => ⟨S4000x1, .f32⟩
  | 93 => ⟨S4000, .f32⟩
  | 94 => ⟨S4000x1, .f32⟩
  | 95 => ⟨S4000, .f32⟩
  | 96 => ⟨S4000x1, .f32⟩
  | 97 => ⟨S4000, .f32⟩
  | 98 => ⟨S4000x1, .f32⟩
  | 99 => ⟨S4000, .f32⟩
  | 100 => ⟨S_, .f32⟩
  | 101 => ⟨S4000, .f32⟩
  | 102 => ⟨S4000, .f32⟩
  | 103 => ⟨S_, .f32⟩
  | 104 => ⟨S4000, .f32⟩
  | 105 => ⟨S4000, .f32⟩
  | 106 => ⟨S4000x1, .f32⟩
  | 107 => ⟨S4000, .f32⟩
  | 108 => ⟨S4000x1, .f32⟩
  | 109 => ⟨S4000, .f32⟩
  | 110 => ⟨S4000, .f32⟩
  | 111 => ⟨S4000x1, .f32⟩
  | 112 => ⟨S4000, .f32⟩
  | 113 => ⟨S4000x1, .f32⟩
  | 114 => ⟨S4000, .f32⟩
  | 115 => ⟨S4000, .f32⟩
  | 116 => ⟨S_, .f32⟩
  | 117 => ⟨S4000, .f32⟩
  | 118 => ⟨S4000, .f32⟩
  | 119 => ⟨S_, .f32⟩
  | 120 => ⟨S4000, .f32⟩
  | 121 => ⟨S4000, .f32⟩
  | 122 => ⟨S4000, .f32⟩
  | 123 => ⟨S4000, .f32⟩
  | 124 => ⟨S4000, .f32⟩
  | 125 => ⟨S4000, .f32⟩
  | 126 => ⟨S4000, .f32⟩
  | 127 => ⟨S4000, .f32⟩
  | _ => ⟨S2x16000x15, .f32⟩

abbrev hbmTy0_1 (i : Nat) : BufTy := match i % 128 with
  | 0 => ⟨S4000, .f32⟩
  | 1 => ⟨S4000, .f32⟩
  | 2 => ⟨S_, .f32⟩
  | 3 => ⟨S4000, .f32⟩
  | 4 => ⟨S4000, .f32⟩
  | 5 => ⟨S4000, .f32⟩
  | 6 => ⟨S_, .f32⟩
  | 7 => ⟨S4000, .f32⟩
  | 8 => ⟨S4000, .f32⟩
  | 9 => ⟨S4000, .f32⟩
  | 10 => ⟨S_, .f32⟩
  | 11 => ⟨S4000, .f32⟩
  | 12 => ⟨S4000, .f32⟩
  | 13 => ⟨S4000, .f32⟩
  | 14 => ⟨S_, .f32⟩
  | 15 => ⟨S4000, .f32⟩
  | 16 => ⟨S4000, .f32⟩
  | 17 => ⟨S4000, .f32⟩
  | 18 => ⟨S4000x1, .f32⟩
  | 19 => ⟨S4000x1, .f32⟩
  | 20 => ⟨S4000x1, .f32⟩
  | 21 => ⟨S4000x1, .f32⟩
  | 22 => ⟨S4000x4, .f32⟩
  | 23 => ⟨S2x2000x4, .f32⟩
  | 24 => ⟨S480000, .f32⟩
  | 25 => ⟨S_, .i32⟩
  | 26 => ⟨S4000, .i32⟩
  | 27 => ⟨S4000, .i1⟩
  | 28 => ⟨S_, .i32⟩
  | 29 => ⟨S4000, .i32⟩
  | 30 => ⟨S4000, .i32⟩
  | 31 => ⟨S4000, .i32⟩
  | 32 => ⟨S4000x1, .i32⟩
  | 33 => ⟨S1, .i32⟩
  | 34 => ⟨S_, .i32⟩
  | 35 => ⟨S4000x1, .i32⟩
  | 36 => ⟨S4000x1, .i1⟩
  | 37 => ⟨S1x1, .i32⟩
  | 38 => ⟨S4000x1, .i32⟩
  | 39 => ⟨S4000x1, .i1⟩
  | 40 => ⟨S4000x1, .i1⟩
  | 41 => ⟨S_, .i1⟩
  | 42 => ⟨S4000, .i1⟩
  | 43 => ⟨S4000, .f32⟩
  | 44 => ⟨S_, .f32⟩
  | 45 => ⟨S4000, .f32⟩
  | 46 => ⟨S4000, .f32⟩
  | 47 => ⟨S2x2000, .f32⟩
  | 48 => ⟨S2x2000x1, .f32⟩
  | 49 => ⟨S2x2000, .f32⟩
  | 50 => ⟨S_, .f32⟩
  | 51 => ⟨S_, .f32⟩
  | 52 => ⟨S_, .f32⟩
  | 53 => ⟨S2x2000, .f32⟩
  | 54 => ⟨S2x2000, .f32⟩
  | 55 => ⟨S_, .f32⟩
  | 56 => ⟨S2x2000, .f32⟩
  | 57 => ⟨S2x2000, .f32⟩
  | 58 => ⟨S2x2000x1, .f32⟩
  | 59 => ⟨S2x2000, .f32⟩
  | 60 => ⟨S_, .f32⟩
  | 61 => ⟨S_, .f32⟩
  | 62 => ⟨S_, .f32⟩
  | 63 => ⟨S2x2000, .f32⟩
  | 64 => ⟨S2x2000, .f32⟩
  | 65 => ⟨S_, .f32⟩
  | 66 => ⟨S2x2000, .f32⟩
  | 67 => ⟨S2x2000, .f32⟩
  | 68 => ⟨S2x2000x1, .f32⟩
  | 69 => ⟨S2x2000, .f32⟩
  | 70 => ⟨S_, .f32⟩
  | 71 => ⟨S_, .f32⟩
  | 72 => ⟨S_, .f32⟩
  | 73 => ⟨S2x2000, .f32⟩
  | 74 => ⟨S2x2000, .f32⟩
  | 75 => ⟨S_, .f32⟩
  | 76 => ⟨S2x2000, .f32⟩
  | 77 => ⟨S2x2000, .f32⟩
  | 78 => ⟨S2x2000x1, .f32⟩
  | 79 => ⟨S2x2000, .f32⟩
  | 80 => ⟨S_, .f32⟩
  | 81 => ⟨S_, .f32⟩
  | 82 => ⟨S_, .f32⟩
  | 83 => ⟨S2x2000, .f32⟩
  | 84 => ⟨S2x2000, .f32⟩
  | 85 => ⟨S_, .f32⟩
  | 86 => ⟨S2x2000, .f32⟩
  | 87 => ⟨S2x2000, .f32⟩
  | 88 => ⟨S2x2000, .f32⟩
  | 89 => ⟨S_, .f32⟩
  | 90 => ⟨S2x2000, .f32⟩
  | 91 => ⟨S2x2000, .i1⟩
  | 92 => ⟨S2x2000, .f32⟩
  | 93 => ⟨S_, .f32⟩
  | 94 => ⟨S2x2000, .f32⟩
  | 95 => ⟨S2x2000, .i1⟩
  | 96 => ⟨S2x2000, .i1⟩
  | 97 => ⟨S_, .f32⟩
  | 98 => ⟨S_, .f32⟩
  | 99 => ⟨S2000, .f32⟩
  | 100 => ⟨S2x2000, .f32⟩
  | 101 => ⟨S2x2000, .f32⟩
  | 102 => ⟨S2x2000, .f32⟩
  | 103 => ⟨S2000, .i32⟩
  | 104 => ⟨S2x2000, .i32⟩
  | 105 => ⟨S2x2000, .f32⟩
  | 106 => ⟨S2x2000, .i32⟩
  | 107 => ⟨S_, .i32⟩
  | 108 => ⟨S2x2000, .i32⟩
  | 109 => ⟨S2x2000, .i1⟩
  | 110 => ⟨S_, .i32⟩
  | 111 => ⟨S2x2000, .i32⟩
  | 112 => ⟨S2x2000, .i32⟩
  | 113 => ⟨S2x2000, .i32⟩
  | 114 => ⟨S2x2000x1, .i32⟩
  | 115 => ⟨S1, .i32⟩
  | 116 => ⟨S_, .i32⟩
  | 117 => ⟨S2x2000x1, .i32⟩
  | 118 => ⟨S2x2000x1, .i1⟩
  | 119 => ⟨S1x1x1, .i32⟩
  | 120 => ⟨S2x2000x1, .i32⟩
  | 121 => ⟨S2x2000x1, .i1⟩
  | 122 => ⟨S2x2000x1, .i1⟩
  | 123 => ⟨S_, .i1⟩
  | 124 => ⟨S2x2000, .i1⟩
  | 125 => ⟨S2x2000x4, .f32⟩
  | 126 => ⟨S2x2000x4, .i1⟩
  | 127 => ⟨S_, .f32⟩
  | _ => ⟨S2x16000x15, .f32⟩

abbrev hbmTy0_2 (i : Nat) : BufTy := match i % 128 with
  | 0 => ⟨S2x2000x4, .f32⟩
  | 1 => ⟨S2x2000x4, .f32⟩
  | 2 => ⟨S_, .i32⟩
  | 3 => ⟨S2x2000, .i32⟩
  | 4 => ⟨S2x2000, .i1⟩
  | 5 => ⟨S_, .i32⟩
  | 6 => ⟨S2x2000, .i32⟩
  | 7 => ⟨S2x2000, .i32⟩
  | 8 => ⟨S2x2000, .i32⟩
  | 9 => ⟨S2x2000x1, .i32⟩
  | 10 => ⟨S1, .i32⟩
  | 11 => ⟨S_, .i32⟩
  | 12 => ⟨S2x2000x1, .i32⟩
  | 13 => ⟨S2x2000x1, .i1⟩
  | 14 => ⟨S1x1x1, .i32⟩
  | 15 => ⟨S2x2000x1, .i32⟩
  | 16 => ⟨S2x2000x1, .i1⟩
  | 17 => ⟨S2x2000x1, .i1⟩
  | 18 => ⟨S_, .i1⟩
  | 19 => ⟨S2x2000, .i1⟩
  | 20 => ⟨S2x2000, .f32⟩
  | 21 => ⟨S_, .f32⟩
  | 22 => ⟨S2x2000, .f32⟩
  | 23 => ⟨S2x2000, .f32⟩
  | 24 => ⟨S2x2000x1, .f32⟩
  | 25 => ⟨S2x2000, .f32⟩
  | 26 => ⟨S2x2000x1, .f32⟩
  | 27 => ⟨S2x2000, .f32⟩
  | 28 => ⟨S2x2000x1, .f32⟩
  | 29 => ⟨S2x2000, .f32⟩
  | 30 => ⟨S2x2000x1, .f32⟩
  | 31 => ⟨S2x2000, .f32⟩
  | 32 => ⟨S2x2000, .f32⟩
  | 33 => ⟨S_, .f32⟩
  | 34 => ⟨S2x2000, .f32⟩
  | 35 => ⟨S2x2000, .f32⟩
  | 36 => ⟨S2x2000, .f32⟩
  | 37 => ⟨S_, .f32⟩
  | 38 => ⟨S2x2000, .f32⟩
  | 39 => ⟨S2x2000, .f32⟩
  | 40 => ⟨S2x2000, .f32⟩
  | 41 => ⟨S2x2000x1, .f32⟩
  | 42 => ⟨S2x1x2000, .f32⟩
  | 43 => ⟨S2x2000x2000, .f32⟩
  | 44 => ⟨S2x2000x2000, .f32⟩
  | 45 => ⟨S2x2000x2000, .f32⟩
  | 46 => ⟨S2x2000x1, .f32⟩
  | 47 => ⟨S2x1x2000, .f32⟩
  | 48 => ⟨S2x2000x2000, .f32⟩
  | 49 => ⟨S2x2000x2000, .f32⟩
  | 50 => ⟨S2x2000x2000, .f32⟩
  | 51 => ⟨S2x2000x1, .f32⟩
  | 52 => ⟨S2x1x2000, .f32⟩
  | 53 => ⟨S2x2000x2000, .f32⟩
  | 54 => ⟨S2x2000x2000, .f32⟩
  | 55 => ⟨S2x2000x2000, .f32⟩
  | 56 => ⟨S2x2000x1, .f32⟩
  | 57 => ⟨S2x1x2000, .f32⟩
  | 58 => ⟨S2x2000x2000, .f32⟩
  | 59 => ⟨S2x2000x2000, .f32⟩
  | 60 => ⟨S2x2000x2000, .f32⟩
  | 61 => ⟨S2x2000x2000, .f32⟩
  | 62 => ⟨S_, .f32⟩
  | 63 => ⟨S2x2000x2000, .f32⟩
  | 64 => ⟨S2x2000x2000, .f32⟩
  | 65 => ⟨S2x2000x2000, .f32⟩
  | 66 => ⟨S_, .f32⟩
  | 67 => ⟨S2x2000x2000, .f32⟩
  | 68 => ⟨S2x2000x2000, .f32⟩
  | 69 => ⟨S2x2000x2000, .f32⟩
  | 70 => ⟨S2x2000x1, .f32⟩
  | 71 => ⟨S2x1x2000, .f32⟩
  | 72 => ⟨S2x2000x2000, .f32⟩
  | 73 => ⟨S2x2000x2000, .f32⟩
  | 74 => ⟨S2x2000x2000, .f32⟩
  | 75 => ⟨S2x2000x2000, .f32⟩
  | 76 => ⟨S_, .f32⟩
  | 77 => ⟨S2x2000x2000, .f32⟩
  | 78 => ⟨S2x2000x2000, .f32⟩
  | 79 => ⟨S2x2000x2000, .f32⟩
  | 80 => ⟨S2000, .i32⟩
  | 81 => ⟨S_, .i1⟩
  | 82 => ⟨S2x2000, .i1⟩
  | 83 => ⟨S_, .i32⟩
  | 84 => ⟨S2000, .i32⟩
  | 85 => ⟨S2x2000x2000, .f32⟩
  | 86 => ⟨S2000, .i32⟩
  | 87 => ⟨S_, .i32⟩
  | 88 => ⟨S2x2000, .i1⟩
  | 89 => ⟨S_, .i32⟩
  | 90 => ⟨S_, .i1⟩
  | 91 => ⟨S1, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S2x1x2000, .f32⟩
  | 101 => ⟨S2x2000, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S2x1, .i1⟩
  | 109 => ⟨S_, .f32⟩
  | 110 => ⟨S2x2000, .f32⟩
  | 111 => ⟨S2x2000, .i1⟩
  | 112 => ⟨S2000, .i32⟩
  | 113 => ⟨S2000, .i1⟩
  | 114 => ⟨S1x2000, .i1⟩
  | 115 => ⟨S2x2000, .i1⟩
  | 116 => ⟨S2x2000, .i1⟩
  | 117 => ⟨S2x2000, .i1⟩
  | 118 => ⟨S2x2000, .i1⟩
  | 119 => ⟨S2x2000, .i1⟩
  | 120 => ⟨S2x2000, .i1⟩
  | 121 => ⟨S_, .i32⟩
  | 122 => ⟨S_, .i32⟩
  | 123 => ⟨S_, .f32⟩
  | 124 => ⟨S_, .f32⟩
  | 125 => ⟨S2000, .f32⟩
  | 126 => ⟨S2x2000, .f32⟩
  | 127 => ⟨S2x2000, .f32⟩
  | _ => ⟨S2x16000x15, .f32⟩

abbrev hbmTy0_3 (i : Nat) : BufTy := match i % 128 with
  | 0 => ⟨S2x1000, .f32⟩
  | 1 => ⟨S2x1000, .i32⟩
  | 2 => ⟨S_, .i32⟩
  | 3 => ⟨S2x1000, .i32⟩
  | 4 => ⟨S2x1000, .i1⟩
  | 5 => ⟨S_, .i32⟩
  | 6 => ⟨S2x1000, .i32⟩
  | 7 => ⟨S2x1000, .i32⟩
  | 8 => ⟨S2x1000, .i32⟩
  | 9 => ⟨S2x1000x1, .i32⟩
  | 10 => ⟨S1, .i32⟩
  | 11 => ⟨S_, .i32⟩
  | 12 => ⟨S2x1000x1, .i32⟩
  | 13 => ⟨S2x1000x1, .i1⟩
  | 14 => ⟨S1x1x1, .i32⟩
  | 15 => ⟨S2x1000x1, .i32⟩
  | 16 => ⟨S2x1000x1, .i1⟩
  | 17 => ⟨S2x1000x1, .i1⟩
  | 18 => ⟨S_, .i1⟩
  | 19 => ⟨S2x1000, .i1⟩
  | 20 => ⟨S2x1000x4, .f32⟩
  | 21 => ⟨S2x1000x4, .i1⟩
  | 22 => ⟨S_, .f32⟩
  | 23 => ⟨S2x1000x4, .f32⟩
  | 24 => ⟨S2x1000x4, .f32⟩
  | _ => ⟨S2x16000x15, .f32⟩

abbrev hbmTy (i : Nat) : BufTy := match i / 128 with
  | 0 => hbmTy0_0 i
  | 1 => hbmTy0_1 i
  | 2 => hbmTy0_2 i
  | 3 => hbmTy0_3 i
  | _ => ⟨S2x16000x15, .f32⟩

abbrev bufTy : (tb : Table) → Fin (tcTables nBuf tb) → BufTy
  | .hbm, ⟨i, _⟩ => hbmTy i
  | _, _ => ⟨S2x16000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_values : Ref sig .tc := ⟨.hbm, 32, rfl⟩
abbrev main_indices : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v36 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_4 : Ref sig .tc := ⟨.hbm, 100, rfl⟩
abbrev main_v46 : Ref sig .tc := ⟨.hbm, 101, rfl⟩
abbrev main_v47 : Ref sig .tc := ⟨.hbm, 102, rfl⟩
abbrev main_cst_5 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_cst_6 : Ref sig .tc := ⟨.hbm, 116, rfl⟩
abbrev main_v60 : Ref sig .tc := ⟨.hbm, 117, rfl⟩
abbrev main_v61 : Ref sig .tc := ⟨.hbm, 118, rfl⟩
abbrev main_cst_7 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_cst_8 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_cst_9 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_10 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_11 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_call2_c : Ref sig .tc := ⟨.hbm, 153, rfl⟩
abbrev main_call2_v0 : Ref sig .tc := ⟨.hbm, 154, rfl⟩
abbrev main_call2_v1 : Ref sig .tc := ⟨.hbm, 155, rfl⟩
abbrev main_call2_c_0 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_call2_v5 : Ref sig .tc := ⟨.hbm, 160, rfl⟩
abbrev main_call2_c_1 : Ref sig .tc := ⟨.hbm, 161, rfl⟩
abbrev main_call2_c_2 : Ref sig .tc := ⟨.hbm, 162, rfl⟩
abbrev main_call2_v6 : Ref sig .tc := ⟨.hbm, 163, rfl⟩
abbrev main_call2_v7 : Ref sig .tc := ⟨.hbm, 164, rfl⟩
abbrev main_call2_v8 : Ref sig .tc := ⟨.hbm, 165, rfl⟩
abbrev main_call2_v9 : Ref sig .tc := ⟨.hbm, 166, rfl⟩
abbrev main_call2_v10 : Ref sig .tc := ⟨.hbm, 167, rfl⟩
abbrev main_call2_v11 : Ref sig .tc := ⟨.hbm, 168, rfl⟩
abbrev main_call2_c_3 : Ref sig .tc := ⟨.hbm, 169, rfl⟩
abbrev main_call2_v12 : Ref sig .tc := ⟨.hbm, 170, rfl⟩
abbrev main_call2_v13 : Ref sig .tc := ⟨.hbm, 171, rfl⟩
abbrev main_call2_cst : Ref sig .tc := ⟨.hbm, 172, rfl⟩
abbrev main_call2_v14 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_cst_12 : Ref sig .tc := ⟨.hbm, 178, rfl⟩
abbrev main_cst_13 : Ref sig .tc := ⟨.hbm, 179, rfl⟩
abbrev main_call3_v0 : Ref sig .tc := ⟨.hbm, 180, rfl⟩
abbrev main_call3_v1 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_cst_14 : Ref sig .tc := ⟨.hbm, 188, rfl⟩
abbrev main_cst_15 : Ref sig .tc := ⟨.hbm, 189, rfl⟩
abbrev main_call4_v0 : Ref sig .tc := ⟨.hbm, 190, rfl⟩
abbrev main_call4_v1 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_cst_16 : Ref sig .tc := ⟨.hbm, 198, rfl⟩
abbrev main_cst_17 : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_cst_18 : Ref sig .tc := ⟨.hbm, 208, rfl⟩
abbrev main_cst_19 : Ref sig .tc := ⟨.hbm, 209, rfl⟩
abbrev main_call6_v0 : Ref sig .tc := ⟨.hbm, 210, rfl⟩
abbrev main_call6_v1 : Ref sig .tc := ⟨.hbm, 211, rfl⟩
abbrev main_call6_v2 : Ref sig .tc := ⟨.hbm, 212, rfl⟩
abbrev main_call6_v3 : Ref sig .tc := ⟨.hbm, 213, rfl⟩
abbrev main_call6_v4 : Ref sig .tc := ⟨.hbm, 214, rfl⟩
abbrev main_v104 : Ref sig .tc := ⟨.hbm, 215, rfl⟩
abbrev main_v105 : Ref sig .tc := ⟨.hbm, 216, rfl⟩
abbrev main_cst_20 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩
abbrev main_cst_21 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_cst_22 : Ref sig .tc := ⟨.hbm, 225, rfl⟩
abbrev main_call7_v0 : Ref sig .tc := ⟨.hbm, 226, rfl⟩
abbrev main_call7_v1 : Ref sig .tc := ⟨.hbm, 227, rfl⟩
abbrev main_call7_v2 : Ref sig .tc := ⟨.hbm, 228, rfl⟩
abbrev main_v112 : Ref sig .tc := ⟨.hbm, 229, rfl⟩
abbrev main_v113 : Ref sig .tc := ⟨.hbm, 230, rfl⟩
abbrev main_call8_v0 : Ref sig .tc := ⟨.hbm, 231, rfl⟩
abbrev main_call8_v1 : Ref sig .tc := ⟨.hbm, 232, rfl⟩
abbrev main_call8_v2_0 : Ref sig .tc := ⟨.hbm, 233, rfl⟩
abbrev main_v114 : Ref sig .tc := ⟨.hbm, 234, rfl⟩
abbrev main_call9_c : Ref sig .tc := ⟨.hbm, 235, rfl⟩
abbrev main_call9_v0 : Ref sig .tc := ⟨.hbm, 236, rfl⟩
abbrev main_call9_v1 : Ref sig .tc := ⟨.hbm, 237, rfl⟩
abbrev main_call9_c_0 : Ref sig .tc := ⟨.hbm, 238, rfl⟩
abbrev main_call9_v2 : Ref sig .tc := ⟨.hbm, 239, rfl⟩
abbrev main_call9_v3 : Ref sig .tc := ⟨.hbm, 240, rfl⟩
abbrev main_call9_v4 : Ref sig .tc := ⟨.hbm, 241, rfl⟩
abbrev main_call9_v5 : Ref sig .tc := ⟨.hbm, 242, rfl⟩
abbrev main_call9_c_1 : Ref sig .tc := ⟨.hbm, 243, rfl⟩
abbrev main_call9_c_2 : Ref sig .tc := ⟨.hbm, 244, rfl⟩
abbrev main_call9_v6 : Ref sig .tc := ⟨.hbm, 245, rfl⟩
abbrev main_call9_v7 : Ref sig .tc := ⟨.hbm, 246, rfl⟩
abbrev main_call9_v8 : Ref sig .tc := ⟨.hbm, 247, rfl⟩
abbrev main_call9_v9 : Ref sig .tc := ⟨.hbm, 248, rfl⟩
abbrev main_call9_v10 : Ref sig .tc := ⟨.hbm, 249, rfl⟩
abbrev main_call9_v11 : Ref sig .tc := ⟨.hbm, 250, rfl⟩
abbrev main_call9_c_3 : Ref sig .tc := ⟨.hbm, 251, rfl⟩
abbrev main_call9_v12 : Ref sig .tc := ⟨.hbm, 252, rfl⟩
abbrev main_call9_v13 : Ref sig .tc := ⟨.hbm, 253, rfl⟩
abbrev main_call9_v14 : Ref sig .tc := ⟨.hbm, 254, rfl⟩
abbrev main_call9_cst : Ref sig .tc := ⟨.hbm, 255, rfl⟩
abbrev main_call9_v15 : Ref sig .tc := ⟨.hbm, 256, rfl⟩
abbrev main_v115 : Ref sig .tc := ⟨.hbm, 257, rfl⟩
abbrev main_call10_c : Ref sig .tc := ⟨.hbm, 258, rfl⟩
abbrev main_call10_v0 : Ref sig .tc := ⟨.hbm, 259, rfl⟩
abbrev main_call10_v1 : Ref sig .tc := ⟨.hbm, 260, rfl⟩
abbrev main_call10_c_0 : Ref sig .tc := ⟨.hbm, 261, rfl⟩
abbrev main_call10_v2 : Ref sig .tc := ⟨.hbm, 262, rfl⟩
abbrev main_call10_v3 : Ref sig .tc := ⟨.hbm, 263, rfl⟩
abbrev main_call10_v4 : Ref sig .tc := ⟨.hbm, 264, rfl⟩
abbrev main_call10_v5 : Ref sig .tc := ⟨.hbm, 265, rfl⟩
abbrev main_call10_c_1 : Ref sig .tc := ⟨.hbm, 266, rfl⟩
abbrev main_call10_c_2 : Ref sig .tc := ⟨.hbm, 267, rfl⟩
abbrev main_call10_v6 : Ref sig .tc := ⟨.hbm, 268, rfl⟩
abbrev main_call10_v7 : Ref sig .tc := ⟨.hbm, 269, rfl⟩
abbrev main_call10_v8 : Ref sig .tc := ⟨.hbm, 270, rfl⟩
abbrev main_call10_v9 : Ref sig .tc := ⟨.hbm, 271, rfl⟩
abbrev main_call10_v10 : Ref sig .tc := ⟨.hbm, 272, rfl⟩
abbrev main_call10_v11 : Ref sig .tc := ⟨.hbm, 273, rfl⟩
abbrev main_call10_c_3 : Ref sig .tc := ⟨.hbm, 274, rfl⟩
abbrev main_call10_v12 : Ref sig .tc := ⟨.hbm, 275, rfl⟩
abbrev main_call10_v13 : Ref sig .tc := ⟨.hbm, 276, rfl⟩
abbrev main_call10_cst : Ref sig .tc := ⟨.hbm, 277, rfl⟩
abbrev main_call10_v14 : Ref sig .tc := ⟨.hbm, 278, rfl⟩
abbrev main_v116 : Ref sig .tc := ⟨.hbm, 279, rfl⟩
abbrev main_v117 : Ref sig .tc := ⟨.hbm, 280, rfl⟩
abbrev main_v118 : Ref sig .tc := ⟨.hbm, 281, rfl⟩
abbrev main_v119 : Ref sig .tc := ⟨.hbm, 282, rfl⟩
abbrev main_v120 : Ref sig .tc := ⟨.hbm, 283, rfl⟩
abbrev main_v121 : Ref sig .tc := ⟨.hbm, 284, rfl⟩
abbrev main_v122 : Ref sig .tc := ⟨.hbm, 285, rfl⟩
abbrev main_v123 : Ref sig .tc := ⟨.hbm, 286, rfl⟩
abbrev main_v124 : Ref sig .tc := ⟨.hbm, 287, rfl⟩
abbrev main_v125 : Ref sig .tc := ⟨.hbm, 288, rfl⟩
abbrev main_cst_23 : Ref sig .tc := ⟨.hbm, 289, rfl⟩
abbrev main_v126 : Ref sig .tc := ⟨.hbm, 290, rfl⟩
abbrev main_v127 : Ref sig .tc := ⟨.hbm, 291, rfl⟩
abbrev main_v128 : Ref sig .tc := ⟨.hbm, 292, rfl⟩
abbrev main_cst_24 : Ref sig .tc := ⟨.hbm, 293, rfl⟩
abbrev main_v129 : Ref sig .tc := ⟨.hbm, 294, rfl⟩
abbrev main_v130 : Ref sig .tc := ⟨.hbm, 295, rfl⟩
abbrev main_v131 : Ref sig .tc := ⟨.hbm, 296, rfl⟩
abbrev main_v132 : Ref sig .tc := ⟨.hbm, 297, rfl⟩
abbrev main_v133 : Ref sig .tc := ⟨.hbm, 298, rfl⟩
abbrev main_v134 : Ref sig .tc := ⟨.hbm, 299, rfl⟩
abbrev main_v135 : Ref sig .tc := ⟨.hbm, 300, rfl⟩
abbrev main_v136 : Ref sig .tc := ⟨.hbm, 301, rfl⟩
abbrev main_v137 : Ref sig .tc := ⟨.hbm, 302, rfl⟩
abbrev main_v138 : Ref sig .tc := ⟨.hbm, 303, rfl⟩
abbrev main_v139 : Ref sig .tc := ⟨.hbm, 304, rfl⟩
abbrev main_v140 : Ref sig .tc := ⟨.hbm, 305, rfl⟩
abbrev main_v141 : Ref sig .tc := ⟨.hbm, 306, rfl⟩
abbrev main_v142 : Ref sig .tc := ⟨.hbm, 307, rfl⟩
abbrev main_v143 : Ref sig .tc := ⟨.hbm, 308, rfl⟩
abbrev main_v144 : Ref sig .tc := ⟨.hbm, 309, rfl⟩
abbrev main_v145 : Ref sig .tc := ⟨.hbm, 310, rfl⟩
abbrev main_v146 : Ref sig .tc := ⟨.hbm, 311, rfl⟩
abbrev main_v147 : Ref sig .tc := ⟨.hbm, 312, rfl⟩
abbrev main_v148 : Ref sig .tc := ⟨.hbm, 313, rfl⟩
abbrev main_v149 : Ref sig .tc := ⟨.hbm, 314, rfl⟩
abbrev main_v150 : Ref sig .tc := ⟨.hbm, 315, rfl⟩
abbrev main_v151 : Ref sig .tc := ⟨.hbm, 316, rfl⟩
abbrev main_v152 : Ref sig .tc := ⟨.hbm, 317, rfl⟩
abbrev main_cst_25 : Ref sig .tc := ⟨.hbm, 318, rfl⟩
abbrev main_v153 : Ref sig .tc := ⟨.hbm, 319, rfl⟩
abbrev main_v154 : Ref sig .tc := ⟨.hbm, 320, rfl⟩
abbrev main_v155 : Ref sig .tc := ⟨.hbm, 321, rfl⟩
abbrev main_cst_26 : Ref sig .tc := ⟨.hbm, 322, rfl⟩
abbrev main_v156 : Ref sig .tc := ⟨.hbm, 323, rfl⟩
abbrev main_v157 : Ref sig .tc := ⟨.hbm, 324, rfl⟩
abbrev main_v158 : Ref sig .tc := ⟨.hbm, 325, rfl⟩
abbrev main_v159 : Ref sig .tc := ⟨.hbm, 326, rfl⟩
abbrev main_v160 : Ref sig .tc := ⟨.hbm, 327, rfl⟩
abbrev main_v161 : Ref sig .tc := ⟨.hbm, 328, rfl⟩
abbrev main_v162 : Ref sig .tc := ⟨.hbm, 329, rfl⟩
abbrev main_v163 : Ref sig .tc := ⟨.hbm, 330, rfl⟩
abbrev main_v164 : Ref sig .tc := ⟨.hbm, 331, rfl⟩
abbrev main_cst_27 : Ref sig .tc := ⟨.hbm, 332, rfl⟩
abbrev main_v165 : Ref sig .tc := ⟨.hbm, 333, rfl⟩
abbrev main_v166 : Ref sig .tc := ⟨.hbm, 334, rfl⟩
abbrev main_v167 : Ref sig .tc := ⟨.hbm, 335, rfl⟩
abbrev main_v168 : Ref sig .tc := ⟨.hbm, 336, rfl⟩
abbrev main_c_28 : Ref sig .tc := ⟨.hbm, 337, rfl⟩
abbrev main_v169 : Ref sig .tc := ⟨.hbm, 338, rfl⟩
abbrev main_c_29 : Ref sig .tc := ⟨.hbm, 339, rfl⟩
abbrev main_v170_0 : Ref sig .tc := ⟨.hbm, 340, rfl⟩
abbrev main_v170_1 : Ref sig .tc := ⟨.hbm, 341, rfl⟩
abbrev main_v170_2 : Ref sig .tc := ⟨.hbm, 342, rfl⟩
abbrev main_v170_3 : Ref sig .tc := ⟨.hbm, 343, rfl⟩
abbrev main_v170_4 : Ref sig .tc := ⟨.hbm, 344, rfl⟩
abbrev main_while0c_c_37 : Ref sig .tc := ⟨.hbm, 345, rfl⟩
abbrev main_while0c_v173 : Ref sig .tc := ⟨.hbm, 346, rfl⟩
abbrev main_while0b_call11_v0 : Ref sig .tc := ⟨.hbm, 347, rfl⟩
abbrev main_while0b_v173 : Ref sig .tc := ⟨.hbm, 348, rfl⟩
abbrev main_while0b_call12_c : Ref sig .tc := ⟨.hbm, 349, rfl⟩
abbrev main_while0b_call12_v0 : Ref sig .tc := ⟨.hbm, 350, rfl⟩
abbrev main_while0b_call12_c_0 : Ref sig .tc := ⟨.hbm, 351, rfl⟩
abbrev main_while0b_call12_v1 : Ref sig .tc := ⟨.hbm, 352, rfl⟩
abbrev main_while0b_call12_v2 : Ref sig .tc := ⟨.hbm, 353, rfl⟩
abbrev main_while0b_call12_c_1 : Ref sig .tc := ⟨.hbm, 354, rfl⟩
abbrev main_while0b_call12_c_2 : Ref sig .tc := ⟨.hbm, 355, rfl⟩
abbrev main_while0b_call12_v3 : Ref sig .tc := ⟨.hbm, 356, rfl⟩
abbrev main_while0b_v174 : Ref sig .tc := ⟨.hbm, 357, rfl⟩
abbrev main_while0b_call13_c : Ref sig .tc := ⟨.hbm, 358, rfl⟩
abbrev main_while0b_call13_v0 : Ref sig .tc := ⟨.hbm, 359, rfl⟩
abbrev main_while0b_call13_c_0 : Ref sig .tc := ⟨.hbm, 360, rfl⟩
abbrev main_while0b_call13_v1 : Ref sig .tc := ⟨.hbm, 361, rfl⟩
abbrev main_while0b_call13_v2 : Ref sig .tc := ⟨.hbm, 362, rfl⟩
abbrev main_while0b_call13_c_1 : Ref sig .tc := ⟨.hbm, 363, rfl⟩
abbrev main_while0b_v175 : Ref sig .tc := ⟨.hbm, 364, rfl⟩
abbrev main_while0b_cst_37 : Ref sig .tc := ⟨.hbm, 365, rfl⟩
abbrev main_while0b_v176 : Ref sig .tc := ⟨.hbm, 366, rfl⟩
abbrev main_while0b_v177 : Ref sig .tc := ⟨.hbm, 367, rfl⟩
abbrev main_while0b_v178 : Ref sig .tc := ⟨.hbm, 368, rfl⟩
abbrev main_while0b_v179 : Ref sig .tc := ⟨.hbm, 369, rfl⟩
abbrev main_while0b_v180 : Ref sig .tc := ⟨.hbm, 370, rfl⟩
abbrev main_while0b_v181 : Ref sig .tc := ⟨.hbm, 371, rfl⟩
abbrev main_while0b_v182 : Ref sig .tc := ⟨.hbm, 372, rfl⟩
abbrev main_while0b_v183 : Ref sig .tc := ⟨.hbm, 373, rfl⟩
abbrev main_while0b_v184 : Ref sig .tc := ⟨.hbm, 374, rfl⟩
abbrev main_while0b_v185 : Ref sig .tc := ⟨.hbm, 375, rfl⟩
abbrev main_while0b_v186 : Ref sig .tc := ⟨.hbm, 376, rfl⟩
abbrev main_while0b_c_38 : Ref sig .tc := ⟨.hbm, 377, rfl⟩
abbrev main_while0b_v187 : Ref sig .tc := ⟨.hbm, 378, rfl⟩
abbrev main_cst_30 : Ref sig .tc := ⟨.hbm, 379, rfl⟩
abbrev main_call14_v0 : Ref sig .tc := ⟨.hbm, 380, rfl⟩
abbrev main_call14_v1 : Ref sig .tc := ⟨.hbm, 381, rfl⟩
abbrev main_call14_v2 : Ref sig .tc := ⟨.hbm, 382, rfl⟩
abbrev main_v171 : Ref sig .tc := ⟨.hbm, 383, rfl⟩
abbrev main_values_31 : Ref sig .tc := ⟨.hbm, 384, rfl⟩
abbrev main_indices_32 : Ref sig .tc := ⟨.hbm, 385, rfl⟩
abbrev main_call15_c : Ref sig .tc := ⟨.hbm, 386, rfl⟩
abbrev main_call15_v0 : Ref sig .tc := ⟨.hbm, 387, rfl⟩
abbrev main_call15_v1 : Ref sig .tc := ⟨.hbm, 388, rfl⟩
abbrev main_call15_c_0 : Ref sig .tc := ⟨.hbm, 389, rfl⟩
abbrev main_call15_v2 : Ref sig .tc := ⟨.hbm, 390, rfl⟩
abbrev main_call15_v3 : Ref sig .tc := ⟨.hbm, 391, rfl⟩
abbrev main_call15_v4 : Ref sig .tc := ⟨.hbm, 392, rfl⟩
abbrev main_call15_v5 : Ref sig .tc := ⟨.hbm, 393, rfl⟩
abbrev main_call15_c_1 : Ref sig .tc := ⟨.hbm, 394, rfl⟩
abbrev main_call15_c_2 : Ref sig .tc := ⟨.hbm, 395, rfl⟩
abbrev main_call15_v6 : Ref sig .tc := ⟨.hbm, 396, rfl⟩
abbrev main_call15_v7 : Ref sig .tc := ⟨.hbm, 397, rfl⟩
abbrev main_call15_v8 : Ref sig .tc := ⟨.hbm, 398, rfl⟩
abbrev main_call15_v9 : Ref sig .tc := ⟨.hbm, 399, rfl⟩
abbrev main_call15_v10 : Ref sig .tc := ⟨.hbm, 400, rfl⟩
abbrev main_call15_v11 : Ref sig .tc := ⟨.hbm, 401, rfl⟩
abbrev main_call15_c_3 : Ref sig .tc := ⟨.hbm, 402, rfl⟩
abbrev main_call15_v12 : Ref sig .tc := ⟨.hbm, 403, rfl⟩
abbrev main_call15_v13 : Ref sig .tc := ⟨.hbm, 404, rfl⟩
abbrev main_call15_v14 : Ref sig .tc := ⟨.hbm, 405, rfl⟩
abbrev main_call15_cst : Ref sig .tc := ⟨.hbm, 406, rfl⟩
abbrev main_call15_v15 : Ref sig .tc := ⟨.hbm, 407, rfl⟩
abbrev main_v172 : Ref sig .tc := ⟨.hbm, 408, rfl⟩

abbrev nD : Nat := 1
abbrev τ : Topo := Topo.v7x

variable {F : FTy → Type} [FloatOps F]

abbrev main_while0_count : Scf.Loop 32 := ⟨0#32, 2000#32, 1#32⟩
-- ==== Heads.lean ====
abbrev S2x256x100x160 : Shape := ⟨4, ![2, 256, 100, 160]⟩
abbrev S15x256 : Shape := ⟨2, ![15, 256]⟩
abbrev S15 : Shape := ⟨1, ![15]⟩
abbrev S60x256 : Shape := ⟨2, ![60, 256]⟩
abbrev S60 : Shape := ⟨1, ![60]⟩
abbrev S2x256x16000 : Shape := ⟨3, ![2, 256, 16000]⟩
abbrev S1x15 : Shape := ⟨2, ![1, 15]⟩
abbrev S1x60 : Shape := ⟨2, ![1, 60]⟩
abbrev S2x16000x15 : Shape := ⟨3, ![2, 16000, 15]⟩
abbrev S2x16000x60 : Shape := ⟨3, ![2, 16000, 60]⟩
abbrev S1x256x3200 : Shape := ⟨3, ![1, 256, 3200]⟩
abbrev S1x3200x15 : Shape := ⟨3, ![1, 3200, 15]⟩
abbrev S1x3200x60 : Shape := ⟨3, ![1, 3200, 60]⟩
abbrev S256x3200 : Shape := ⟨2, ![256, 3200]⟩
abbrev S3200x15 : Shape := ⟨2, ![3200, 15]⟩
abbrev S3200x60 : Shape := ⟨2, ![3200, 60]⟩

abbrev nBuf : Space → Nat
  | .hbm => 10
  | .vmem => 10
  | .smem => 0
  | _ => 0

abbrev bufTy : (tb : Table) → Fin (tcTables nBuf tb) → BufTy
  | .hbm, ⟨0, _⟩ => ⟨S2x256x100x160, .f32⟩
  | .hbm, ⟨1, _⟩ => ⟨S15x256, .f32⟩
  | .hbm, ⟨2, _⟩ => ⟨S15, .f32⟩
  | .hbm, ⟨3, _⟩ => ⟨S60x256, .f32⟩
  | .hbm, ⟨4, _⟩ => ⟨S60, .f32⟩
  | .hbm, ⟨5, _⟩ => ⟨S2x256x16000, .f32⟩
  | .hbm, ⟨6, _⟩ => ⟨S1x15, .f32⟩
  | .hbm, ⟨7, _⟩ => ⟨S1x60, .f32⟩
  | .hbm, ⟨8, _⟩ => ⟨S2x16000x15, .f32⟩
  | .hbm, ⟨9, _⟩ => ⟨S2x16000x60, .f32⟩
  | .local _ .vmem, ⟨0, _⟩ => ⟨S1x256x3200, .f32⟩
  | .local _ .vmem, ⟨1, _⟩ => ⟨S1x256x3200, .f32⟩
  | .local _ .vmem, ⟨2, _⟩ => ⟨S15x256, .f32⟩
  | .local _ .vmem, ⟨3, _⟩ => ⟨S1x15, .f32⟩
  | .local _ .vmem, ⟨4, _⟩ => ⟨S60x256, .f32⟩
  | .local _ .vmem, ⟨5, _⟩ => ⟨S1x60, .f32⟩
  | .local _ .vmem, ⟨6, _⟩ => ⟨S1x3200x15, .f32⟩
  | .local _ .vmem, ⟨7, _⟩ => ⟨S1x3200x15, .f32⟩
  | .local _ .vmem, ⟨8, _⟩ => ⟨S1x3200x60, .f32⟩
  | .local _ .vmem, ⟨9, _⟩ => ⟨S1x3200x60, .f32⟩
  | _, _ => ⟨S2x256x100x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S15x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S60x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x60 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3200x15 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3200x60 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HeadsRefIdeal.lean ====
abbrev S2x256x100x160 : Shape := ⟨4, ![2, 256, 100, 160]⟩
abbrev S15x256 : Shape := ⟨2, ![15, 256]⟩
abbrev S15 : Shape := ⟨1, ![15]⟩
abbrev S60x256 : Shape := ⟨2, ![60, 256]⟩
abbrev S60 : Shape := ⟨1, ![60]⟩
abbrev S15x2x100x160 : Shape := ⟨4, ![15, 2, 100, 160]⟩
abbrev S2x15x100x160 : Shape := ⟨4, ![2, 15, 100, 160]⟩
abbrev S1x15x1x1 : Shape := ⟨4, ![1, 15, 1, 1]⟩
abbrev S60x2x100x160 : Shape := ⟨4, ![60, 2, 100, 160]⟩
abbrev S2x60x100x160 : Shape := ⟨4, ![2, 60, 100, 160]⟩
abbrev S1x60x1x1 : Shape := ⟨4, ![1, 60, 1, 1]⟩
abbrev S2x100x160x15 : Shape := ⟨4, ![2, 100, 160, 15]⟩
abbrev S2x16000x15 : Shape := ⟨3, ![2, 16000, 15]⟩
abbrev S2x100x160x60 : Shape := ⟨4, ![2, 100, 160, 60]⟩
abbrev S2x16000x60 : Shape := ⟨3, ![2, 16000, 60]⟩

abbrev nBuf : Space → Nat
  | .hbm => 19
  | .vmem => 0
  | .smem => 0
  | _ => 0

abbrev bufTy : (tb : Table) → Fin (tcTables nBuf tb) → BufTy
  | .hbm, ⟨0, _⟩ => ⟨S2x256x100x160, .f32⟩
  | .hbm, ⟨1, _⟩ => ⟨S15x256, .f32⟩
  | .hbm, ⟨2, _⟩ => ⟨S15, .f32⟩
  | .hbm, ⟨3, _⟩ => ⟨S60x256, .f32⟩
  | .hbm, ⟨4, _⟩ => ⟨S60, .f32⟩
  | .hbm, ⟨5, _⟩ => ⟨S15x2x100x160, .f32⟩
  | .hbm, ⟨6, _⟩ => ⟨S2x15x100x160, .f32⟩
  | .hbm, ⟨7, _⟩ => ⟨S1x15x1x1, .f32⟩
  | .hbm, ⟨8, _⟩ => ⟨S2x15x100x160, .f32⟩
  | .hbm, ⟨9, _⟩ => ⟨S2x15x100x160, .f32⟩
  | .hbm, ⟨10, _⟩ => ⟨S60x2x100x160, .f32⟩
  | .hbm, ⟨11, _⟩ => ⟨S2x60x100x160, .f32⟩
  | .hbm, ⟨12, _⟩ => ⟨S1x60x1x1, .f32⟩
  | .hbm, ⟨13, _⟩ => ⟨S2x60x100x160, .f32⟩
  | .hbm, ⟨14, _⟩ => ⟨S2x60x100x160, .f32⟩
  | .hbm, ⟨15, _⟩ => ⟨S2x100x160x15, .f32⟩
  | .hbm, ⟨16, _⟩ => ⟨S2x16000x15, .f32⟩
  | .hbm, ⟨17, _⟩ => ⟨S2x100x160x60, .f32⟩
  | .hbm, ⟨18, _⟩ => ⟨S2x16000x60, .f32⟩
  | _, _ => ⟨S2x256x100x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.HeadsArray.lean ====
/- Hand-written, untrusted: the two arrays that the heads call writes, as functions of the arrays it reads, at the ideal
   values. A grid point `(b, t)` takes the 3200 pixels `3200 t …` of image `b`; row `r` of its block is the products of
   that pixel's 256 channels with the weights, summed, plus the bias. The ten blocks tile the arrays, so each array is
   the same formula at every pixel. -/
module

public import proofs.«01_k».proof.Proof.Gen.HeadsIdeal.Value
public import Idealize.ShloMosaic.Lib.Pointwise

@[expose] public section

noncomputable section

namespace Cert.Proof.HeadsArray

open Cert.HeadsIdeal Cert.HeadsIdeal.Gen Cert.HeadsIdeal.Value Idealize.ShloMosaic Idealize.ShloMosaic.TcCoe Idealize.SL.Sem
open scoped BigOperators

/-- A head's result: at image `b`, pixel `p` and output channel `a`, the channels' products summed plus the bias. -/
def head {N : Nat} (f : (⟨3, ![2, 256, 16000]⟩ : Shape).Idx → EReal) (w : (⟨2, ![N, 256]⟩ : Shape).Idx → EReal)
    (b : (⟨2, ![1, N]⟩ : Shape).Idx → EReal) (i : (⟨3, ![2, 16000, N]⟩ : Shape).Idx) : EReal :=
  (∑ k : Fin 256, f (ix3 (i 0) k (i 1)) * w (ix2 (i 2) k)) + b (ix2 0 (i 2))

/-- The scores' store at a row and a channel of the block. -/
theorem pay2_apply (x : Vec Ideal S1x256x3200 .f32) (w : Vec Ideal S15x256 .f32) (b : Vec Ideal S1x15 .f32) (y : S1x3200x15.Idx) :
    k0_pay2 (F := Ideal) x w b y = (∑ k : Fin 256, x (ix3 0 k (y 1)) * w (ix2 (y 2) k)) + b (ix2 0 (y 2)) := by
  pointwise [k0_pay2, k0_pay1, dot_S256x3200_S15x256_S3200x15_0_1_1_0_n_n]

/-- The regressions' store at a row and a channel of the block. -/
theorem pay3_apply (x : Vec Ideal S1x256x3200 .f32) (w : Vec Ideal S60x256 .f32) (b : Vec Ideal S1x60 .f32) (y : S1x3200x60.Idx) :
    k0_pay3 (F := Ideal) x w b y = (∑ k : Fin 256, x (ix3 0 k (y 1)) * w (ix2 (y 2) k)) + b (ix2 0 (y 2)) := by
  pointwise [k0_pay3, k0_pay1, dot_S256x3200_S60x256_S3200x60_0_1_1_0_n_n]

theorem z3 : (![0, 0, 0] : Fin 3 → Nat) = fun _ => 0 := funext fun a => by fin_cases a <;> rfl
theorem z2 : (![0, 0] : Fin 2 → Nat) = fun _ => 0 := funext fun a => by fin_cases a <;> rfl

variable (m : (ℓ : Loc nD τ sig) → Buf (Elt Ideal) ℓ)

/-- Where the windows' blocks lie: the features' and the results' move together, image by image and tile by tile; the
    weights and the biases stay. -/
theorem idx_facts : ∀ t : Fin cfg0.N,
    win0_0.index t (0 : Fin 3) = win0_5.index t (0 : Fin 3) ∧ win0_0.index t (1 : Fin 3) = 0
    ∧ win0_0.index t (2 : Fin 3) = win0_5.index t (1 : Fin 3) ∧ win0_5.index t (2 : Fin 3) = 0
    ∧ win0_6.index t (0 : Fin 3) = win0_5.index t (0 : Fin 3) ∧ win0_6.index t (1 : Fin 3) = win0_5.index t (1 : Fin 3)
    ∧ win0_6.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0 :=
  (by decide +kernel : ∀ t : Fin grid0.N, _)

/-- Every image and tile is some point's. -/
theorem idx_onto : ∀ (b : Fin 2) (p : Fin 5), ∃ t : Fin cfg0.N, win0_5.index t = ![b.val, p.val, 0] ∧ win0_6.index t = ![b.val, p.val, 0] :=
  (by decide +kernel : ∀ (b : Fin 2) (p : Fin 5), ∃ t : Fin grid0.N, _)

/-- What a point writes back of the scores is its block of `head`. -/
theorem flushed5_eq (c : Dev nD) (t : Fin cfg0.N) :
    (dats m 0 c).flushed 5 t
      = ((cfg0.win 5).blk t).view.read (Elt Ideal) (head (N := 15) (V m c main_v0) (V m c main_arg1) (V m c main_v1)) := by
  rw [flushed5]
  unfold out0_5
  rw [View.canon_unit_zero z3, View.ld_unit_zero z3, View.ld_unit_zero z2, View.ld_unit_zero z2]
  obtain ⟨e0, e1, e2, e3, -, -, -, e4, e5, e6, e7, -⟩ := idx_facts t
  funext y
  show k0_pay2 (iblk m c 0 t) (iblk m c 1 t) (iblk m c 2 t) y = head _ _ _ (((cfg0.win 5).blk t).view.emb y)
  rw [pay2_apply]
  unfold head
  have h0 : (y 0).val = 0 := by have := (y 0).isLt; change _ < 1 at this; omega
  have hx : ∀ k : Fin 256, ((cfg0.win 0).blk t).view.emb (ix3 0 k (y 1))
      = ix3 ((((cfg0.win 5).blk t).view.emb y) 0) k ((((cfg0.win 5).blk t).view.emb y) 1) := by
    intro k; funext a; apply Fin.ext
    match a with
    | ⟨0, _⟩ => show win0_0.index t (0 : Fin 3) * 1 + 1 * 0 = win0_5.index t (0 : Fin 3) * 1 + 1 * (y 0).val; omega
    | ⟨1, _⟩ => show win0_0.index t (1 : Fin 3) * 256 + 1 * k.val = k.val; omega
    | ⟨2, _⟩ => show win0_0.index t (2 : Fin 3) * 3200 + 1 * (y 1).val = win0_5.index t (1 : Fin 3) * 3200 + 1 * (y 1).val; omega
  have hw : ∀ k : Fin 256, ((cfg0.win 1).blk t).view.emb (ix2 (y 2) k) = ix2 ((((cfg0.win 5).blk t).view.emb y) 2) k := by
    intro k; funext a; apply Fin.ext
    match a with
    | ⟨0, _⟩ => show win0_1.index t (0 : Fin 2) * 15 + 1 * (y 2).val = win0_5.index t (2 : Fin 3) * 15 + 1 * (y 2).val; omega
    | ⟨1, _⟩ => show win0_1.index t (1 : Fin 2) * 256 + 1 * k.val = k.val; omega
  have hb : ((cfg0.win 2).blk t).view.emb (ix2 0 (y 2)) = ix2 0 ((((cfg0.win 5).blk t).view.emb y) 2) := by
    funext a; apply Fin.ext
    match a with
    | ⟨0, _⟩ => show win0_2.index t (0 : Fin 2) * 1 + 1 * 0 = 0; omega
    | ⟨1, _⟩ => show win0_2.index t (1 : Fin 2) * 15 + 1 * (y 2).val = win0_5.index t (2 : Fin 3) * 15 + 1 * (y 2).val; omega
  exact congrArg₂ (· + ·) (Finset.sum_congr rfl fun k _ => congrArg₂ (· * ·) (congrArg (V m c main_v0) (hx k))
    (congrArg (V m c main_arg1) (hw k))) (congrArg (V m c main_v1) hb)

/-- What a point writes back of the regressions is its block of `head`. -/
theorem flushed6_eq (c : Dev nD) (t : Fin cfg0.N) :
    (dats m 0 c).flushed 6 t
      = ((cfg0.win 6).blk t).view.read (Elt Ideal) (head (N := 60) (V m c main_v0) (V m c main_arg3) (V m c main_v2)) := by
  rw [flushed6]
  unfold out0_6
  rw [View.canon_unit_zero z3, View.ld_unit_zero z3, View.ld_unit_zero z2, View.ld_unit_zero z2]
  obtain ⟨e0, e1, e2, -, e8, e9, e3, -, -, -, -, e4, e5, e6, e7⟩ := idx_facts t
  funext y
  show k0_pay3 (iblk m c 0 t) (iblk m c 3 t) (iblk m c 4 t) y = head _ _ _ (((cfg0.win 6).blk t).view.emb y)
  rw [pay3_apply]
  unfold head
  have h0 : (y 0).val = 0 := by have := (y 0).isLt; change _ < 1 at this; omega
  have hx : ∀ k : Fin 256, ((cfg0.win 0).blk t).view.emb (ix3 0 k (y 1))
      = ix3 ((((cfg0.win 6).blk t).view.emb y) 0) k ((((cfg0.win 6).blk t).view.emb y) 1) := by
    intro k; funext a; apply Fin.ext
    match a with
    | ⟨0, _⟩ => show win0_0.index t (0 : Fin 3) * 1 + 1 * 0 = win0_6.index t (0 : Fin 3) * 1 + 1 * (y 0).val; omega
    | ⟨1, _⟩ => show win0_0.index t (1 : Fin 3) * 256 + 1 * k.val = k.val; omega
    | ⟨2, _⟩ => show win0_0.index t (2 : Fin 3) * 3200 + 1 * (y 1).val = win0_6.index t (1 : Fin 3) * 3200 + 1 * (y 1).val; omega
  have hw : ∀ k : Fin 256, ((cfg0.win 3).blk t).view.emb (ix2 (y 2) k) = ix2 ((((cfg0.win 6).blk t).view.emb y) 2) k := by
    intro k; funext a; apply Fin.ext
    match a with
    | ⟨0, _⟩ => show win0_3.index t (0 : Fin 2) * 60 + 1 * (y 2).val = win0_6.index t (2 : Fin 3) * 60 + 1 * (y 2).val; omega
    | ⟨1, _⟩ => show win0_3.index t (1 : Fin 2) * 256 + 1 * k.val = k.val; omega
  have hb : ((cfg0.win 4).blk t).view.emb (ix2 0 (y 2)) = ix2 0 ((((cfg0.win 6).blk t).view.emb y) 2) := by
    funext a; apply Fin.ext
    match a with
    | ⟨0, _⟩ => show win0_4.index t (0 : Fin 2) * 1 + 1 * 0 = 0; omega
    | ⟨1, _⟩ => show win0_4.index t (1 : Fin 2) * 60 + 1 * (y 2).val = win0_6.index t (2 : Fin 3) * 60 + 1 * (y 2).val; omega
  exact congrArg₂ (· + ·) (Finset.sum_congr rfl fun k _ => congrArg₂ (· * ·) (congrArg (V m c main_v0) (hx k))
    (congrArg (V m c main_arg3) (hw k))) (congrArg (V m c main_v2) hb)

theorem mem_blk5 (t : Fin cfg0.N) (i : S2x16000x15.Idx) : i ∈ ((cfg0.win 5).blk t).view.set
    ↔ ∀ a : Fin 3, win0_5.index t a * S1x3200x15.size a ≤ i a ∧ (i a : Nat) < win0_5.index t a * S1x3200x15.size a + S1x3200x15.size a := by
  show i ∈ ((View.whole main_v3_0).slice (win0_5.rect t)).set ↔ _
  rw [View.set_slice_whole, Rect.mem_set_unit]; exact Iff.rfl

theorem mem_blk6 (t : Fin cfg0.N) (i : S2x16000x60.Idx) : i ∈ ((cfg0.win 6).blk t).view.set
    ↔ ∀ a : Fin 3, win0_6.index t a * S1x3200x60.size a ≤ i a ∧ (i a : Nat) < win0_6.index t a * S1x3200x60.size a + S1x3200x60.size a := by
  show i ∈ ((View.whole main_v3_1).slice (win0_6.rect t)).set ↔ _
  rw [View.set_slice_whole, Rect.mem_set_unit]; exact Iff.rfl

theorem covered5 (i : S2x16000x15.Idx) : ∃ t : Fin cfg0.N, (cfg0.win 5).flush t = true ∧ i ∈ ((cfg0.win 5).blk t).view.set := by
  have h0 : (i 0).val < 2 := (i 0).isLt
  have h1 : (i 1).val < 16000 := (i 1).isLt
  have h2 : (i 2).val < 15 := (i 2).isLt
  obtain ⟨t, ht, -⟩ := idx_onto ⟨(i 0).val, h0⟩ ⟨(i 1).val / 3200, by omega⟩
  refine ⟨t, flush0_5 t, ?_⟩
  rw [mem_blk5]
  intro a
  rw [ht]
  match a with
  | ⟨0, _⟩ => show (i 0).val * 1 ≤ (i 0).val ∧ (i 0).val < (i 0).val * 1 + 1; omega
  | ⟨1, _⟩ => show (i 1).val / 3200 * 3200 ≤ (i 1).val ∧ (i 1).val < (i 1).val / 3200 * 3200 + 3200; omega
  | ⟨2, _⟩ => show 0 * 15 ≤ (i 2).val ∧ (i 2).val < 0 * 15 + 15; omega

theorem covered6 (i : S2x16000x60.Idx) : ∃ t : Fin cfg0.N, (cfg0.win 6).flush t = true ∧ i ∈ ((cfg0.win 6).blk t).view.set := by
  have h0 : (i 0).val < 2 := (i 0).isLt
  have h1 : (i 1).val < 16000 := (i 1).isLt
  have h2 : (i 2).val < 60 := (i 2).isLt
  obtain ⟨t, -, ht⟩ := idx_onto ⟨(i 0).val, h0⟩ ⟨(i 1).val / 3200, by omega⟩
  refine ⟨t, flush0_6 t, ?_⟩
  rw [mem_blk6]
  intro a
  rw [ht]
  match a with
  | ⟨0, _⟩ => show (i 0).val * 1 ≤ (i 0).val ∧ (i 0).val < (i 0).val * 1 + 1; omega
  | ⟨1, _⟩ => show (i 1).val / 3200 * 3200 ≤ (i 1).val ∧ (i 1).val < (i 1).val / 3200 * 3200 + 3200; omega
  | ⟨2, _⟩ => show 0 * 60 ≤ (i 2).val ∧ (i 2).val < 0 * 60 + 60; omega

/-- The scores after the run. -/
theorem final5 (c : Dev nD) : (dats m 0 c).arrAt 5 cfg0.N = head (N := 15) (V m c main_v0) (V m c main_arg1) (V m c main_v1) :=
  (dats m 0 c).arrAt_eq_of_cover 5 _ (fun t _ => flushed5_eq m c t) covered5

/-- The regressions after the run. -/
theorem final6 (c : Dev nD) : (dats m 0 c).arrAt 6 cfg0.N = head (N := 60) (V m c main_v0) (V m c main_arg3) (V m c main_v2) :=
  (dats m 0 c).arrAt_eq_of_cover 6 _ (fun t _ => flushed6_eq m c t) covered6

end Cert.Proof.HeadsArray

end
-- ==== Proof.HeadsAlgebra.lean ====
/- Hand-written, untrusted: the heads call's two arrays are the reference's, index by index, at the ideal values. The
   call reads the feature map with the two pixel axes laid as one and the biases as rows; the reference contracts the
   channels over the four axes, moves the channel axis last and lays the pixels as one. A product of the sum is written
   the other way round on the other side. -/
module

public import proofs.«01_k».proof.Proof.HeadsArray
public import proofs.«01_k».proof.Proof.Gen.HeadsRefIdeal.Read
public import Idealize.ShloMosaic.Lib.Claim

@[expose] public section

noncomputable section

namespace Cert.Proof.HeadsAlgebra

open Cert.HeadsIdeal Cert.HeadsIdeal.Gen Idealize.ShloMosaic Idealize.ShloMosaic.TcCoe Idealize.SL.Sem
open Cert.Proof.HeadsArray
open scoped BigOperators

variable (m : (ℓ : Loc nD τ sig) → Buf (Elt Ideal) ℓ)

/-- The feature map as the call reads it: pixel `p` is row `p / 160`, column `p % 160`. -/
theorem feature_apply (c : Dev nD) (b : Fin 2) (k : Fin 256) (p : Fin 16000) :
    V m c main_v0 (ix3 b k p)
      = m ((c.tc : Thread nD τ).loc main_arg0) (ix4 b k (⟨p.val / 160, by omega⟩ : Fin 100) (⟨p.val % 160, by omega⟩ : Fin 160)) := by
  have h : V m c main_v0 = shapeCast _ (m ((c.tc : Thread nD τ).loc main_arg0)) shapeCasts_S2x256x100x160_S2x256x16000 := by
    entry_read; rfl
  rw [h]
  pointwise []

/-- The scores' bias as the call reads it. -/
theorem bias15_apply (c : Dev nD) (a : Fin 15) :
    V m c main_v1 (ix2 0 a) = m ((c.tc : Thread nD τ).loc main_arg2) (ix1 a) := by
  have h : V m c main_v1 = shapeCast _ (m ((c.tc : Thread nD τ).loc main_arg2)) shapeCasts_S15_S1x15 := by
    entry_read; rfl
  rw [h]
  pointwise []

/-- The regressions' bias as the call reads it. -/
theorem bias60_apply (c : Dev nD) (a : Fin 60) :
    V m c main_v2 (ix2 0 a) = m ((c.tc : Thread nD τ).loc main_arg4) (ix1 a) := by
  have h : V m c main_v2 = shapeCast _ (m ((c.tc : Thread nD τ).loc main_arg4)) shapeCasts_S60_S1x60 := by
    entry_read; rfl
  rw [h]
  pointwise []

open Cert.HeadsRefIdeal.Read in
/-- The reference's scores at an index. -/
theorem ref15_apply (x0 : S2x256x100x160.Idx → EReal) (x1 : S15x256.Idx → EReal) (x2 : S15.Idx → EReal) (i : S2x16000x15.Idx) :
    val_main_v11 (F := Ideal) x0 x1 x2 i
      = (∑ k : Fin 256, x1 (ix2 (i 2) k) * x0 (ix4 (i 0) k (⟨(i 1).val / 160, by have := (i 1).isLt; change _ < 16000 at this; omega⟩ : Fin 100)
          (⟨(i 1).val % 160, by omega⟩ : Fin 160))) + x2 (ix1 (i 2)) := by
  have h0 : (i 0).val < 2 := (i 0).isLt
  have h1 : (i 1).val < 16000 := (i 1).isLt
  have h2 : (i 2).val < 15 := (i 2).isLt
  rw [val_main_v11_apply, val_main_v10_apply, val_main_v4_apply, val_main_v1_apply, val_main_v3_apply, val_main_v2_apply,
    val_main_v0_apply]
  refine congrArg₂ (· + ·) (Finset.sum_congr rfl fun k _ => congrArg₂ (· * ·) (congrArg x1 ?_) (congrArg x0 ?_)) (congrArg x2 ?_)
  · funext a; apply Fin.ext
    match a with
    | ⟨0, _⟩ => show (((i 0).val * 16000 + (i 1).val) * 15 + (i 2).val) % 15 = (i 2).val; omega
    | ⟨1, _⟩ => rfl
  · funext a; apply Fin.ext
    match a with
    | ⟨0, _⟩ => show (((i 0).val * 16000 + (i 1).val) * 15 + (i 2).val) / 240000 = (i 0).val; omega
    | ⟨1, _⟩ => rfl
    | ⟨2, _⟩ => show (((i 0).val * 16000 + (i 1).val) * 15 + (i 2).val) / 2400 % 100 = (i 1).val / 160; omega
    | ⟨3, _⟩ => show (((i 0).val * 16000 + (i 1).val) * 15 + (i 2).val) / 15 % 160 = (i 1).val % 160; omega
  · funext a; apply Fin.ext
    match a with
    | ⟨0, _⟩ => show (((i 0).val * 16000 + (i 1).val) * 15 + (i 2).val) % 15 = (i 2).val; omega

open Cert.HeadsRefIdeal.Read in
/-- The reference's regressions at an index. -/
theorem ref60_apply (x0 : S2x256x100x160.Idx → EReal) (x3 : S60x256.Idx → EReal) (x4 : S60.Idx → EReal) (i : S2x16000x60.Idx) :
    val_main_v13 (F := Ideal) x0 x3 x4 i
      = (∑ k : Fin 256, x3 (ix2 (i 2) k) * x0 (ix4 (i 0) k (⟨(i 1).val / 160, by have := (i 1).isLt; change _ < 16000 at this; omega⟩ : Fin 100)
          (⟨(i 1).val % 160, by omega⟩ : Fin 160))) + x4 (ix1 (i 2)) := by
  have h0 : (i 0).val < 2 := (i 0).isLt
  have h1 : (i 1).val < 16000 := (i 1).isLt
  have h2 : (i 2).val < 60 := (i 2).isLt
  rw [val_main_v13_apply, val_main_v12_apply, val_main_v9_apply, val_main_v6_apply, val_main_v8_apply, val_main_v7_apply,
    val_main_v5_apply]
  refine congrArg₂ (· + ·) (Finset.sum_congr rfl fun k _ => congrArg₂ (· * ·) (congrArg x3 ?_) (congrArg x0 ?_)) (congrArg x4 ?_)
  · funext a; apply Fin.ext
    match a with
    | ⟨0, _⟩ => show (((i 0).val * 16000 + (i 1).val) * 60 + (i 2).val) % 60 = (i 2).val; omega
    | ⟨1, _⟩ => rfl
  · funext a; apply Fin.ext
    match a with
    | ⟨0, _⟩ => show (((i 0).val * 16000 + (i 1).val) * 60 + (i 2).val) / 960000 = (i 0).val; omega
    | ⟨1, _⟩ => rfl
    | ⟨2, _⟩ => show (((i 0).val * 16000 + (i 1).val) * 60 + (i 2).val) / 9600 % 100 = (i 1).val / 160; omega
    | ⟨3, _⟩ => show (((i 0).val * 16000 + (i 1).val) * 60 + (i 2).val) / 60 % 160 = (i 1).val % 160; omega
  · funext a; apply Fin.ext
    match a with
    | ⟨0, _⟩ => show (((i 0).val * 16000 + (i 1).val) * 60 + (i 2).val) % 60 = (i 2).val; omega

/-- The scores of the two programs. -/
theorem scores_eq (c : Dev nD) :
    head (N := 15) (V m c main_v0) (V m c main_arg1) (V m c main_v1)
      = Cert.HeadsRefIdeal.Read.val_main_v11 (F := Ideal) (m ((c.tc : Thread nD τ).loc main_arg0)) (m ((c.tc : Thread nD τ).loc main_arg1))
          (m ((c.tc : Thread nD τ).loc main_arg2)) := by
  funext i
  rw [ref15_apply]
  exact congrArg₂ (· + ·) (Finset.sum_congr rfl fun k _ => (mul_comm _ _).trans
    (congrArg₂ (· * ·) (congrFun (V_main_arg1 m c) _) (feature_apply m c (i 0) k (i 1)))) (bias15_apply m c (i 2))

/-- The regressions of the two programs. -/
theorem regs_eq (c : Dev nD) :
    head (N := 60) (V m c main_v0) (V m c main_arg3) (V m c main_v2)
      = Cert.HeadsRefIdeal.Read.val_main_v13 (F := Ideal) (m ((c.tc : Thread nD τ).loc main_arg0)) (m ((c.tc : Thread nD τ).loc main_arg3))
          (m ((c.tc : Thread nD τ).loc main_arg4)) := by
  funext i
  rw [ref60_apply]
  exact congrArg₂ (· + ·) (Finset.sum_congr rfl fun k _ => (mul_comm _ _).trans
    (congrArg₂ (· * ·) (congrFun (V_main_arg3 m c) _) (feature_apply m c (i 0) k (i 1)))) (bias60_apply m c (i 2))

end Cert.Proof.HeadsAlgebra

end
-- ==== Proof.Greedy.lean ====
/- Hand-written, untrusted: greedy suppression as plain logic. Rows are numbered in descending order of score; a row that
   is a candidate is kept unless an earlier kept row suppresses it. Two ways to find the kept rows are shown to agree with
   that definition: settling, round by round, every row whose earlier suppressors are all settled (one chunk of the
   kernel), and going over the rows one by one (the reference). -/
module

public import Idealize.ShloMosaic.Lib.PointwiseCore

@[expose] public section

namespace Cert.Proof.Greedy

/-- The rows kept: candidates that no earlier kept row suppresses. -/
def Kept (C : ℕ → Prop) (S : ℕ → ℕ → Prop) (i : ℕ) : Prop :=
  C i ∧ ∀ j, j < i → Kept C S j → ¬ S j i
termination_by i

theorem kept_iff (C : ℕ → Prop) (S : ℕ → ℕ → Prop) (i : ℕ) :
    Kept C S i ↔ C i ∧ ∀ j, j < i → Kept C S j → ¬ S j i := by
  rw [Kept]

theorem kept_candidate {C : ℕ → Prop} {S : ℕ → ℕ → Prop} {i : ℕ} (h : Kept C S i) : C i :=
  ((kept_iff C S i).mp h).1

/-- Still alive before row `n` is looked at: a candidate no kept row below `n` suppresses. -/
def Alive (C : ℕ → Prop) (S : ℕ → ℕ → Prop) (n i : ℕ) : Prop :=
  C i ∧ ∀ j, j < n → j < i → Kept C S j → ¬ S j i

theorem alive_zero (C : ℕ → Prop) (S : ℕ → ℕ → Prop) (i : ℕ) : Alive C S 0 i ↔ C i :=
  ⟨fun h => h.1, fun h => ⟨h, fun _ hj => absurd hj (Nat.not_lt_zero _)⟩⟩

/-- Once every row below has been looked at, the rows alive are the rows kept. -/
theorem alive_iff_kept (C : ℕ → Prop) (S : ℕ → ℕ → Prop) (n i : ℕ) (h : i ≤ n) : Alive C S n i ↔ Kept C S i := by
  rw [kept_iff]
  exact ⟨fun a => ⟨a.1, fun j hj hk => a.2 j (hj.trans_le h) hj hk⟩, fun a => ⟨a.1, fun j _ hj hk => a.2 j hj hk⟩⟩

/-- Looking at the rows from `n` to `n + w` at once. -/
theorem alive_add (C : ℕ → Prop) (S : ℕ → ℕ → Prop) (n w i : ℕ) :
    Alive C S (n + w) i ↔ Alive C S n i ∧ ∀ j, n ≤ j → j < n + w → j < i → Kept C S j → ¬ S j i := by
  constructor
  · intro a
    exact ⟨⟨a.1, fun j hj => a.2 j (by omega)⟩, fun j _ hj => a.2 j hj⟩
  · intro a
    refine ⟨a.1.1, fun j hj hji hk => ?_⟩
    by_cases h : j < n
    · exact a.1.2 j h hji hk
    · exact a.2 j (by omega) hj hji hk

/-- Looking at one row. -/
theorem alive_succ (C : ℕ → Prop) (S : ℕ → ℕ → Prop) (n i : ℕ) :
    Alive C S (n + 1) i ↔ Alive C S n i ∧ ¬ (n < i ∧ Alive C S n n ∧ S n i) := by
  rw [alive_add, alive_iff_kept C S n n le_rfl]
  constructor
  · rintro ⟨a, h⟩
    exact ⟨a, fun ⟨h1, h2, h3⟩ => h n le_rfl (Nat.lt_succ_self n) h1 h2 h3⟩
  · rintro ⟨a, h⟩
    refine ⟨a, fun j h1 h2 h3 hk hs => ?_⟩
    obtain rfl : j = n := by omega
    exact h ⟨h3, hk, hs⟩

/-! ## Settling one chunk in rounds -/

section Rounds

variable {w : ℕ}

/-- A round's settled rows: those settled, those an earlier settled kept row suppresses, and those all of whose possible
    suppressors are settled. -/
def settle (O : Fin w → Fin w → Prop) (D K : Fin w → Prop) (i : Fin w) : Prop :=
  D i ∨ ((∃ j, O j i ∧ D j ∧ K j) ∨ ¬ ∃ j, O j i ∧ ¬ D j)

/-- A round's kept rows. -/
def keep (O : Fin w → Fin w → Prop) (D K : Fin w → Prop) (i : Fin w) : Prop :=
  (K i ∧ D i) ∨ ((¬ D i ∧ ¬ ∃ j, O j i ∧ D j ∧ K j) ∧ ¬ ∃ j, O j i ∧ ¬ D j)

/-- What the rounds keep true of the settled rows: they are kept exactly as the greedy choice `G` has it. -/
structure Inv (O : Fin w → Fin w → Prop) (G : Fin w → Prop) (D K : Fin w → Prop) (n : ℕ) : Prop where
  agree : ∀ i, D i → (K i ↔ G i)
  first : ∀ i, i.val < n → D i

variable {O : Fin w → Fin w → Prop} {A G D K : Fin w → Prop} {n : ℕ}

/-- One round keeps the invariant and settles at least one more row. -/
theorem Inv.step (hO : ∀ j i, O j i → j < i) (hA : ∀ i, ¬ D i → A i)
    (hG : ∀ i, G i ↔ A i ∧ ∀ j, O j i → ¬ G j) (h : Inv O G D K n) :
    Inv O G (settle O D K) (keep O D K) (n + 1) := by
  constructor
  · intro i hi
    by_cases hd : D i
    · rw [← h.agree i hd]
      exact ⟨fun hk => hk.elim (fun x => x.1) (fun x => absurd hd x.1.1), fun hk => .inl ⟨hk, hd⟩⟩
    · by_cases hs : ∃ j, O j i ∧ D j ∧ K j
      · obtain ⟨j, hj, hdj, hkj⟩ := hs
        have hg : ¬ G i := fun g => ((hG i).mp g).2 j hj ((h.agree j hdj).mp hkj)
        exact ⟨fun hk => hk.elim (fun x => absurd x.2 hd) (fun x => absurd ⟨j, hj, hdj, hkj⟩ x.1.2), fun g => absurd g hg⟩
      · have hu : ¬ ∃ j, O j i ∧ ¬ D j := by
          rcases hi with hi | hi | hi
          · exact absurd hi hd
          · exact absurd hi hs
          · exact hi
        refine ⟨fun _ => (hG i).mpr ⟨hA i hd, fun j hj g => ?_⟩, fun _ => .inr ⟨⟨hd, hs⟩, hu⟩⟩
        by_cases hdj : D j
        · exact hs ⟨j, hj, hdj, (h.agree j hdj).mpr g⟩
        · exact hu ⟨j, hj, hdj⟩
  · intro i hi
    by_cases hd : D i
    · exact .inl hd
    · refine .inr (.inr ?_)
      rintro ⟨j, hj, hdj⟩
      have := hO j i hj
      exact hdj (h.first j (by have := Fin.lt_def.mp this; omega))

/-- The settled rows only grow. -/
theorem settle_of (i : Fin w) (h : D i) : settle O D K i := .inl h

/-- A chunk of greedy suppression: the kept rows of `n … n + w`, from the rows alive before it. -/
theorem kept_chunk (C : ℕ → Prop) (S : ℕ → ℕ → Prop) (s : ℕ) (i : Fin w) :
    Kept C S (s + i) ↔ Alive C S s (s + i) ∧ ∀ j : Fin w, (j < i ∧ S (s + j) (s + i) ∧ C (s + j)) → ¬ Kept C S (s + j) := by
  rw [← alive_iff_kept C S (s + i) (s + i) le_rfl, alive_add]
  refine and_congr_right fun _ => ⟨fun h j hj hk => ?_, fun h j h1 h2 _ hk hs => ?_⟩
  · exact h (s + j) (by omega) (by have := Fin.lt_def.mp hj.1; omega) (by have := Fin.lt_def.mp hj.1; omega) hk hj.2.1
  · obtain ⟨d, rfl⟩ := Nat.exists_eq_add_of_le h1
    have hd : d < i.val := by omega
    exact h ⟨d, hd.trans i.isLt⟩ ⟨Fin.lt_def.mpr hd, hs, kept_candidate hk⟩ hk

end Rounds

end Cert.Proof.Greedy
-- ==== Proof.Chunk.lean ====
/- Hand-written, untrusted: the operations one chunk of 256 rows of the suppression call performs, named once for all eight
   chunks by the chunk's first row `w`. Vectors over the rows of the image lie as 1×2048; a chunk's own rows are turned
   into a 256×1 column by a product with the identity matrix. -/
module

public import proofs.«01_k».proof.Proof.Gen.NmsIdeal.Skeleton
public import Idealize.ShloMosaic.Lib.Pointwise
public import Idealize.ShloMosaic.Lib.IdealHost
public import proofs.«01_k».proof.Proof.Greedy

@[expose] public section

noncomputable section

namespace Cert.Proof.Chunk

open Cert.NmsIdeal Cert.NmsIdeal.Gen Idealize.ShloMosaic Idealize.ShloMosaic.TcCoe Idealize.SL.Sem

section Ops

variable {F : FTy → Type} [FloatOps F]

/-- The chunk's rows of `v` as a column. -/
def col (w : ℕ) (h : S1x2048.Slices ![0, w] S1x256) (eye : FVec F S256x256 .f32) (v : FVec F S1x2048 .f32) : FVec F S256x1 .f32 :=
  matmul dot_S256x256_S1x256_S256x1_1_1_0_0_n_n none eye (extractStridedSlice S1x256 ![0, w] v h) (constant S256x1 .f32 0x00000000#32)

/-- The overlap of every row of the chunk (down) with every row (across). -/
def inter (w : ℕ) (h : S1x2048.Slices ![0, w] S1x256) (eye : FVec F S256x256 .f32) (x1 y1 x2 y2 : FVec F S1x2048 .f32) : FVec F S256x2048 .f32 :=
  mulf
    (maximumf (subf (minimumf (broadcastTo S256x2048 (col w h eye x2) broadcasts_S256x1_S256x2048) (broadcastTo S256x2048 x2 broadcasts_S1x2048_S256x2048))
        (maximumf (broadcastTo S256x2048 (col w h eye x1) broadcasts_S256x1_S256x2048) (broadcastTo S256x2048 x1 broadcasts_S1x2048_S256x2048)))
      (broadcast S256x2048 (Scalar.ofBits .f32 0x00000000#32)))
    (maximumf (subf (minimumf (broadcastTo S256x2048 (col w h eye y2) broadcasts_S256x1_S256x2048) (broadcastTo S256x2048 y2 broadcasts_S1x2048_S256x2048))
        (maximumf (broadcastTo S256x2048 (col w h eye y1) broadcasts_S256x1_S256x2048) (broadcastTo S256x2048 y1 broadcasts_S1x2048_S256x2048)))
      (broadcast S256x2048 (Scalar.ofBits .f32 0x00000000#32)))

/-- One where the overlap exceeds the threshold's share of the union. -/
def over (w : ℕ) (h : S1x2048.Slices ![0, w] S1x256) (eye : FVec F S256x256 .f32) (x1 y1 x2 y2 ar : FVec F S1x2048 .f32) : FVec F S256x2048 .f32 :=
  sitofp .f32 (extui 32 (cmpf .ogt (inter w h eye x1 y1 x2 y2)
    (mulf (broadcast S256x2048 (Scalar.ofBits .f32 0x3F333333#32))
      (maximumf (subf (addf (broadcastTo S256x2048 (col w h eye ar) broadcasts_S256x1_S256x2048) (broadcastTo S256x2048 ar broadcasts_S1x2048_S256x2048))
          (inter w h eye x1 y1 x2 y2))
        (broadcast S256x2048 (Scalar.ofBits .f32 0x3089705F#32))))) natLt_1_32)

/-- One where the row across comes after the chunk's row. -/
def later (wb : BitVec 32) (iot : IVec S1x2048 32) : FVec F S256x2048 .f32 :=
  sitofp .f32 (extui 32 (cmpi .sgt (broadcastTo S256x2048 iot broadcasts_S1x2048_S256x2048)
    (broadcastTo S256x2048 (addi (iota .tc S256x1 32 [0] iota_S256x1_d0_w32) (broadcast S256x1 wb)) broadcasts_S256x1_S256x2048)) natLt_1_32)

/-- One where a candidate of the chunk would suppress the row across. -/
def mask (w : ℕ) (wb : BitVec 32) (h : S1x2048.Slices ![0, w] S1x256) (eye : FVec F S256x256 .f32) (x1 y1 x2 y2 ar cand : FVec F S1x2048 .f32)
    (iot : IVec S1x2048 32) : FVec F S256x2048 .f32 :=
  mulf (mulf (over w h eye x1 y1 x2 y2 ar) (later wb iot)) (broadcastTo S256x2048 (col w h eye cand) broadcasts_S256x1_S256x2048)

/-- The mask among the chunk's own rows. -/
def own (w : ℕ) (h' : S256x2048.Slices ![0, w] S256x256) (mk : FVec F S256x2048 .f32) : FVec F S256x256 .f32 :=
  extractStridedSlice S256x256 ![0, w] mk h'

/-- One where the chunk's row is already out. -/
def dead (w : ℕ) (h : S1x2048.Slices ![0, w] S1x256) (eye : FVec F S256x256 .f32) (alive : FVec F S1x2048 .f32) : FVec F S256x1 .f32 :=
  subf (broadcast S256x1 (Scalar.ofBits .f32 0x3F800000#32)) (col w h eye alive)

/-- A column of zeros. -/
def none0 : FVec F S256x1 .f32 := broadcast S256x1 (Scalar.ofBits .f32 0x00000000#32)

/-- The rows still in after the chunk's kept rows have suppressed theirs. -/
def survive (mk : FVec F S256x2048 .f32) (alive : FVec F S1x2048 .f32) (kept : FVec F S256x1 .f32) : FVec F S1x2048 .f32 :=
  mulf alive (subf (broadcast S1x2048 (Scalar.ofBits .f32 0x3F800000#32))
    (shapeCast S1x2048 (multiReduction .maximumf [0] S2048 (mulf mk (broadcastTo S256x2048 kept broadcasts_S256x1_S256x2048)) 0xFF800000#32
      reduces_S256x2048_S2048 (.inl rfl) rfl) shapeCasts_S2048_S1x2048))

/-- Whether the rounds go on: some row of the chunk is not settled. -/
def going (det : FVec F S256x1 .f32) : BitVec 1 := Scalar.cmpf .olt (k0_pay6 det) (Scalar.ofBits .f32 0x3F000000#32)

/-- The rounds, at most `n` of them. -/
def rounds (oc eye : FVec F S256x256 .f32) : ℕ → FVec F S256x1 .f32 × FVec F S256x1 .f32 → FVec F S256x1 .f32 × FVec F S256x1 .f32
  | 0, s => s
  | n + 1, s => if going s.1 = 1#1 then rounds oc eye n (k0_pay9 oc eye s.1 s.2, k0_pay10 oc eye s.1 s.2) else s

/-- The rounds come to an end within `n`. -/
def Ends (oc eye : FVec F S256x256 .f32) : ℕ → FVec F S256x1 .f32 × FVec F S256x1 .f32 → Prop
  | 0, s => ¬ going s.1 = 1#1
  | n + 1, s => going s.1 = 1#1 → Ends oc eye n (k0_pay9 oc eye s.1 s.2, k0_pay10 oc eye s.1 s.2)

end Ops

/-! ## Indicators: a proposition as 0 or 1 -/

open Classical in
/-- One where `p` holds, zero where it does not. -/
def ind (p : Prop) : EReal := if p then 1 else 0

theorem ind_true {p : Prop} (h : p) : ind p = 1 := if_pos h
theorem ind_false {p : Prop} (h : ¬ p) : ind p = 0 := if_neg h

theorem ind_congr {p q : Prop} (h : p ↔ q) : ind p = ind q := by
  by_cases hp : p
  · rw [ind_true hp, ind_true (h.mp hp)]
  · rw [ind_false hp, ind_false (fun hq => hp (h.mpr hq))]

theorem ind_mul (p q : Prop) : ind p * ind q = ind (p ∧ q) := by
  by_cases hp : p
  · rw [ind_true hp, one_mul]; exact ind_congr ⟨fun h => ⟨hp, h⟩, fun h => h.2⟩
  · rw [ind_false hp, zero_mul, ind_false (fun h => hp h.1)]

theorem one_sub_ind (p : Prop) : 1 - ind p = ind (¬ p) := by
  by_cases hp : p
  · rw [ind_true hp, ind_false (fun h => h hp)]
    exact EReal.sub_self (by decide) (by decide)
  · rw [ind_false hp, ind_true hp, sub_zero]

theorem max_ind (p q : Prop) : max (ind p) (ind q) = ind (p ∨ q) := by
  by_cases hp : p
  · rw [ind_true hp, ind_true (p := p ∨ q) (Or.inl hp)]
    by_cases hq : q
    · rw [ind_true hq, max_self]
    · rw [ind_false hq]; exact max_eq_left zero_le_one
  · rw [ind_false hp]
    by_cases hq : q
    · rw [ind_true hq, ind_true (p := p ∨ q) (Or.inr hq)]; exact max_eq_right zero_le_one
    · rw [ind_false hq, ind_false (fun h => h.elim hp hq), max_self]

theorem half_lt_ind (p : Prop) (x : EReal) (h0 : 0 ≤ x) (h1 : x < 1) : x < ind p ↔ p := by
  by_cases hp : p
  · rw [ind_true hp]; exact ⟨fun _ => hp, fun _ => h1⟩
  · rw [ind_false hp]; exact ⟨fun h => absurd h (not_lt.mpr h0), fun h => absurd h hp⟩

/-- The greatest of indicators, from −∞. -/
theorem fold_max_ind {n : ℕ} [NeZero n] (p : Fin n → Prop) : Finset.univ.fold max (⊥ : EReal) (fun k => ind (p k)) = ind (∃ k, p k) := by
  apply le_antisymm
  · rw [Finset.fold_max_le]
    refine ⟨bot_le, fun k _ => ?_⟩
    by_cases hk : p k
    · rw [ind_true hk, ind_true (p := ∃ k, p k) ⟨k, hk⟩]
    · rw [ind_false hk]; unfold ind; split <;> simp
  · rw [Finset.le_fold_max]
    right
    by_cases h : ∃ k, p k
    · obtain ⟨k, hk⟩ := h
      exact ⟨k, Finset.mem_univ _, by rw [ind_true hk, ind_true (p := ∃ k, p k) ⟨k, hk⟩]⟩
    · exact ⟨0, Finset.mem_univ _, by rw [ind_false h, ind_false (fun hk => h ⟨0, hk⟩)]⟩

theorem sum_ind_eq_mul {n : ℕ} (i : Fin n) (f : Fin n → EReal) : ∑ x, ind (i = x) * f x = f i := by
  rw [Finset.sum_eq_single i]
  · rw [ind_true rfl, one_mul]
  · intro b _ hb; rw [ind_false (fun h => hb h.symm), zero_mul]
  · intro h; exact absurd (Finset.mem_univ _) h

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]
theorem ofBits_half : Ideal.ofBits .f32 0x3F000000#32 = ((1 / 2 : ℝ) : EReal) := by
  simp [Ideal.ofBits, Ideal.ieee, -EReal.coe_mul]; norm_num

theorem half_nonneg : (0 : EReal) ≤ ((1 / 2 : ℝ) : EReal) := by exact_mod_cast (by norm_num : (0 : ℝ) ≤ 1 / 2)
theorem half_lt_one : ((1 / 2 : ℝ) : EReal) < 1 := by exact_mod_cast (by norm_num : (1 / 2 : ℝ) < 1)

/-- The least of indicators, from +∞, is below a half exactly when one of them is zero. -/
theorem fold_min_ind {ι : Type} [Fintype ι] (p : ι → Prop) :
    Finset.univ.fold min (⊤ : EReal) (fun k => ind (p k)) < ((1 / 2 : ℝ) : EReal) ↔ ∃ k, ¬ p k := by
  rw [Finset.fold_min_lt]
  constructor
  · rintro (h | ⟨k, _, h⟩)
    · exact absurd h (not_lt.mpr le_top)
    · exact ⟨k, fun hk => by rw [ind_true hk] at h; exact absurd h (not_lt.mpr half_lt_one.le)⟩
  · rintro ⟨k, hk⟩
    refine .inr ⟨k, Finset.mem_univ _, ?_⟩
    rw [ind_false hk]
    exact_mod_cast (by norm_num : (0 : ℝ) < 1 / 2)

/-- A comparison's bit widened and made a float is the comparison's indicator. -/
theorem sitofp_ofBool (b : Bool) : (FloatOps.sitofp (F := Ideal) .f32 (BitVec.setWidth 32 (BitVec.ofBool b)) : EReal) = ind (b = true) := by
  cases b
  · rw [ind_false (by decide)]
    show (((BitVec.setWidth 32 (BitVec.ofBool false)).toInt : ℝ) : EReal) = 0
    rw [show (BitVec.setWidth 32 (BitVec.ofBool false)).toInt = 0 by decide]; norm_num
  · rw [ind_true rfl]
    show (((BitVec.setWidth 32 (BitVec.ofBool true)).toInt : ℝ) : EReal) = 1
    rw [show (BitVec.setWidth 32 (BitVec.ofBool true)).toInt = 1 by decide]; norm_num

/-- A row number below 2048 as a word is itself. -/
theorem toInt_row (n : ℕ) (h : n < 4096) : (BitVec.ofNat 32 n).toInt = n := by
  have hn : (BitVec.ofNat 32 n).toNat = n := by rw [BitVec.toNat_ofNat, Nat.mod_eq_of_lt (by omega)]
  rw [BitVec.toInt_eq_toNat_of_lt (by rw [hn]; omega), hn]

/-! ## The operations at an index -/

/-- The value of a vector over the rows at row `n`. -/
def at' (v : FVec Ideal S1x2048 .f32) (n : ℕ) : EReal := if h : n < 2048 then v (ix2 0 (⟨n, h⟩ : Fin 2048)) else 0

theorem at_fin (v : FVec Ideal S1x2048 .f32) (n : Fin 2048) : v (ix2 0 n) = at' v n.val := by
  unfold at'; rw [dif_pos n.isLt]

theorem eye_apply (i j : Fin 256) : k0_pay91 (F := Ideal) (ix2 i j) = ind (i = j) := by
  pointwise [k0_pay91]
  rw [show IntOp.cmpi CmpIPredicate.eq (BitVec.ofNat 32 ↑i) (BitVec.ofNat 32 ↑j)
      = BitVec.ofBool (decide (BitVec.ofNat 32 i.val = BitVec.ofNat 32 j.val)) from ?_]
  · rw [sitofp_ofBool]
    refine ind_congr (decide_eq_true_iff.trans ⟨fun h => ?_, fun h => by rw [h]⟩)
    have := congrArg BitVec.toInt h
    rw [toInt_row _ (by omega), toInt_row _ (by omega)] at this
    exact Fin.ext (by exact_mod_cast this)
  · simp only [IntOp.cmpi, beq_eq_decide]

theorem col_apply (w : ℕ) (hw : w + 256 ≤ 2048) (h : S1x2048.Slices ![0, w] S1x256) (v : FVec Ideal S1x2048 .f32) (i : Fin 256) :
    col w h k0_pay91 v (ix2 i 0) = at' v (w + i) := by
  pointwise [col]
  simp only [eye_apply]
  rw [sum_ind_eq_mul i (fun x : Fin 256 => v (ix2 0 (⟨w + x.val, by omega⟩ : Fin 2048)))]
  exact at_fin v ⟨w + i.val, by omega⟩

/-- The overlap of two rows' boxes. -/
def interP (x1 y1 x2 y2 : FVec Ideal S1x2048 .f32) (a b : ℕ) : EReal :=
  max (min (at' x2 a) (at' x2 b) - max (at' x1 a) (at' x1 b)) 0 * max (min (at' y2 a) (at' y2 b) - max (at' y1 a) (at' y1 b)) 0

/-- Whether the overlap exceeds the threshold's share of the union, as the call computes it. -/
def OverP (x1 y1 x2 y2 ar : FVec Ideal S1x2048 .f32) (a b : ℕ) : Prop :=
  Ideal.ofBits .f32 0x3F333333#32 * max (at' ar a + at' ar b - interP x1 y1 x2 y2 a b) (Ideal.ofBits .f32 0x3089705F#32) < interP x1 y1 x2 y2 a b

theorem inter_apply (w : ℕ) (hw : w + 256 ≤ 2048) (h : S1x2048.Slices ![0, w] S1x256) (x1 y1 x2 y2 : FVec Ideal S1x2048 .f32)
    (i : Fin 256) (j : Fin 2048) : inter w h k0_pay91 x1 y1 x2 y2 (ix2 i j) = interP x1 y1 x2 y2 (w + i) j := by
  pointwise [inter]
  simp only [col_apply w hw h, at_fin]
  rfl

theorem over_apply (w : ℕ) (hw : w + 256 ≤ 2048) (h : S1x2048.Slices ![0, w] S1x256) (x1 y1 x2 y2 ar : FVec Ideal S1x2048 .f32)
    (i : Fin 256) (j : Fin 2048) : over w h k0_pay91 x1 y1 x2 y2 ar (ix2 i j) = ind (OverP x1 y1 x2 y2 ar (w + i) j) := by
  pointwise [over]
  rw [sitofp_ofBool]
  refine ind_congr (decide_eq_true_iff.trans ?_)
  simp only [inter_apply w hw h, col_apply w hw h, at_fin]
  rfl

theorem later_apply (w : ℕ) (hw : w + 256 ≤ 2048) (iot : IVec S1x2048 32) (hi : ∀ j : Fin 2048, iot (ix2 0 j) = BitVec.ofNat 32 j)
    (i : Fin 256) (j : Fin 2048) : later (F := Ideal) (BitVec.ofNat 32 w) iot (ix2 i j) = ind (w + i.val < j.val) := by
  pointwise [later]
  rw [hi, show IntOp.cmpi CmpIPredicate.sgt (BitVec.ofNat 32 ↑j) (IntOp.addi (BitVec.ofNat 32 ↑i) (BitVec.ofNat 32 w))
      = BitVec.ofBool (decide (w + i.val < j.val)) from ?_]
  · rw [sitofp_ofBool]
    exact ind_congr decide_eq_true_iff
  · rw [show IntOp.addi (BitVec.ofNat 32 ↑i) (BitVec.ofNat 32 w) = BitVec.ofNat 32 (w + i.val) by
      simp only [IntOp.addi, ← BitVec.ofNat_add]; rw [Nat.add_comm]]
    simp only [IntOp.cmpi, BitVec.slt]
    rw [toInt_row _ (by omega), toInt_row _ (by omega)]
    simp only [Nat.cast_lt]

theorem mask_apply (w : ℕ) (hw : w + 256 ≤ 2048) (h : S1x2048.Slices ![0, w] S1x256) (x1 y1 x2 y2 ar cand : FVec Ideal S1x2048 .f32)
    (iot : IVec S1x2048 32) (hi : ∀ j : Fin 2048, iot (ix2 0 j) = BitVec.ofNat 32 j) (C : ℕ → Prop) (hC : ∀ n, n < 2048 → at' cand n = ind (C n))
    (i : Fin 256) (j : Fin 2048) :
    mask w (BitVec.ofNat 32 w) h k0_pay91 x1 y1 x2 y2 ar cand iot (ix2 i j)
      = ind ((OverP x1 y1 x2 y2 ar (w + i) j ∧ w + i.val < j.val) ∧ C (w + i)) := by
  pointwise [mask]
  rw [over_apply w hw h, later_apply w hw iot hi, col_apply w hw h, hC _ (by omega), ind_mul, ind_mul]

theorem own_apply (w : ℕ) (hw : w + 256 ≤ 2048) (h' : S256x2048.Slices ![0, w] S256x256) (mk : FVec Ideal S256x2048 .f32) (i j : Fin 256) :
    own w h' mk (ix2 i j) = mk (ix2 i (⟨w + j.val, by omega⟩ : Fin 2048)) := by
  pointwise [own]

theorem dead_apply (w : ℕ) (hw : w + 256 ≤ 2048) (h : S1x2048.Slices ![0, w] S1x256) (al : FVec Ideal S1x2048 .f32) (A : ℕ → Prop)
    (hA : ∀ n, n < 2048 → at' al n = ind (A n)) (i : Fin 256) : dead w h k0_pay91 al (ix2 i 0) = ind (¬ A (w + i)) := by
  pointwise [dead]
  rw [col_apply w hw h, hA _ (by omega), one_sub_ind]

theorem survive_apply (mk : FVec Ideal S256x2048 .f32) (al : FVec Ideal S1x2048 .f32) (kept : FVec Ideal S256x1 .f32)
    (M : Fin 256 → Fin 2048 → Prop) (A : ℕ → Prop) (K : Fin 256 → Prop) (hM : ∀ i j, mk (ix2 i j) = ind (M i j))
    (hA : ∀ n, n < 2048 → at' al n = ind (A n)) (hK : ∀ i, kept (ix2 i 0) = ind (K i)) (j : Fin 2048) :
    survive mk al kept (ix2 0 j) = ind (A j ∧ ¬ ∃ i, M i j ∧ K i) := by
  pointwise [survive]
  simp only [hM, hK, ind_mul, at_fin]
  rw [ofBits_negInf, fold_max_ind, one_sub_ind, hA _ j.isLt, ind_mul]

theorem going_iff (det : FVec Ideal S256x1 .f32) (D : Fin 256 → Prop) (hD : ∀ i, det (ix2 i 0) = ind (D i)) :
    going det = 1#1 ↔ ∃ i, ¬ D i := by
  unfold going
  pointwise [k0_pay6]
  simp only [hD]
  rw [ofBits_posInf, ofBits_half]
  have h := fold_min_ind (fun x : Fin 256 × Fin 1 => D x.1)
  constructor
  · intro hb
    obtain ⟨k, hk⟩ := h.mp (by
      by_contra hc
      rw [decide_eq_false hc] at hb
      exact absurd hb (by decide))
    exact ⟨k.1, hk⟩
  · rintro ⟨k, hk⟩
    rw [decide_eq_true (h.mpr ⟨(k, 0), hk⟩)]
    rfl

section Round

variable (oc : FVec Ideal S256x256 .f32) (det kept : FVec Ideal S256x1 .f32) (O : Fin 256 → Fin 256 → Prop) (D K : Fin 256 → Prop)
    (hO : ∀ j i, oc (ix2 j i) = ind (O j i)) (hD : ∀ i, det (ix2 i 0) = ind (D i)) (hK : ∀ i, kept (ix2 i 0) = ind (K i)) (i : Fin 256)

include hO hD hK in
theorem pay7_apply : k0_pay7 oc k0_pay91 det kept (ix2 i 0) = ind (∃ j, O j i ∧ D j ∧ K j) := by
  pointwise [k0_pay7]
  simp only [eye_apply, hO, hD, hK, ind_mul]
  rw [ofBits_negInf]
  simp only [fold_max_ind]
  exact sum_ind_eq_mul i (fun x => ind (∃ j, O j x ∧ D j ∧ K j))

include hO hD in
theorem pay8_apply : k0_pay8 oc k0_pay91 det (ix2 i 0) = ind (∃ j, O j i ∧ ¬ D j) := by
  pointwise [k0_pay8]
  simp only [eye_apply, hO, hD, one_sub_ind, ind_mul]
  rw [ofBits_negInf]
  simp only [fold_max_ind]
  exact sum_ind_eq_mul i (fun x => ind (∃ j, O j x ∧ ¬ D j))

include hO hD hK in
/-- A round's settled rows. -/
theorem pay9_apply : k0_pay9 oc k0_pay91 det kept (ix2 i 0) = ind (Greedy.settle O D K i) := by
  pointwise [k0_pay9]
  rw [pay7_apply oc det kept O D K hO hD hK, pay8_apply oc det O D hO hD, hD, one_sub_ind, max_ind, max_ind]
  rfl

include hO hD hK in
/-- A round's kept rows. -/
theorem pay10_apply : k0_pay10 oc k0_pay91 det kept (ix2 i 0) = ind (Greedy.keep O D K i) := by
  pointwise [k0_pay10]
  rw [pay7_apply oc det kept O D K hO hD hK, pay8_apply oc det O D hO hD, hD, hK, one_sub_ind, one_sub_ind, one_sub_ind,
    ind_mul, ind_mul, ind_mul, max_ind]
  rfl

end Round

/-- The rounds end, and leave the greedy choice: from `n` settled rows on, `k` rounds with `n + k = 256`. -/
theorem rounds_spec (oc : FVec Ideal S256x256 .f32) (O : Fin 256 → Fin 256 → Prop) (A G : Fin 256 → Prop)
    (hO : ∀ j i, oc (ix2 j i) = ind (O j i)) (hlt : ∀ j i, O j i → j < i) (hG : ∀ i, G i ↔ A i ∧ ∀ j, O j i → ¬ G j) :
    ∀ (k n : ℕ) (_ : n + k = 256) (det kept : FVec Ideal S256x1 .f32) (D K : Fin 256 → Prop)
      (_ : ∀ i, det (ix2 i 0) = ind (D i)) (_ : ∀ i, kept (ix2 i 0) = ind (K i)) (_ : ∀ i, ¬ D i → A i) (_ : Greedy.Inv O G D K n),
      Ends oc k0_pay91 k (det, kept) ∧ ∀ i, (rounds oc k0_pay91 k (det, kept)).2 (ix2 i 0) = ind (G i) := by
  intro k
  induction k with
  | zero =>
    intro n hn det kept D K hD hK hA inv
    have hall : ∀ i, D i := fun i => inv.first i (by omega)
    refine ⟨fun hg => ?_, fun i => ?_⟩
    · obtain ⟨i, hi⟩ := (going_iff det D hD).mp hg
      exact hi (hall i)
    · show kept (ix2 i 0) = _
      rw [hK]; exact ind_congr (inv.agree i (hall i))
  | succ k ih =>
    intro n hn det kept D K hD hK hA inv
    have next := ih (n + 1) (by omega) (k0_pay9 oc k0_pay91 det kept) (k0_pay10 oc k0_pay91 det kept) _ _
      (pay9_apply oc det kept O D K hO hD hK) (pay10_apply oc det kept O D K hO hD hK)
      (fun i hi => hA i (fun hd => hi (Greedy.settle_of i hd))) (inv.step hlt hA hG)
    refine ⟨fun _ => next.1, fun i => ?_⟩
    unfold rounds
    by_cases hg : going det = 1#1
    · rw [if_pos hg]; exact next.2 i
    · rw [if_neg hg]
      show kept (ix2 i 0) = _
      rw [hK]
      have hall : D i := by
        by_contra hc
        exact hg ((going_iff det D hD).mpr ⟨i, hc⟩)
      exact ind_congr (inv.agree i hall)

theorem none0_apply (i : Fin 256) : none0 (F := Ideal) (ix2 i 0) = 0 := by
  pointwise [none0]

end Cert.Proof.Chunk
-- ==== Proof.NmsRows.lean ====
/- Hand-written, untrusted: what the suppression call computes of one image, chunk by chunk, and the values of its eight chunks
   as that. -/
module

public import proofs.«01_k».proof.Proof.Chunk

@[expose] public section

noncomputable section

namespace Cert.Proof.Chunk

open Cert.NmsIdeal Cert.NmsIdeal.Gen Idealize.ShloMosaic Idealize.ShloMosaic.TcCoe Idealize.SL.Sem

variable {F : FTy → Type} [FloatOps F]

/-- The rows of one image as the chunks read them: the boxes' corners, their areas, one where a row is a candidate, and the
    rows' numbers. -/
structure Rows (F : FTy → Type) where
  x1 : FVec F S1x2048 .f32
  y1 : FVec F S1x2048 .f32
  x2 : FVec F S1x2048 .f32
  y2 : FVec F S1x2048 .f32
  ar : FVec F S1x2048 .f32
  cand : FVec F S1x2048 .f32
  iot : IVec S1x2048 32

theorem slc (k : Fin 8) : S1x2048.Slices ![0, 256 * k.val] S1x256 := by revert k; decide

theorem slo (k : Fin 8) : S256x2048.Slices ![0, 256 * k.val] S256x256 := by revert k; decide

/-- Chunk `k`'s mask. -/
def Rows.mk' (R : Rows F) (k : Fin 8) : FVec F S256x2048 .f32 :=
  mask (256 * k.val) (BitVec.ofNat 32 (256 * k.val)) (slc k) k0_pay91 R.x1 R.y1 R.x2 R.y2 R.ar R.cand R.iot

/-- Chunk `k`'s mask among its own rows. -/
def Rows.oc (R : Rows F) (k : Fin 8) : FVec F S256x256 .f32 := own (256 * k.val) (slo k) (R.mk' k)

/-- What chunk `k`'s loop starts with, when the rows still in are `al`. -/
def start (k : Fin 8) (al : FVec F S1x2048 .f32) : FVec F S256x1 .f32 × FVec F S256x1 .f32 :=
  (dead (256 * k.val) (slc k) k0_pay91 al, none0)

/-- The rows still in after chunk `k`, from those in before it. -/
def Rows.after (R : Rows F) (k : Fin 8) (al : FVec F S1x2048 .f32) : FVec F S1x2048 .f32 :=
  survive (R.mk' k) al (rounds (R.oc k) k0_pay91 256 (start k al)).2

/-- The rows still in before chunk `k`. -/
def Rows.alive (R : Rows F) : ℕ → FVec F S1x2048 .f32
  | 0 => R.cand
  | k + 1 => if h : k < 8 then R.after ⟨k, h⟩ (R.alive k) else R.alive k

/-- Every chunk's loop ends. -/
def Rows.Settles (R : Rows F) : Prop := ∀ k : Fin 8, Ends (R.oc k) k0_pay91 256 (start k (R.alive k.val))

/-- The group codes of the rows: 0 kept, 1 a candidate's box suppressed or another large enough, 2 too small, 3 beyond the
    image's 2000 proposals. -/
def group (al : FVec F S1x2048 .f32) (valid oksz : IVec S1x2048 1) : IVec S1x2048 32 :=
  select (cmpf .ogt al (broadcast S1x2048 (Scalar.ofBits .f32 0x3F000000#32))) (broadcast S1x2048 0#32)
    (select (andi oksz valid) (broadcast S1x2048 1#32) (select valid (broadcast S1x2048 2#32) (broadcast S1x2048 3#32)))

end Cert.Proof.Chunk
-- ==== Proof.NmsLoop.lean ====
/- Hand-written, untrusted: the eight settling loops of the suppression call. Each runs the rounds of `Chunk.rounds`; where
   they end within `n`, the loop's label entered with `n` to spare terminates with what the rounds leave. -/
module

public import proofs.«01_k».proof.Proof.Chunk
public import proofs.«01_k».proof.Proof.Gen.NmsIdeal.Launch
public import Idealize.ShloMosaic.Lib.Tactic

@[expose] public section

noncomputable section

namespace Cert.Proof.Chunk

open Cert.NmsIdeal Cert.NmsIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The loops' variants: the rounds still to run. -/
abbrev 𝒱₀ : Variants := Variants.nat

/-- What a loop carries: the settled rows and the kept rows of the chunk. -/
abbrev Carried (F : FTy → Type) : Type := FVec F S256x1 .f32 × FVec F S256x1 .f32

/-- A label whose body tests `going` and either calls the label again at the next round's values or returns terminates with
    what the rounds leave, where the rounds end. -/
theorem loop_ends (c : Dev nD) (E : Set ℕ) (ℓ : (Λ₀ F).Label) (arg : Carried F → (Λ₀ F).Args ℓ) (res : Carried F → (Λ₀ F).Result ℓ)
    (oc eye : FVec F S256x256 .f32)
    (hbody : ∀ s : Carried F, defs₀ (F := F) .tc ℓ (arg s)
      = if going s.1 = 1#1 then Prog.lift (.call ℓ (arg (k0_pay9 oc eye s.1 s.2, k0_pay10 oc eye s.1 s.2))) else pure (res s)) :
    ∀ (n : ℕ) (s : Carried F), Ends oc eye n s →
      (pure (res (rounds oc eye n s)) : sWPT 𝕄 ((Λ₀ F).Result ℓ))
        ≤ wp frame (wpE (defs₀ (F := F)) 𝒱₀ (c : Thread nD τ) (some n)) E (defs₀ (F := F) .tc ℓ (arg s)) := by
  intro n
  induction n with
  | zero =>
    intro s hs K
    rw [hbody s, if_neg hs]
    exact le_wp_ret (wpE := wpE (defs₀ (F := F)) 𝒱₀ (c : Thread nD τ) (some 0)) frame (E := E) (res s) K
  | succ n ih =>
    intro s hs K
    rw [hbody s]
    by_cases hg : going s.1 = 1#1
    · have hr : rounds oc eye (n + 1) s = rounds oc eye n (k0_pay9 oc eye s.1 s.2, k0_pay10 oc eye s.1 s.2) := if_pos hg
      rw [if_pos hg, hr]
      refine BIBase.Entails.trans ?_ (wp_call_spec 𝒱₀ (c : Thread nD τ) (some (n + 1)) E _ n
        (fun u hu => by cases hu; exact Nat.lt_succ_self n) (ih _ (hs hg)))
      exact le_wp_ret (wpE := wpE (defs₀ (F := F)) 𝒱₀ (c : Thread nD τ) (some (n + 1))) frame (E := E)
        (res (rounds oc eye n (k0_pay9 oc eye s.1 s.2, k0_pay10 oc eye s.1 s.2))) K
    · have hr : rounds oc eye (n + 1) s = s := if_neg hg
      rw [if_neg hg, hr]
      exact le_wp_ret (wpE := wpE (defs₀ (F := F)) 𝒱₀ (c : Thread nD τ) (some (n + 1))) frame (E := E) (res s) K

/-- A call of such a label, its loop ending within 256 rounds, goes on with what the rounds leave. -/
theorem call_loop (c : Dev nD) (E : Set ℕ) (ℓ : (Λ₀ F).Label) (arg : Carried F → (Λ₀ F).Args ℓ) (res : Carried F → (Λ₀ F).Result ℓ)
    (oc eye : FVec F S256x256 .f32)
    (hbody : ∀ s : Carried F, defs₀ (F := F) .tc ℓ (arg s)
      = if going s.1 = 1#1 then Prog.lift (.call ℓ (arg (k0_pay9 oc eye s.1 s.2, k0_pay10 oc eye s.1 s.2))) else pure (res s))
    (s : Carried F) (hs : Ends oc eye 256 s) {α : Type} (k : (Λ₀ F).Result ℓ → Prog (TpuEff nD τ sig (Elt F) (Λ₀ F) .tc) α)
    (K : α → sProp 𝕄) :
    wp frame (wpE (defs₀ (F := F)) 𝒱₀ (c : Thread nD τ) none) E (k (res (rounds oc eye 256 s))) K
      ⊢ wp frame (wpE (defs₀ (F := F)) 𝒱₀ (c : Thread nD τ) none) E (Prog.lift (.call ℓ (arg s)) >>= k) K :=
  wp_call_spec 𝒱₀ (c : Thread nD τ) none E _ 256 (fun u hu => nomatch hu) (loop_ends c E ℓ arg res oc eye hbody 256 s hs)

end Cert.Proof.Chunk
-- ==== Proof.NmsParts.lean ====
/- Hand-written, untrusted: the parts of the suppression call's body that settle the chunks, each run once: the values it
   hands on are those of `Rows`, and every loop is answered by its rounds. -/
module

public import proofs.«01_k».proof.Proof.NmsRows
public import proofs.«01_k».proof.Proof.NmsLoop

@[expose] public section

noncomputable section

namespace Cert.Proof.Chunk

open Cert.NmsIdeal Cert.NmsIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weakest precondition of a program of the kernel on core `c`. -/
abbrev run (c : Dev nD) (E : Set ℕ) {α : Type} (p : Prog (TpuEff nD τ sig (Elt F) (Λ₀ F) .tc) α) (K : α → sProp 𝕄) : sProp 𝕄 :=
  wp frame (wpE (defs₀ (F := F)) 𝒱₀ (c : Thread nD τ) none) E p K

theorem ret_wp (c : Dev nD) (E : Set ℕ) {α : Type} (a : α) (K : α → sProp 𝕄) : K a ⊢ run c E (.ret a) K :=
  le_wp_ret frame (wpE (defs₀ (F := F)) 𝒱₀ (c : Thread nD τ) none) E a K

variable (c : Dev nD) (E : Set ℕ) (i : grid0.Coords)
  (arg1 : Memref sig .tc .vmem S1x1x2048 .f32) (harg1 : arg1.IsWhole)
  (arg2 : Memref sig .tc .vmem S1x1x2048 .i32) (harg2 : arg2.IsWhole)
  (arg3 : Memref sig .tc .vmem S1x1x2048 .f32) (harg3 : arg3.IsWhole)
  (arg4 : Memref sig .tc .vmem S1x1x2048 .f32) (harg4 : arg4.IsWhole)
  (arg5 : Memref sig .tc .vmem S1x1x2048 .f32) (harg5 : arg5.IsWhole)
  (arg6 : Memref sig .tc .vmem S1x1x2048 .f32) (harg6 : arg6.IsWhole)
  (arg7 : Memref sig .tc .vmem S1x1x2048 .f32) (harg7 : arg7.IsWhole)
  (arg8 : Memref sig .tc .vmem S1x1x2048 .f32) (harg8 : arg8.IsWhole)
  (arg9 : Memref sig .tc .vmem S1x1x2048 .f32) (harg9 : arg9.IsWhole)
  (arg10 : Memref sig .tc .vmem S1x1x2048 .f32) (harg10 : arg10.IsWhole)
  (arg11 : Memref sig .tc .vmem S1x1x2048 .i32) (harg11 : arg11.IsWhole)
  (R : Rows F)

theorem part6_wp (hR : R.Settles) (K) : K (R.alive 1)
    ⊢ run c E (k0_part6 i arg1 harg1 arg2 harg2 arg3 harg3 arg4 harg4 arg5 harg5 arg6 harg6 arg7 harg7 arg8 harg8 arg9 harg9 arg10 harg10 arg11 harg11 R.x2 R.y2 R.iot R.cand R.ar k0_pay91 (k0_pay92 R.x2) (k0_pay93 R.y2) (col 0 (slc 0) k0_pay91 R.ar) (col 0 (slc 0) k0_pay91 R.cand) (k0_pay96 R.x1) (k0_pay97 R.y1) (k0_pay98 R.y1)) K := by
  rw [k0_part6_eq_skeleton]; unfold k0_part6_skel
  refine BIBase.Entails.trans ?_ (call_loop c E 1 (fun s => ⟨i, R.oc 0, k0_pay91, s.1, s.2⟩) (fun s => (s.1, s.2)) (R.oc 0) k0_pay91
    (fun _ => rfl) (start 0 (R.alive 0)) (hR 0) _ K)
  exact ret_wp c E _ K

theorem part7_wp (K) : K ⟨k0_pay104 R.cand k0_pay91, k0_pay105 R.x1 R.y1 R.x2 R.y2 R.ar k0_pay91, k0_pay106 R.iot⟩
    ⊢ run c E (k0_part7 i arg1 harg1 arg2 harg2 arg3 harg3 arg4 harg4 arg5 harg5 arg6 harg6 arg7 harg7 arg8 harg8 arg9 harg9 arg10 harg10 arg11 harg11 R.x1 R.y1 R.x2 R.y2 R.iot R.cand R.ar k0_pay91) K := by
  rw [k0_part7_eq_skeleton]; unfold k0_part7_skel
  exact ret_wp c E _ K

theorem part8_wp (hR : R.Settles) (K) : K ⟨R.alive 2, k0_pay112 R.ar k0_pay91, k0_pay113 R.cand k0_pay91, k0_pay114 R.x1 R.x2 k0_pay91, k0_pay115 R.y1 R.y2 k0_pay91, k0_pay116 (F := F)⟩
    ⊢ run c E (k0_part8 i arg1 harg1 arg2 harg2 arg3 harg3 arg4 harg4 arg5 harg5 arg6 harg6 arg7 harg7 arg8 harg8 arg9 harg9 arg10 harg10 arg11 harg11 R.x1 R.y1 R.x2 R.y2 R.cand R.ar k0_pay91 (R.alive 1) (k0_pay104 R.cand k0_pay91) (k0_pay105 R.x1 R.y1 R.x2 R.y2 R.ar k0_pay91) (k0_pay106 R.iot)) K := by
  rw [k0_part8_eq_skeleton]; unfold k0_part8_skel
  refine BIBase.Entails.trans ?_ (call_loop c E 2 (fun s => ⟨i, R.oc 1, k0_pay91, s.1, s.2⟩) (fun s => (s.1, s.2)) (R.oc 1) k0_pay91
    (fun _ => rfl) (start 1 (R.alive 1)) (hR 1) _ K)
  exact ret_wp c E _ K

theorem part9_wp (hR : R.Settles) (K) : K ⟨R.alive 3, k0_pay122 R.x1 k0_pay91, k0_pay123 R.y1 k0_pay91, k0_pay124 R.x2 k0_pay91, k0_pay125 R.y2 k0_pay91, k0_pay126 R.ar, constant S256x1 .f32 0x00000000#32⟩
    ⊢ run c E (k0_part9 i arg1 harg1 arg2 harg2 arg3 harg3 arg4 harg4 arg5 harg5 arg6 harg6 arg7 harg7 arg8 harg8 arg9 harg9 arg10 harg10 arg11 harg11 R.x1 R.y1 R.x2 R.y2 R.iot R.ar k0_pay91 (R.alive 2) (k0_pay112 R.ar k0_pay91) (k0_pay113 R.cand k0_pay91) (k0_pay114 R.x1 R.x2 k0_pay91) (k0_pay115 R.y1 R.y2 k0_pay91) (k0_pay116 (F := F))) K := by
  rw [k0_part9_eq_skeleton]; unfold k0_part9_skel
  refine BIBase.Entails.trans ?_ (call_loop c E 3 (fun s => ⟨i, R.oc 2, k0_pay91, s.1, s.2⟩) (fun s => (s.1, s.2)) (R.oc 2) k0_pay91
    (fun _ => rfl) (start 2 (R.alive 2)) (hR 2) _ K)
  exact ret_wp c E _ K

theorem part10_wp (hR : R.Settles) (K) : K ⟨R.mk' 3, (rounds (R.oc 3) k0_pay91 256 (start 3 (R.alive 3))).2⟩
    ⊢ run c E (k0_part10 i arg1 harg1 arg2 harg2 arg3 harg3 arg4 harg4 arg5 harg5 arg6 harg6 arg7 harg7 arg8 harg8 arg9 harg9 arg10 harg10 arg11 harg11 R.x1 R.y1 R.x2 R.y2 R.iot R.cand R.ar k0_pay91 (R.alive 3) (k0_pay122 R.x1 k0_pay91) (k0_pay123 R.y1 k0_pay91) (k0_pay124 R.x2 k0_pay91) (k0_pay125 R.y2 k0_pay91) (k0_pay126 R.ar) (constant S256x1 .f32 0x00000000#32)) K := by
  rw [k0_part10_eq_skeleton]; unfold k0_part10_skel
  refine BIBase.Entails.trans ?_ (call_loop c E 4 (fun s => ⟨i, R.oc 3, k0_pay91, s.1, s.2⟩) (fun s => (s.1, s.2)) (R.oc 3) k0_pay91
    (fun _ => rfl) (start 3 (R.alive 3)) (hR 3) _ K)
  exact ret_wp c E _ K

theorem part11_wp (K) : K ⟨R.alive 4, k0_pay132 R.cand k0_pay91, k0_pay133 R.x1 R.y1 R.x2 R.y2 R.ar k0_pay91⟩
    ⊢ run c E (k0_part11 i arg1 harg1 arg2 harg2 arg3 harg3 arg4 harg4 arg5 harg5 arg6 harg6 arg7 harg7 arg8 harg8 arg9 harg9 arg10 harg10 arg11 harg11 R.x1 R.y1 R.x2 R.y2 R.cand R.ar k0_pay91 (R.alive 3) (R.mk' 3) (rounds (R.oc 3) k0_pay91 256 (start 3 (R.alive 3))).2) K := by
  rw [k0_part11_eq_skeleton]; unfold k0_part11_skel
  exact ret_wp c E _ K

theorem part12_wp (hR : R.Settles) (K) : K ⟨R.alive 5, k0_pay139 R.ar k0_pay91, k0_pay140 R.cand k0_pay91, k0_pay141 R.x1 k0_pay91, k0_pay142 R.y1 k0_pay91, k0_pay143 R.x2 k0_pay91, k0_pay144 R.y2 k0_pay91⟩
    ⊢ run c E (k0_part12 i arg1 harg1 arg2 harg2 arg3 harg3 arg4 harg4 arg5 harg5 arg6 harg6 arg7 harg7 arg8 harg8 arg9 harg9 arg10 harg10 arg11 harg11 R.x1 R.y1 R.x2 R.y2 R.iot R.cand R.ar k0_pay91 (R.alive 4) (k0_pay132 R.cand k0_pay91) (k0_pay133 R.x1 R.y1 R.x2 R.y2 R.ar k0_pay91)) K := by
  rw [k0_part12_eq_skeleton]; unfold k0_part12_skel
  refine BIBase.Entails.trans ?_ (call_loop c E 5 (fun s => ⟨i, R.oc 4, k0_pay91, s.1, s.2⟩) (fun s => (s.1, s.2)) (R.oc 4) k0_pay91
    (fun _ => rfl) (start 4 (R.alive 4)) (hR 4) _ K)
  exact ret_wp c E _ K

theorem part13_wp (hR : R.Settles) (K) : K ⟨R.alive 6, k0_pay150 R.x1 k0_pay91, k0_pay151 R.y1, constant S256x1 .f32 0x00000000#32⟩
    ⊢ run c E (k0_part13 i arg1 harg1 arg2 harg2 arg3 harg3 arg4 harg4 arg5 harg5 arg6 harg6 arg7 harg7 arg8 harg8 arg9 harg9 arg10 harg10 arg11 harg11 R.x1 R.y1 R.y2 R.iot R.ar k0_pay91 (R.alive 5) (k0_pay139 R.ar k0_pay91) (k0_pay140 R.cand k0_pay91) (k0_pay141 R.x1 k0_pay91) (k0_pay142 R.y1 k0_pay91) (k0_pay143 R.x2 k0_pay91) (k0_pay144 R.y2 k0_pay91)) K := by
  rw [k0_part13_eq_skeleton]; unfold k0_part13_skel
  refine BIBase.Entails.trans ?_ (call_loop c E 6 (fun s => ⟨i, R.oc 5, k0_pay91, s.1, s.2⟩) (fun s => (s.1, s.2)) (R.oc 5) k0_pay91
    (fun _ => rfl) (start 5 (R.alive 5)) (hR 5) _ K)
  exact ret_wp c E _ K

theorem part14_wp (K) : K ⟨R.mk' 6, R.oc 6⟩
    ⊢ run c E (k0_part14 i arg1 harg1 arg2 harg2 arg3 harg3 arg4 harg4 arg5 harg5 arg6 harg6 arg7 harg7 arg8 harg8 arg9 harg9 arg10 harg10 arg11 harg11 R.x1 R.y1 R.x2 R.y2 R.iot R.cand R.ar k0_pay91 (k0_pay150 R.x1 k0_pay91) (k0_pay151 R.y1) (constant S256x1 .f32 0x00000000#32)) K := by
  rw [k0_part14_eq_skeleton]; unfold k0_part14_skel
  exact ret_wp c E _ K

theorem part15_wp (hR : R.Settles) (K) : K ⟨R.alive 7, k0_pay157 R.cand k0_pay91, k0_pay158 R.x1 R.y1 R.x2 R.y2 k0_pay91, k0_pay159 R.ar k0_pay91⟩
    ⊢ run c E (k0_part15 i arg1 harg1 arg2 harg2 arg3 harg3 arg4 harg4 arg5 harg5 arg6 harg6 arg7 harg7 arg8 harg8 arg9 harg9 arg10 harg10 arg11 harg11 R.x1 R.y1 R.x2 R.y2 R.cand R.ar k0_pay91 (R.alive 6) (R.mk' 6) (R.oc 6)) K := by
  rw [k0_part15_eq_skeleton]; unfold k0_part15_skel
  refine BIBase.Entails.trans ?_ (call_loop c E 7 (fun s => ⟨i, R.oc 6, k0_pay91, s.1, s.2⟩) (fun s => (s.1, s.2)) (R.oc 6) k0_pay91
    (fun _ => rfl) (start 6 (R.alive 6)) (hR 6) _ K)
  exact ret_wp c E _ K

end Cert.Proof.Chunk
-- ==== Proof.NmsBody.lean ====
/- Hand-written, untrusted: the suppression call's body on its blocks. -/
module

public import proofs.«01_k».proof.Proof.NmsParts
public import proofs.«01_k».proof.Proof.Gen.NmsIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.Chunk

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The one block every window has. -/
abbrev rW : Rect S1x1x2048 := Rect.unit (s := S1x1x2048) ![0, 0, 0] S1x1x2048.size inb_S1x1x2048_S1x1x2048_0_0_0

/-! ## The boxes of one image -/

section Boxes

variable (x1 : Vec F S1x1x2048 .i32) (x2 x3 x4 x5 : Vec F S1x1x2048 .f32)

/-- Which of a pixel's fifteen anchors a row is. -/
def anch : IVec S1x2048 32 := k0_pay50 (View.ld x1 rW)

def v107 : FVec F S1x2048 .f32 := k0_pay70 (anch x1) (k0_pay62 (anch x1) k0_pay51 k0_pay53)
def v109 : FVec F S1x2048 .f32 := k0_pay71 (anch x1) (k0_pay60 (anch x1) k0_pay52 k0_pay53) (k0_pay61 (anch x1)) k0_pay63

/-- The boxes' corners, clipped to the image. -/
def bx1 : FVec F S1x2048 .f32 := k0_pay81 (k0_pay46 (View.ld x2 rW)) (k0_pay49 (View.ld x5 rW)) (anch x1) (v107 x1) (k0_pay72 (anch x1)) k0_pay73
def by1 : FVec F S1x2048 .f32 := k0_pay82 (k0_pay47 (View.ld x3 rW)) (k0_pay48 (View.ld x4 rW)) (anch x1) (v109 x1) (k0_pay72 (anch x1))
def bx2 : FVec F S1x2048 .f32 := k0_pay83 (k0_pay46 (View.ld x2 rW)) (k0_pay49 (View.ld x5 rW)) (anch x1) (v107 x1) (k0_pay72 (anch x1)) k0_pay73
def by2 : FVec F S1x2048 .f32 := k0_pay84 (k0_pay47 (View.ld x3 rW)) (k0_pay48 (View.ld x4 rW)) (anch x1) (v109 x1) (k0_pay72 (anch x1))

/-- The boxes' sides as the size test reads them. -/
def bw : FVec F S1x2048 .f32 := k0_pay86 (k0_pay46 (View.ld x2 rW)) (k0_pay49 (View.ld x5 rW)) (anch x1) (v107 x1) (k0_pay72 (anch x1)) k0_pay73
def bh : FVec F S1x2048 .f32 := k0_pay87 (k0_pay47 (View.ld x3 rW)) (k0_pay48 (View.ld x4 rW)) (anch x1) (v109 x1) (k0_pay72 (anch x1))

/-- Whether a box is large enough. -/
def bok : IVec S1x2048 1 :=
  k0_pay88 (bx2 x1 x2 x5) (by2 x1 x3 x4) (bw x1 x2 x5) (bh x1 x3 x4) (Scalar.ofBits .f32 0x00000000#32)

/-- The rows of the image. -/
def rowsOf : Rows F where
  x1 := bx1 x1 x2 x5
  y1 := by1 x1 x3 x4
  x2 := bx2 x1 x2 x5
  y2 := by2 x1 x3 x4
  ar := k0_pay90 (bx1 x1 x2 x5) (by1 x1 x3 x4) (bx2 x1 x2 x5) (by2 x1 x3 x4)
  cand := k0_pay89 (bx2 x1 x2 x5) (by2 x1 x3 x4) k0_pay85 (bw x1 x2 x5) (bh x1 x3 x4) (Scalar.ofBits .f32 0x00000000#32)
  iot := iota .tc S1x2048 32 [1] iota_S1x2048_d1_w32

/-! ## What the body leaves -/

def out0_6 : Vec F S1x1x2048 .f32 := View.canon [⟨rW, k0_pay1 (rowsOf x1 x2 x3 x4 x5).x1⟩]
def out0_7 : Vec F S1x1x2048 .f32 := View.canon [⟨rW, k0_pay2 (rowsOf x1 x2 x3 x4 x5).y1⟩]
def out0_8 : Vec F S1x1x2048 .f32 := View.canon [⟨rW, k0_pay3 (rowsOf x1 x2 x3 x4 x5).x2⟩]
def out0_9 : Vec F S1x1x2048 .f32 := View.canon [⟨rW, k0_pay4 (rowsOf x1 x2 x3 x4 x5).y2⟩]
def out0_10 : Vec F S1x1x2048 .i32 :=
  View.canon [⟨rW, k0_pay5 (group ((rowsOf x1 x2 x3 x4 x5).alive 8) k0_pay85 (bok x1 x2 x3 x4 x5))⟩]

end Boxes

/-- The one store covers a float result's block, -/
theorem coverF (p0 : Vec F S1x1x2048 .f32) (y : S1x1x2048.Idx) :
    ∃ pc ∈ ([⟨rW, p0⟩] : List (View.Piece (Elt F) S1x1x2048 .f32)), y ∈ pc.1.set :=
  View.cover_of_tiled [⟨rW, p0⟩] S1x1x2048.size (by rfl) y

/-- and the codes' block. -/
theorem coverI (p0 : Vec F S1x1x2048 .i32) (y : S1x1x2048.Idx) :
    ∃ pc ∈ ([⟨rW, p0⟩] : List (View.Piece (Elt F) S1x1x2048 .i32)), y ∈ pc.1.set :=
  View.cover_of_tiled [⟨rW, p0⟩] S1x1x2048.size (by rfl) y

set_option maxHeartbeats 4000000 in
/-- The body on its blocks, where the image's loops end: the inputs' buffers as they were, the outputs' at `out0_W`. -/
theorem sound_kernel (c : Dev nD) (E : Set ℕ) (i : grid0.Coords)
    (arg1 : Memref sig .tc .vmem S1x1x2048 .f32) (harg1 : arg1.IsWhole) (arg2 : Memref sig .tc .vmem S1x1x2048 .i32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x1x2048 .f32) (harg10 : arg10.IsWhole) (arg11 : Memref sig .tc .vmem S1x1x2048 .i32) (harg11 : arg11.IsWhole)
    (x0 : Vec F S1x1x2048 .f32) (x1 : Vec F S1x1x2048 .i32) (x2 x3 x4 x5 : Vec F S1x1x2048 .f32) (K : PUnit → sProp 𝕄)
    (hR : (rowsOf x1 x2 x3 x4 x5).Settles) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x1 x2 x3 x4 x5) ∗ owns (c : Thread nD τ) arg8 fullShare (out0_7 x1 x2 x3 x4 x5) ∗ owns (c : Thread nD τ) arg9 fullShare (out0_8 x1 x2 x3 x4 x5) ∗ owns (c : Thread nD τ) arg10 fullShare (out0_9 x1 x2 x3 x4 x5) ∗ owns (c : Thread nD τ) arg11 fullShare (out0_10 x1 x2 x3 x4 x5)) -∗ K ⟨⟩))
      ⊢ wp frame (wpE (defs₀ (F := F)) 𝒱₀ (c : Thread nD τ) none) E (cc0__nms_body i arg1 harg1 arg2 harg2 arg3 harg3 arg4 harg4 arg5 harg5 arg6 harg6 arg7 harg7 arg8 harg8 arg9 harg9 arg10 harg10 arg11 harg11) K := by
  simp only [cc0__nms_body_eq_skeleton]; unfold cc0__nms_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  set_option sl_exec.stopBefore "k0_part6" in sl_exec
  rw [wp_bind]; refine BIBase.Entails.trans ?_ (part6_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) hR _); dsimp only []
  rw [wp_bind]; refine BIBase.Entails.trans ?_ (part7_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) _); dsimp only []
  rw [wp_bind]; refine BIBase.Entails.trans ?_ (part8_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) hR _); dsimp only []
  rw [wp_bind]; refine BIBase.Entails.trans ?_ (part9_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) hR _); dsimp only []
  rw [wp_bind]; refine BIBase.Entails.trans ?_ (part10_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) hR _); dsimp only []
  rw [wp_bind]; refine BIBase.Entails.trans ?_ (part11_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) _); dsimp only []
  rw [wp_bind]; refine BIBase.Entails.trans ?_ (part12_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) hR _); dsimp only []
  rw [wp_bind]; refine BIBase.Entails.trans ?_ (part13_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) hR _); dsimp only []
  rw [wp_bind]; refine BIBase.Entails.trans ?_ (part14_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) _); dsimp only []
  rw [wp_bind]; refine BIBase.Entails.trans ?_ (part15_wp c E i arg1 harg1 arg2 harg2 arg3 harg3 arg4 harg4 arg5 harg5 arg6 harg6 arg7 harg7 arg8 harg8 arg9 harg9 arg10 harg10 arg11 harg11 (rowsOf (arg2.view.read (Elt F) f1) (arg3.view.read (Elt F) f2) (arg4.view.read (Elt F) f3) (arg5.view.read (Elt F) f4) (arg6.view.read (Elt F) f5)) hR _); dsimp only []
  rw [wp_bind, k0_part16_eq_skeleton]; unfold k0_part16_skel
  refine BIBase.Entails.trans ?_ (call_loop c E 8 (fun s => ⟨i, ((rowsOf (arg2.view.read (Elt F) f1) (arg3.view.read (Elt F) f2) (arg4.view.read (Elt F) f3) (arg5.view.read (Elt F) f4) (arg6.view.read (Elt F) f5)) : Rows F).oc 7, k0_pay91, s.1, s.2⟩) (fun s => (s.1, s.2))
    (((rowsOf (arg2.view.read (Elt F) f1) (arg3.view.read (Elt F) f2) (arg4.view.read (Elt F) f3) (arg5.view.read (Elt F) f4) (arg6.view.read (Elt F) f5)) : Rows F).oc 7) k0_pay91 (fun _ => rfl) (start 7 (((rowsOf (arg2.view.read (Elt F) f1) (arg3.view.read (Elt F) f2) (arg4.view.read (Elt F) f3) (arg5.view.read (Elt F) f4) (arg6.view.read (Elt F) f5)) : Rows F).alive 7)) (hR 7) _ _)
  dsimp only []
  istart
  iintro ⟨⟨⟨⟨⟨⟨⟨⟨⟨⟨⟨H0, H1⟩, H2⟩, H3⟩, H4⟩, H5⟩, H6⟩, H7⟩, H8⟩, H9⟩, H10⟩, Hk⟩
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (coverF _)
  isplitl [H7]
  · iexists _; isplitr
    swap; · iexact H7
    ipureintro; exact View.read_writes_eq_canon _ _ _ (coverF _)
  isplitl [H8]
  · iexists _; isplitr
    swap; · iexact H8
    ipureintro; exact View.read_writes_eq_canon _ _ _ (coverF _)
  isplitl [H9]
  · iexists _; isplitr
    swap; · iexact H9
    ipureintro; exact View.read_writes_eq_canon _ _ _ (coverF _)
  iexists _; isplitr
  swap; · iexact H10
  ipureintro; exact View.read_writes_eq_canon _ _ _ (coverI _)

end Cert.Proof.Chunk
-- ==== Proof.NmsFrame.lean ====
/- Hand-written, untrusted: the suppression call's launch. -/
module

public import proofs.«01_k».proof.Proof.NmsBody
public import proofs.«01_k».proof.Proof.Gen.NmsIdeal.Launch
public import Idealize.ShloMosaic.Lib.Pipeline.FrameSuffix
public import Idealize.ShloMosaic.Lib.Claim

@[expose] public section

set_option maxRecDepth 16384

noncomputable section

namespace Cert.Proof.Chunk

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call is entered. -/
abbrev V₀ (c : Dev nD) : Valuation τ sig (Elt F) := StableHlo.after [hostOps0, hostOps0_1, hostOps0_2].flatten (fun b => m (c, b))

/-- The same, buffer by buffer. -/
abbrev V (c : Dev nD) (b : Ref sig .tc) : Buf (Elt F) ((c : Thread nD τ).loc b) := V₀ m c b

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The proof data: the arrays as the call finds them; after the body the inputs' buffers at their blocks and the results' at
    what the body leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 1 t) (iblk m c 2 t) (iblk m c 3 t) (iblk m c 4 t) (iblk m c 5 t)
    | ⟨7, _⟩ => out0_7 (iblk m c 1 t) (iblk m c 2 t) (iblk m c 3 t) (iblk m c 4 t) (iblk m c 5 t)
    | ⟨8, _⟩ => out0_8 (iblk m c 1 t) (iblk m c 2 t) (iblk m c 3 t) (iblk m c 4 t) (iblk m c 5 t)
    | ⟨9, _⟩ => out0_9 (iblk m c 1 t) (iblk m c 2 t) (iblk m c 3 t) (iblk m c 4 t) (iblk m c 5 t)
    | ⟨10, _⟩ => out0_10 (iblk m c 1 t) (iblk m c 2 t) (iblk m c 3 t) (iblk m c 4 t) (iblk m c 5 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = out0_6 (iblk m c 1 t) (iblk m c 2 t) (iblk m c 3 t) (iblk m c 4 t) (iblk m c 5 t) := by dsimp only [dats]; rfl
theorem after0_7 (c : Dev nD) (t : Fin (cfg0 (F := F)).N) : (dats m 0 c).after 7 t = out0_7 (iblk m c 1 t) (iblk m c 2 t) (iblk m c 3 t) (iblk m c 4 t) (iblk m c 5 t) := by dsimp only [dats]; rfl
theorem after0_8 (c : Dev nD) (t : Fin (cfg0 (F := F)).N) : (dats m 0 c).after 8 t = out0_8 (iblk m c 1 t) (iblk m c 2 t) (iblk m c 3 t) (iblk m c 4 t) (iblk m c 5 t) := by dsimp only [dats]; rfl
theorem after0_9 (c : Dev nD) (t : Fin (cfg0 (F := F)).N) : (dats m 0 c).after 9 t = out0_9 (iblk m c 1 t) (iblk m c 2 t) (iblk m c 3 t) (iblk m c 4 t) (iblk m c 5 t) := by dsimp only [dats]; rfl
theorem after0_10 (c : Dev nD) (t : Fin (cfg0 (F := F)).N) : (dats m 0 c).after 10 t = out0_10 (iblk m c 1 t) (iblk m c 2 t) (iblk m c 3 t) (iblk m c 4 t) (iblk m c 5 t) := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-- Every image's loops end. -/
def AllSettle : Prop := ∀ (c : Dev nD) (t : Fin (cfg0 (F := F)).N), (rowsOf (F := F) (iblk m c 1 t) (iblk m c 2 t) (iblk m c 3 t) (iblk m c 4 t) (iblk m c 5 t)).Settles

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (hS : AllSettle m) (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) _ (hS c t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (hS : AllSettle m) (c : Dev nD) :
    BodyObligation (dats (F := F) m 0 c) (defs₀ (F := F)) 𝒱₀ () Set.univ := fun t => by
  rw [bigSep_W0, bigSep_W0, defs₀_row]
  exact triple_restated (sound_body m hS c t) rfl .rfl fun _ => .rfl

/-- The buffers the lines after the call write. -/
abbrev tail_W : List (Ref sig .tc) := [main_v30, main_v31, main_v32, main_v33, main_v34, main_call1_v0, main_call1_v1_0, main_v35, main_v36, main_v37, main_v38, main_v39, main_v40, main_v41, main_v42, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v43]

theorem hostOps0_fresh : (hostOps0 : List (HloOp τ sig (Elt F))).Forall fun op => op.fresh = ∅ := StableHlo.forall_fresh_of_map rfl
theorem hostOps0_1_fresh : (hostOps0_1 : List (HloOp τ sig (Elt F))).Forall fun op => op.fresh = ∅ := StableHlo.forall_fresh_of_map rfl
theorem hostOps0_2_fresh : (hostOps0_2 : List (HloOp τ sig (Elt F))).Forall fun op => op.fresh = ∅ := StableHlo.forall_fresh_of_map rfl

/-- The lines after the call. -/
abbrev tails : List (List (HloOp τ sig (Elt F))) := [hostOps1, hostOps1_1, hostOps1_2, hostOps1_3]

theorem tails_fresh : ∀ ops ∈ (tails : List (List (HloOp τ sig (Elt F)))), ops.Forall fun op => op.fresh = ∅ :=
  List.forall_iff_forall_mem.mp ⟨StableHlo.forall_fresh_of_map rfl, StableHlo.forall_fresh_of_map rfl, StableHlo.forall_fresh_of_map rfl,
    StableHlo.forall_fresh_of_map rfl⟩

theorem tails_sub : ∀ ops ∈ (tails : List (List (HloOp τ sig (Elt F)))), ops.Forall fun op => op.bufs ⊆ StableHlo.tcRefs τ sig :=
  List.forall_iff_forall_mem.mp ⟨hostOps1_sub, hostOps1_1_sub, hostOps1_2_sub, hostOps1_3_sub⟩

theorem tails_writes : (tails (F := F)).flatten.Forall fun op => op.writes ⊆ (tail_W.map (Proc.devRef (τ := τ) .tc)).toFinset :=
  StableHlo.forall_writes_sub_of_map rfl

theorem hmain : Pipeline.HMainK (Ix := Unit) (Name := ℕ) (U := UR sig nD τ) (Lvl := ℕ) cfgs 0 defs₀ 𝒱₀ m (main (F := F))
    (fun c b => V₀ m c (Proc.devRef .tc b)) (fun _ => Pipeline.chain (tails.map StableHlo.seq)) :=
  Pipeline.hmain_around cfgs 0 defs₀ 𝒱₀ m main [hostOps0, hostOps0_1, hostOps0_2] tails ⟨hostOps0_sub, hostOps0_1_sub, hostOps0_2_sub⟩
    ⟨hostOps0_fresh, hostOps0_1_fresh, hostOps0_2_fresh⟩ main_chain

/-- No line after the call writes a window's array. -/
theorem hkeep : ∀ ops ∈ (tails : List (List (HloOp τ sig (Elt F)))), ∀ op ∈ ops, ∀ w,
    Proc.devRef .tc (Pipeline.arrRef spec0 w) ∉ op.writes := by
  intro ops ho op h w hb
  obtain ⟨y, hy, he⟩ := List.mem_map.mp (List.mem_toFinset.mp ((List.forall_iff_forall_mem.mp tails_writes) op (List.mem_flatten.mpr ⟨ops, ho, h⟩) hb))
  have hn : ∀ w, Pipeline.arrRef spec0 w ∉ tail_W := by decide +kernel
  exact hn w (Proc.devRef_injective _ he ▸ hy)

set_option backward.isDefEq.respectTransparency.types false in
set_option maxHeartbeats 800000 in
/-- The launch. -/
theorem run_main (hS : AllSettle m) : θ_run defs (onTc (τ := τ) (main (F := F))) (s₀ m ρ)
    (fun r => Pipeline.FramePost cfgs (dats m) 0 (Pipeline.afterTail₀ cfgs (dats m) 0 (V₀ m) tails) r ∧ r.2.sem = fun _ => 0) :=
  Pipeline.θ_run_frame_around (Q' := _) cfgs (dats m) (0 : Fin 1) launch0 defs₀ 𝒱₀ m ρ main
    (hbody := fun c => (body_obligation m hS c).loose) (hshare := fun c => (dats m 0 c).share_full fun _ => rfl)
    (howed := fun _ _ => rfl) (V₀ := V₀ m) (opss := tails)
    (hsub := fun ops ho op h => Pipeline.sub_tailRefs _ _ op
      (List.forall_iff_forall_mem.mp (tails_sub ops ho) op h) (fun k => k.elim0))
    (hfresh := fun ops ho op h => List.forall_iff_forall_mem.mp (tails_fresh ops ho) op h)
    (hkeep := hkeep) (hmain := hmain m) (hA := A_eq m) (hΦ := fun _ _ => rfl)
    (hQ' := fun _ h => h)

end Cert.Proof.Chunk
-- ==== Proof.ChunkSpec.lean ====
/- Hand-written, untrusted: one chunk of the suppression call as a step of greedy suppression. -/
module

public import proofs.«01_k».proof.Proof.Chunk

@[expose] public section

noncomputable section

namespace Cert.Proof.Chunk

open Cert.NmsIdeal Cert.NmsIdeal.Gen Idealize.ShloMosaic Idealize.ShloMosaic.TcCoe Idealize.SL.Sem

/-- One chunk: its rounds end, and the rows still in after it are those still in before it that no kept row of the chunk
    suppresses. -/
theorem chunk_spec (w : ℕ) (hw : w + 256 ≤ 2048) (h : S1x2048.Slices ![0, w] S1x256) (h' : S256x2048.Slices ![0, w] S256x256)
    (x1 y1 x2 y2 ar cand al : FVec Ideal S1x2048 .f32) (iot : IVec S1x2048 32) (hi : ∀ j : Fin 2048, iot (ix2 0 j) = BitVec.ofNat 32 j)
    (C : ℕ → Prop) (hC : ∀ n, n < 2048 → at' cand n = ind (C n))
    (hal : ∀ n, n < 2048 → at' al n = ind (Greedy.Alive C (OverP x1 y1 x2 y2 ar) w n)) :
    let mk := mask w (BitVec.ofNat 32 w) h k0_pay91 x1 y1 x2 y2 ar cand iot
    let s : FVec Ideal S256x1 .f32 × FVec Ideal S256x1 .f32 := (dead w h k0_pay91 al, none0)
    Ends (own w h' mk) k0_pay91 256 s
      ∧ ∀ n, n < 2048 → at' (survive mk al (rounds (own w h' mk) k0_pay91 256 s).2) n
          = ind (Greedy.Alive C (OverP x1 y1 x2 y2 ar) (w + 256) n) := by
  intro mk s
  set S := OverP x1 y1 x2 y2 ar with hS
  have hmk : ∀ (i : Fin 256) (j : Fin 2048), mk (ix2 i j) = ind ((S (w + i) j ∧ w + i.val < j.val) ∧ C (w + i)) := mask_apply w hw h x1 y1 x2 y2 ar cand iot hi C hC
  have hoc : ∀ j i : Fin 256, own w h' mk (ix2 j i) = ind (j < i ∧ S (w + j) (w + i) ∧ C (w + j)) := by
    intro j i
    rw [own_apply w hw h', hmk]
    refine ind_congr ⟨fun ⟨⟨a, b⟩, c⟩ => ⟨Fin.lt_def.mpr (by simpa using b), a, c⟩, fun ⟨a, b, c⟩ => ⟨⟨b, ?_⟩, c⟩⟩
    have := Fin.lt_def.mp a
    show w + j.val < w + i.val
    omega
  obtain ⟨he, hr⟩ := rounds_spec (own w h' mk) _ (fun i => Greedy.Alive C S w (w + i)) (fun i => Greedy.Kept C S (w + i)) hoc
    (fun j i hji => hji.1) (Greedy.kept_chunk C S w) 256 0 rfl (dead w h k0_pay91 al) none0 _ (fun _ => False)
    (dead_apply w hw h al _ hal) (fun i => by rw [none0_apply, ind_false (fun h => h)]) (fun i hd => not_not.mp hd)
    ⟨fun i hd => ⟨False.elim, fun g => hd (((Greedy.kept_chunk C S w i).mp g).1)⟩, fun i hi => absurd hi (Nat.not_lt_zero _)⟩
  refine ⟨he, fun n hn => ?_⟩
  unfold at'
  rw [dif_pos hn, survive_apply mk al _ _ _ _ hmk hal hr]
  refine ind_congr ?_
  rw [Greedy.alive_add]
  refine and_congr_right fun _ => ⟨fun hno j h1 h2 h3 hk hs => hno ?_, fun hall ⟨i, ⟨⟨hs, hlt⟩, _⟩, hk⟩ => ?_⟩
  · obtain ⟨d, rfl⟩ := Nat.exists_eq_add_of_le h1
    exact ⟨⟨d, by omega⟩, ⟨⟨hs, h3⟩, Greedy.kept_candidate hk⟩, hk⟩
  · exact hall (w + i) (by omega) (by omega) hlt hk hs

end Cert.Proof.Chunk
-- ==== Proof.NmsSettle.lean ====
/- Hand-written, untrusted: over the extended reals every chunk's loop ends, and the rows left are the greedy choice's. -/
module

public import proofs.«01_k».proof.Proof.NmsRows
public import proofs.«01_k».proof.Proof.ChunkSpec

@[expose] public section

noncomputable section

namespace Cert.Proof.Chunk

open Cert.NmsIdeal Cert.NmsIdeal.Gen Idealize.ShloMosaic Idealize.ShloMosaic.TcCoe Idealize.SL.Sem

variable (R : Rows Ideal) (hi : ∀ j : Fin 2048, R.iot (ix2 0 j) = BitVec.ofNat 32 j)
  (C : ℕ → Prop) (hC : ∀ n, n < 2048 → at' R.cand n = ind (C n))

include hi hC

/-- Before chunk `k` the rows still in are those alive before row `256 k`. -/
theorem alive_spec (k : ℕ) (hk : k ≤ 8) : ∀ n, n < 2048 →
    at' (R.alive k) n = ind (Greedy.Alive C (OverP R.x1 R.y1 R.x2 R.y2 R.ar) (256 * k) n) := by
  induction k with
  | zero =>
    intro n hn
    show at' R.cand n = _
    rw [hC n hn]
    exact ind_congr (Greedy.alive_zero C _ n).symm
  | succ k ih =>
    intro n hn
    have h8 : k < 8 := hk
    have he : R.alive (k + 1) = R.after ⟨k, h8⟩ (R.alive k) := by
      show (if h : k < 8 then R.after ⟨k, h⟩ (R.alive k) else R.alive k) = _
      rw [dif_pos h8]
    rw [he]
    exact (chunk_spec (256 * k) (by omega) (slc ⟨k, h8⟩) (slo ⟨k, h8⟩) R.x1 R.y1 R.x2 R.y2 R.ar R.cand (R.alive k) R.iot hi C hC
      (ih (by omega))).2 n hn

/-- Every chunk's loop ends. -/
theorem settles_spec : R.Settles := fun k =>
  (chunk_spec (256 * k.val) (by omega) (slc k) (slo k) R.x1 R.y1 R.x2 R.y2 R.ar R.cand (R.alive k) R.iot hi C hC
    (alive_spec R hi C hC k.val k.isLt.le)).1

/-- After the last chunk the rows still in are the greedy choice. -/
theorem kept_spec (n : ℕ) (hn : n < 2048) :
    at' (R.alive 8) n = ind (Greedy.Kept C (OverP R.x1 R.y1 R.x2 R.y2 R.ar) n) := by
  rw [alive_spec R hi C hC 8 le_rfl n hn]
  exact ind_congr (Greedy.alive_iff_kept C _ (256 * 8) n hn.le)

end Cert.Proof.Chunk
-- ==== Proof.NmsCand.lean ====
/- Hand-written, untrusted: the candidates of an image, and that its loops end. -/
module

public import proofs.«01_k».proof.Proof.NmsSettle
public import proofs.«01_k».proof.Proof.NmsFrame

@[expose] public section

noncomputable section

namespace Cert.Proof.Chunk

open Cert.NmsIdeal Cert.NmsIdeal.Gen Idealize.ShloMosaic Idealize.ShloMosaic.TcCoe Idealize.SL.Sem

/-- A bit widened and converted is the bit's indicator. -/
theorem sitofp_bit (b : BitVec 1) : (FloatOps.sitofp (F := Ideal) .f32 (BitVec.setWidth 32 b) : EReal) = ind (b = 1#1) := by
  have h : b = BitVec.ofBool (decide (b = 1#1)) := by revert b; decide
  rw [h, sitofp_ofBool]
  exact ind_congr (by revert b; decide)

section

variable (x1 : Vec Ideal S1x1x2048 .i32) (x2 x3 x4 x5 : Vec Ideal S1x1x2048 .f32)

/-- Row `n` is a candidate: its box is large enough and it is one of the 2000 proposals. -/
def CandP (n : ℕ) : Prop := ∃ h : n < 2048, andi (bok x1 x2 x3 x4 x5) k0_pay85 (ix2 0 (⟨n, h⟩ : Fin 2048)) = 1#1

theorem cand_apply (n : ℕ) (hn : n < 2048) : at' (rowsOf x1 x2 x3 x4 x5).cand n = ind (CandP x1 x2 x3 x4 x5 n) := by
  unfold at'
  rw [dif_pos hn]
  refine (sitofp_bit (andi (bok x1 x2 x3 x4 x5) k0_pay85 (ix2 0 (⟨n, hn⟩ : Fin 2048)))).trans (ind_congr ?_)
  exact ⟨fun h => ⟨hn, h⟩, fun ⟨_, h⟩ => h⟩

theorem iot_apply (j : Fin 2048) : (rowsOf x1 x2 x3 x4 x5).iot (ix2 0 j) = BitVec.ofNat 32 j := by
  show iota .tc S1x2048 32 [1] iota_S1x2048_d1_w32 (ix2 0 j) = _
  pointwise []

theorem rows_settle : (rowsOf x1 x2 x3 x4 x5).Settles :=
  settles_spec _ (iot_apply x1 x2 x3 x4 x5) _ (cand_apply x1 x2 x3 x4 x5)

/-- The rows left at the end are the greedy choice among the candidates. -/
theorem rows_kept (n : ℕ) (hn : n < 2048) :
    at' ((rowsOf x1 x2 x3 x4 x5).alive 8) n = ind (Greedy.Kept (CandP x1 x2 x3 x4 x5)
      (OverP (rowsOf x1 x2 x3 x4 x5).x1 (rowsOf x1 x2 x3 x4 x5).y1 (rowsOf x1 x2 x3 x4 x5).x2 (rowsOf x1 x2 x3 x4 x5).y2 (rowsOf x1 x2 x3 x4 x5).ar) n) :=
  kept_spec _ (iot_apply x1 x2 x3 x4 x5) _ (cand_apply x1 x2 x3 x4 x5) n hn

end

theorem all_settle (m : (ℓ : Loc nD τ sig) → Buf (Elt Ideal) ℓ) : AllSettle m := fun c t => rows_settle _ _ _ _ _

end Cert.Proof.Chunk
-- ==== Proof.NmsRun.lean ====
/- Hand-written, untrusted: the suppression call's run at the ideal values. Grid point `t` is image `t`; it writes back row `t`
   of each result, so every result is, image by image, what the body leaves there. -/
module

public import proofs.«01_k».proof.Proof.NmsFrame
public import proofs.«01_k».proof.Proof.NmsCand
public import Idealize.ShloMosaic.Lib.Pipeline.Value
public import Idealize.ShloMosaic.Lib.Pointwise

@[expose] public section

set_option maxRecDepth 16384

noncomputable section

namespace Cert.Proof.Chunk

open Cert.NmsIdeal Cert.NmsIdeal.Gen Idealize.ShloMosaic Idealize.ShloMosaic.TcCoe Idealize.SL.Sem
open Idealize.ShloMosaic.Pipeline (Dat)

/-- Image `b`'s row of an array, as the body's block. -/
def row1 {α : Type} (a : S2x2048.Idx → α) (b : Fin 2) : S1x1x2048.Idx → α := fun y => a (ix2 b (y 2))

variable (m : (ℓ : Loc nD τ sig) → Buf (Elt Ideal) ℓ) (ρ : Dev nD → PrngReg)

/-! ## What the lines around the call do -/

/-- The buffers the lines before the call write. -/
abbrev head_W : List (Ref sig .tc) := [main_v0, main_values, main_indices, main_cst, main_v1, main_c, main_v2, main_v3, main_v4, main_v5, main_v6, main_v7, main_c_0, main_v8, main_v9, main_v10, main_v11, main_v12, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v13, main_v14, main_v15, main_v16, main_v17, main_v18, main_v19, main_v20, main_v21, main_v22, main_v23, main_v24, main_v25, main_v26, main_v27, main_v28]

theorem heads_writes : ([hostOps0, hostOps0_1, hostOps0_2] : List (List (HloOp τ sig (Elt Ideal)))).flatten.Forall
    fun op => op.writes ⊆ (head_W.map (Proc.devRef (τ := τ) .tc)).toFinset := StableHlo.forall_writes_sub_of_map rfl

/-- A buffer that no line before the call writes is as launched when the call is entered. -/
theorem V_arg (c : Dev nD) (b : Ref sig .tc) (hb : b ∈ [main_arg0, main_arg1]) : V m c b = m ((c : Thread nD τ).loc b) :=
  StableHlo.after_of_writes_sub _ _ heads_writes ((by decide +kernel : ∀ b ∈ [main_arg0, main_arg1], b ∉ head_W) b hb)

/-- The arguments are as launched after the lines that follow the call. -/
theorem tail_arg (c : Dev nD) (b : Ref sig .tc) (hb : b ∈ [main_arg0, main_arg1]) :
    Pipeline.afterTail₀ cfgs (dats m) 0 (V₀ m) tails c b = m ((c : Thread nD τ).loc b) := by
  refine (StableHlo.after_of_writes_sub _ _ tails_writes ((by decide +kernel : ∀ b ∈ [main_arg0, main_arg1], b ∉ tail_W) b hb)).trans
    ((Pipeline.withArrays_of_ne spec0 c (V₀ m c) _ b ?_).trans (V_arg m c b hb))
  simp only [List.mem_cons, List.not_mem_nil, or_false] at hb
  rcases hb with rfl | rfl <;> decide

theorem arg_kept (r : PUnit × MemSt nD τ sig (Elt Ideal))
    (h : Pipeline.FramePost cfgs (dats m) 0 (Pipeline.afterTail₀ cfgs (dats m) 0 (V₀ m) tails) r) (c : Dev nD) :
    r.2.mem ((c : Thread nD τ).loc main_arg0) = m ((c : Thread nD τ).loc main_arg0)
    ∧ r.2.mem ((c : Thread nD τ).loc main_arg1) = m ((c : Thread nD τ).loc main_arg1) :=
  ⟨((h c).2 main_arg0 (Pipeline.mem_restRefs_of _ (by decide) (by decide))).trans (tail_arg m c _ (by decide)),
   ((h c).2 main_arg1 (Pipeline.mem_restRefs_of _ (by decide) (by decide))).trans (tail_arg m c _ (by decide))⟩

/-- The call ends, its arguments as launched and every counter at zero. -/
theorem nms_frame : θ_run (defs (F := Ideal)) (onTc (τ := τ) (main (F := Ideal))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun r h => ⟨arg_kept m r h.1, h.2⟩) (run_main m ρ (all_settle m))

end Cert.Proof.Chunk
-- ==== Proof.NmsRefRun.lean ====
/- Hand-written, untrusted: the run of the suppression call's reference. -/
module

public import proofs.«01_k».proof.Defs
public import proofs.«01_k».proof.Proof.Gen.NmsRefIdeal
public import proofs.«01_k».proof.Proof.Gen.NmsRefIdeal.Run
public import Idealize.ShloMosaic.Lib.Quiescent
public import Idealize.ShloMosaic.Lib.Claim

@[expose] public section

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem

variable (m : (ℓ : Loc nD τ sig) → Buf (Elt Ideal) ℓ) (ρ : Dev nD → PrngReg)

/-- The buffers the score of a dropped box writes. -/
abbrev hostOps0_20_W : List (Ref sig .tc) := [main_cst_30]
theorem hostOps0_20_writes : (hostOps0_20 : List (HloOp τ sig (Elt Ideal))).Forall fun op => op.writes ⊆ (hostOps0_20_W.map (Proc.devRef (τ := τ) .tc)).toFinset :=
  StableHlo.forall_writes_sub_of_map rfl
/-- The buffers the choice by what is kept writes. -/
abbrev hostOps0_21_W : List (Ref sig .tc) := [main_call14_v0, main_call14_v1, main_call14_v2, main_v171]
theorem hostOps0_21_writes : (hostOps0_21 : List (HloOp τ sig (Elt Ideal))).Forall fun op => op.writes ⊆ (hostOps0_21_W.map (Proc.devRef (τ := τ) .tc)).toFinset :=
  StableHlo.forall_writes_sub_of_map rfl
/-- The buffers the second sort writes. -/
abbrev hostOps0_22_W : List (Ref sig .tc) := [main_values_31, main_indices_32]
theorem hostOps0_22_writes : (hostOps0_22 : List (HloOp τ sig (Elt Ideal))).Forall fun op => op.writes ⊆ (hostOps0_22_W.map (Proc.devRef (τ := τ) .tc)).toFinset :=
  StableHlo.forall_writes_sub_of_map rfl
/-- The buffers the last lookup writes. -/
abbrev hostOps0_23_W : List (Ref sig .tc) := [main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v172]
theorem hostOps0_23_writes : (hostOps0_23 : List (HloOp τ sig (Elt Ideal))).Forall fun op => op.writes ⊆ (hostOps0_23_W.map (Proc.devRef (τ := τ) .tc)).toFinset :=
  StableHlo.forall_writes_sub_of_map rfl

/-- A buffer that neither the loop's test nor its body writes is after the loop what it was before. -/
theorem loop_keep (c : Dev nD) (b : Ref sig .tc) (h0 : b ∉ condOps_W) (h1 : b ∉ while0Ops0_W) (h2 : b ∉ while0Ops0_1_W)
    (h3 : b ∉ while0Ops0_2_W) (h4 : b ∉ while0Ops0_3_W) : ∀ k, atK m k c (Proc.devRef .tc b) = entryContents preI m c (Proc.devRef .tc b)
  | 0 => rfl
  | k + 1 => by
    rw [show atK m (k + 1) c = afterL bodyI (after condOps (atK m k c)) from rfl]
    simp only [bodyI, afterL_cons, afterL_nil]
    rw [after_of_writes_sub while0Ops0_3 _ while0Ops0_3_writes h4, after_of_writes_sub while0Ops0_2 _ while0Ops0_2_writes h3, after_of_writes_sub while0Ops0_1 _ while0Ops0_1_writes h2,
      after_of_writes_sub while0Ops0 _ while0Ops0_writes h1, after_of_writes_sub condOps _ condOps_writes h0, loop_keep c b h0 h1 h2 h3 h4 k]
    simp only [entryContents, afterL_cons, afterL_nil]

/-- The contents the stretches behind the loop start from. -/
abbrev left (c : Dev nD) : Valuation τ sig (Elt Ideal) := after condOps (atK m 2000 c)

/-- So behind the loop. -/
theorem left_keep (c : Dev nD) (b : Ref sig .tc) (h0 : b ∉ condOps_W) (h1 : b ∉ while0Ops0_W) (h2 : b ∉ while0Ops0_1_W)
    (h3 : b ∉ while0Ops0_2_W) (h4 : b ∉ while0Ops0_3_W) : left m c (Proc.devRef .tc b) = entryContents preI m c (Proc.devRef .tc b) := by
  unfold left
  rw [after_of_writes_sub condOps _ condOps_writes h0, loop_keep m c b h0 h1 h2 h3 h4]

/-- The contents at the end of the run. -/
theorem final_eq (c : Dev nD) : finalContents condOps preI bodyI postI 2000 m c
    = after hostOps0_23 (after hostOps0_22 (after hostOps0_21 (after hostOps0_20 (left m c)))) := by
  show afterL postI (left m c) = _
  simp only [postI, afterL_cons, afterL_nil]

/-- The arguments are as launched at the end of the run. -/
theorem final_arg (c : Dev nD) (b : Ref sig .tc) (hb : b ∈ [main_arg0, main_arg1]) :
    finalContents condOps preI bodyI postI 2000 m c (Proc.devRef .tc b) = m ((c : Thread nD τ).loc b) := by
  have d {L : List (Ref sig .tc)} (h : ∀ x ∈ [main_arg0, main_arg1], x ∉ L) : b ∉ L := h b hb
  rw [final_eq]
  rw [after_of_writes_sub hostOps0_23 _ hostOps0_23_writes (d (by decide +kernel))]
  rw [after_of_writes_sub hostOps0_22 _ hostOps0_22_writes (d (by decide +kernel))]
  rw [after_of_writes_sub hostOps0_21 _ hostOps0_21_writes (d (by decide +kernel))]
  rw [after_of_writes_sub hostOps0_20 _ hostOps0_20_writes (d (by decide +kernel))]
  rw [left_keep m c b (d (by decide +kernel)) (d (by decide +kernel)) (d (by decide +kernel)) (d (by decide +kernel)) (d (by decide +kernel))]
  simp only [entryContents, afterL_cons, afterL_nil]
  rw [after_of_writes_sub hostOps0_19 _ hostOps0_19_writes (d (by decide +kernel))]
  rw [after_of_writes_sub hostOps0_18 _ hostOps0_18_writes (d (by decide +kernel))]
  rw [after_of_writes_sub hostOps0_17 _ hostOps0_17_writes (d (by decide +kernel))]
  rw [after_of_writes_sub hostOps0_16 _ hostOps0_16_writes (d (by decide +kernel))]
  rw [after_of_writes_sub hostOps0_15 _ hostOps0_15_writes (d (by decide +kernel))]
  rw [after_of_writes_sub hostOps0_14 _ hostOps0_14_writes (d (by decide +kernel))]
  rw [after_of_writes_sub hostOps0_13 _ hostOps0_13_writes (d (by decide +kernel))]
  rw [after_of_writes_sub hostOps0_12 _ hostOps0_12_writes (d (by decide +kernel))]
  rw [after_of_writes_sub hostOps0_11 _ hostOps0_11_writes (d (by decide +kernel))]
  rw [after_of_writes_sub hostOps0_10 _ hostOps0_10_writes (d (by decide +kernel))]
  rw [after_of_writes_sub hostOps0_9 _ hostOps0_9_writes (d (by decide +kernel))]
  rw [after_of_writes_sub hostOps0_8 _ hostOps0_8_writes (d (by decide +kernel))]
  rw [after_of_writes_sub hostOps0_7 _ hostOps0_7_writes (d (by decide +kernel))]
  rw [after_of_writes_sub hostOps0_6 _ hostOps0_6_writes (d (by decide +kernel))]
  rw [after_of_writes_sub hostOps0_5 _ hostOps0_5_writes (d (by decide +kernel))]
  rw [after_of_writes_sub hostOps0_4 _ hostOps0_4_writes (d (by decide +kernel))]
  rw [after_of_writes_sub hostOps0_3 _ hostOps0_3_writes (d (by decide +kernel))]
  rw [after_of_writes_sub hostOps0_2 _ hostOps0_2_writes (d (by decide +kernel))]
  rw [after_of_writes_sub hostOps0_1 _ hostOps0_1_writes (d (by decide +kernel))]
  rw [after_of_writes_sub hostOps0 _ hostOps0_writes (d (by decide +kernel))]

/-- The reference ends, its arguments as launched and every counter at zero. -/
theorem ref_frame : Cert.quiescent_NmsRefIdeal (hNmsRefIdeal := Cert.NmsRefIdeal.Gen.facts) := fun m ρ _ =>
  (θ_run (Cert.NmsRefIdeal.defs (F := Ideal)) _ _).mono
    (fun r h => ⟨fun c => ⟨(h c main_arg0 rfl).trans (final_arg m c _ (by decide)), (h c main_arg1 rfl).trans (final_arg m c _ (by decide))⟩,
      sem_eq_zero_of_no_sems rfl r.2⟩) (run_fold (F := Ideal) m ρ)

end Cert.Proof.NmsRef
-- ==== Proof.NmsValue.lean ====
/- Hand-written, untrusted: what the suppression call returns at the ideal values: image by image what the body leaves. -/
module

public import proofs.«01_k».proof.Proof.NmsRun
public import Idealize.ShloMosaic.Lib.StableHlo.RunRead

@[expose] public section

set_option maxRecDepth 16384

noncomputable section

namespace Cert.Proof.Chunk

open Cert.NmsIdeal Cert.NmsIdeal.Gen Idealize.ShloMosaic Idealize.ShloMosaic.TcCoe Idealize.SL.Sem
open Idealize.ShloMosaic.Pipeline (Dat)
open Idealize.ShloMosaic.StableHlo (after)

theorem off0 : (![0, 0, 0] : Fin 3 → Nat) = fun _ => 0 := funext fun a => by fin_cases a <;> rfl

/-- Image by image the rows `f b`, as a call's result. -/
def stack3 {α : Type} (f : Fin 2 → S1x2048.Idx → α) : S2x1x2048.Idx → α := fun i => f (i 0) (ix2 0 (i 2))

theorem pay1_at {F : FTy → Type} [FloatOps F] (v : FVec F S1x2048 .f32) (y : S1x1x2048.Idx) : k0_pay1 v y = v (ix2 0 (y 2)) := by pointwise [k0_pay1]
theorem pay2_at {F : FTy → Type} [FloatOps F] (v : FVec F S1x2048 .f32) (y : S1x1x2048.Idx) : k0_pay2 v y = v (ix2 0 (y 2)) := by pointwise [k0_pay2]
theorem pay3_at {F : FTy → Type} [FloatOps F] (v : FVec F S1x2048 .f32) (y : S1x1x2048.Idx) : k0_pay3 v y = v (ix2 0 (y 2)) := by pointwise [k0_pay3]
theorem pay4_at {F : FTy → Type} [FloatOps F] (v : FVec F S1x2048 .f32) (y : S1x1x2048.Idx) : k0_pay4 v y = v (ix2 0 (y 2)) := by pointwise [k0_pay4]
theorem pay5_at (v : IVec S1x2048 32) (y : S1x1x2048.Idx) : k0_pay5 v y = v (ix2 0 (y 2)) := by pointwise [k0_pay5]

variable (m : (ℓ : Loc nD τ sig) → Buf (Elt Ideal) ℓ)

/-- What the call is handed, by core: the rows' indices and the four regressions. -/
abbrev before (c : Dev nD) : Valuation τ sig (Elt Ideal) := after hostOps0_1 (after hostOps0 (fun b => m (c, b)))
abbrev mid (c : Dev nD) : Valuation τ sig (Elt Ideal) := after hostOps0_2 (before m c)
abbrev a1 (c : Dev nD) : S2x2048.Idx → BitVec 32 := before m c (Proc.devRef .tc main_v4)
abbrev a2 (c : Dev nD) : S2x2048.Idx → EReal := mid m c (Proc.devRef .tc main_v16)
abbrev a3 (c : Dev nD) : S2x2048.Idx → EReal := mid m c (Proc.devRef .tc main_v18)
abbrev a4 (c : Dev nD) : S2x2048.Idx → EReal := mid m c (Proc.devRef .tc main_v20)
abbrev a5 (c : Dev nD) : S2x2048.Idx → EReal := mid m c (Proc.devRef .tc main_v22)

theorem V_eq (c : Dev nD) : V₀ m c = mid m c := by
  show after ([hostOps0, hostOps0_1, hostOps0_2] : List (List (HloOp τ sig (Elt Ideal)))).flatten _ = _
  simp only [List.flatten_cons, List.flatten_nil, List.append_nil, StableHlo.after_append]

/-- The point's image. -/
def img (t : Fin (cfg0 (F := Ideal)).N) : Fin 2 := ⟨win0_6.index t (0 : Fin 3), by revert t; exact (by decide +kernel : ∀ t : Fin grid0.N, win0_6.index t (0 : Fin 3) < 2)⟩

theorem index_of (t : Fin (cfg0 (F := Ideal)).N) :
    win0_1.index t = ![(img t).val, 0, 0] ∧ win0_2.index t = ![(img t).val, 0, 0] ∧ win0_3.index t = ![(img t).val, 0, 0]
    ∧ win0_4.index t = ![(img t).val, 0, 0] ∧ win0_5.index t = ![(img t).val, 0, 0] ∧ win0_6.index t = ![(img t).val, 0, 0]
    ∧ win0_7.index t = ![(img t).val, 0, 0] ∧ win0_8.index t = ![(img t).val, 0, 0] ∧ win0_9.index t = ![(img t).val, 0, 0]
    ∧ win0_10.index t = ![(img t).val, 0, 0] := by
  revert t
  exact (by decide +kernel : ∀ t : Fin grid0.N,
    win0_1.index t = ![win0_6.index t (0 : Fin 3), 0, 0] ∧ win0_2.index t = ![win0_6.index t (0 : Fin 3), 0, 0]
    ∧ win0_3.index t = ![win0_6.index t (0 : Fin 3), 0, 0] ∧ win0_4.index t = ![win0_6.index t (0 : Fin 3), 0, 0]
    ∧ win0_5.index t = ![win0_6.index t (0 : Fin 3), 0, 0] ∧ win0_6.index t = ![win0_6.index t (0 : Fin 3), 0, 0]
    ∧ win0_7.index t = ![win0_6.index t (0 : Fin 3), 0, 0] ∧ win0_8.index t = ![win0_6.index t (0 : Fin 3), 0, 0]
    ∧ win0_9.index t = ![win0_6.index t (0 : Fin 3), 0, 0] ∧ win0_10.index t = ![win0_6.index t (0 : Fin 3), 0, 0])

theorem img_onto (b : Fin 2) : ∃ t, img t = b := by
  obtain ⟨t, h⟩ := (by decide +kernel : ∀ b : Fin 2, ∃ t : Fin grid0.N, win0_6.index t (0 : Fin 3) = b.val) b
  exact ⟨t, Fin.ext h⟩

/-- A reshaped argument's block is the image's row. -/
theorem reshape_row {α : Type} (a : S2x2048.Idx → α) (i : S2x1x2048.Idx) :
    shapeCast S2x1x2048 a shapeCasts_S2x2048_S2x1x2048 i = a (ix2 (i 0) (i 2)) := by pointwise []

theorem V_v1 (c : Dev nD) : V m c main_v24 = shapeCast S2x1x2048 (a1 m c) shapeCasts_S2x2048_S2x1x2048 := by
  show V₀ m c (Proc.devRef .tc main_v24) = _
  rw [V_eq]
  unfold mid
  unfold a1
  after_reads_simp
  rfl
theorem V_v2 (c : Dev nD) : V m c main_v25 = shapeCast S2x1x2048 (a2 m c) shapeCasts_S2x2048_S2x1x2048 := by
  show V₀ m c (Proc.devRef .tc main_v25) = _
  rw [V_eq]
  unfold a2 mid
  after_reads_simp
  rfl
theorem V_v3 (c : Dev nD) : V m c main_v26 = shapeCast S2x1x2048 (a3 m c) shapeCasts_S2x2048_S2x1x2048 := by
  show V₀ m c (Proc.devRef .tc main_v26) = _
  rw [V_eq]
  unfold a3 mid
  after_reads_simp
  rfl
theorem V_v4 (c : Dev nD) : V m c main_v27 = shapeCast S2x1x2048 (a4 m c) shapeCasts_S2x2048_S2x1x2048 := by
  show V₀ m c (Proc.devRef .tc main_v27) = _
  rw [V_eq]
  unfold a4 mid
  after_reads_simp
  rfl
theorem V_v5 (c : Dev nD) : V m c main_v28 = shapeCast S2x1x2048 (a5 m c) shapeCasts_S2x2048_S2x1x2048 := by
  show V₀ m c (Proc.devRef .tc main_v28) = _
  rw [V_eq]
  unfold a5 mid
  after_reads_simp
  rfl

/-- The image's row of a reshaped argument, where the block lies. -/
theorem row_at {α : Type} (a : S2x2048.Idx → α) (b : Fin 2) (y : S1x1x2048.Idx) (i : S2x1x2048.Idx) (h0 : (i 0).val = b.val)
    (h2 : (i 2).val = (y 2).val) : shapeCast S2x1x2048 a shapeCasts_S2x2048_S2x1x2048 i = row1 a b y := by
  rw [reshape_row]
  exact congrArg a (congrArg₂ ix2 (Fin.ext h0) (Fin.ext h2))

theorem y0 (y : S1x1x2048.Idx) : (y 0).val = 0 := by have := (y 0).isLt; change _ < 1 at this; omega

theorem iblk1 (c : Dev nD) (t : Fin (cfg0 (F := Ideal)).N) : iblk m c 1 t = row1 (a1 m c) (img t) := by
  have e := (index_of t).1
  funext y
  show V m c main_v24 (((cfg0.win 1).blk t).view.emb y) = _
  rw [V_v1]
  refine row_at _ _ _ _ ?_ ?_
  · show win0_1.index t (0 : Fin 3) * 1 + 1 * (y 0).val = (img t).val; rw [e, y0]; show (img t).val * 1 + 1 * 0 = _; omega
  · show win0_1.index t (2 : Fin 3) * 2048 + 1 * (y 2).val = (y 2).val; rw [e]; show 0 * 2048 + _ = _; omega

theorem iblk2 (c : Dev nD) (t : Fin (cfg0 (F := Ideal)).N) : iblk m c 2 t = row1 (a2 m c) (img t) := by
  have e := (index_of t).2.1
  funext y
  show V m c main_v25 (((cfg0.win 2).blk t).view.emb y) = _
  rw [V_v2]
  refine row_at _ _ _ _ ?_ ?_
  · show win0_2.index t (0 : Fin 3) * 1 + 1 * (y 0).val = (img t).val; rw [e, y0]; show (img t).val * 1 + 1 * 0 = _; omega
  · show win0_2.index t (2 : Fin 3) * 2048 + 1 * (y 2).val = (y 2).val; rw [e]; show 0 * 2048 + _ = _; omega

theorem iblk3 (c : Dev nD) (t : Fin (cfg0 (F := Ideal)).N) : iblk m c 3 t = row1 (a3 m c) (img t) := by
  have e := (index_of t).2.2.1
  funext y
  show V m c main_v26 (((cfg0.win 3).blk t).view.emb y) = _
  rw [V_v3]
  refine row_at _ _ _ _ ?_ ?_
  · show win0_3.index t (0 : Fin 3) * 1 + 1 * (y 0).val = (img t).val; rw [e, y0]; show (img t).val * 1 + 1 * 0 = _; omega
  · show win0_3.index t (2 : Fin 3) * 2048 + 1 * (y 2).val = (y 2).val; rw [e]; show 0 * 2048 + _ = _; omega

theorem iblk4 (c : Dev nD) (t : Fin (cfg0 (F := Ideal)).N) : iblk m c 4 t = row1 (a4 m c) (img t) := by
  have e := (index_of t).2.2.2.1
  funext y
  show V m c main_v27 (((cfg0.win 4).blk t).view.emb y) = _
  rw [V_v4]
  refine row_at _ _ _ _ ?_ ?_
  · show win0_4.index t (0 : Fin 3) * 1 + 1 * (y 0).val = (img t).val; rw [e, y0]; show (img t).val * 1 + 1 * 0 = _; omega
  · show win0_4.index t (2 : Fin 3) * 2048 + 1 * (y 2).val = (y 2).val; rw [e]; show 0 * 2048 + _ = _; omega

theorem iblk5 (c : Dev nD) (t : Fin (cfg0 (F := Ideal)).N) : iblk m c 5 t = row1 (a5 m c) (img t) := by
  have e := (index_of t).2.2.2.2.1
  funext y
  show V m c main_v28 (((cfg0.win 5).blk t).view.emb y) = _
  rw [V_v5]
  refine row_at _ _ _ _ ?_ ?_
  · show win0_5.index t (0 : Fin 3) * 1 + 1 * (y 0).val = (img t).val; rw [e, y0]; show (img t).val * 1 + 1 * 0 = _; omega
  · show win0_5.index t (2 : Fin 3) * 2048 + 1 * (y 2).val = (y 2).val; rw [e]; show 0 * 2048 + _ = _; omega

/-- The image's rows. -/
abbrev rws (c : Dev nD) (b : Fin 2) : Rows Ideal := rowsOf (row1 (a1 m c) b) (row1 (a2 m c) b) (row1 (a3 m c) b) (row1 (a4 m c) b) (row1 (a5 m c) b)

/-- The image's codes. -/
def cods (c : Dev nD) (b : Fin 2) : S1x2048.Idx → BitVec 32 := group (F := Ideal) ((rws m c b).alive 8) k0_pay85
  (bok (F := Ideal) (row1 (a1 m c) b) (row1 (a2 m c) b) (row1 (a3 m c) b) (row1 (a4 m c) b) (row1 (a5 m c) b))

/-- The rows stacked, where a point's block lies. -/
theorem stack_at {α : Type} (f : Fin 2 → S1x2048.Idx → α) (b : Fin 2) (y : S1x1x2048.Idx) (i : S2x1x2048.Idx) (h0 : (i 0).val = b.val)
    (h2 : (i 2).val = (y 2).val) : f b (ix2 0 (y 2)) = stack3 f i := by
  unfold stack3
  rw [show i 0 = b from Fin.ext h0, show (ix2 (0 : Fin 1) (i 2) : S1x2048.Idx) = ix2 (0 : Fin 1) (y 2) from congrArg (ix2 (0 : Fin 1)) (Fin.ext h2)]
  rfl

theorem flushed6 (c : Dev nD) (t : Fin (cfg0 (F := Ideal)).N) :
    (dats m 0 c).flushed 6 t = ((cfg0.win 6).blk t).view.read (Elt Ideal) (stack3 (fun b => (rws m c b).x1)) := by
  have e := (index_of t).2.2.2.2.2.1
  show (cfg0.win 6).cut (grid0.coords t) ((dats m 0 c).after 6 t) = _
  rw [after0_6, iblk1, iblk2, iblk3, iblk4, iblk5]
  funext y
  show out0_6 (F := Ideal) (row1 (a1 m c) (img t)) (row1 (a2 m c) (img t)) (row1 (a3 m c) (img t)) (row1 (a4 m c) (img t)) (row1 (a5 m c) (img t)) y = stack3 (fun b => (rws m c b).x1) (((cfg0.win 6).blk t).view.emb y)
  unfold out0_6
  rw [View.canon_unit_zero (S := S1x1x2048) (off := ![0, 0, 0]) off0]
  refine (pay1_at _ y).trans ?_
  refine stack_at (fun b => (rws m c b).x1) _ _ _ ?_ ?_
  · show win0_6.index t (0 : Fin 3) * 1 + 1 * (y 0).val = (img t).val; rw [e, y0]; show (img t).val * 1 + 1 * 0 = _; omega
  · show win0_6.index t (2 : Fin 3) * 2048 + 1 * (y 2).val = (y 2).val; rw [e]; show 0 * 2048 + _ = _; omega

theorem covered6 (i : S2x1x2048.Idx) : ∃ t : Fin (cfg0 (F := Ideal)).N, ((cfg0 (F := Ideal)).win 6).flush t = true ∧ i ∈ (((cfg0 (F := Ideal)).win 6).blk t).view.set := by
  obtain ⟨t, ht⟩ := img_onto (i 0)
  have e := (index_of t).2.2.2.2.2.1
  refine ⟨t, flush0_6 t, ?_⟩
  show i ∈ ((View.whole main_v29_0).slice (win0_6.rect t)).set
  rw [View.set_slice_whole, Rect.mem_set_unit]
  have h1 : (i 1).val < 1 := (i 1).isLt
  have h2 : (i 2).val < 2048 := (i 2).isLt
  intro a
  show win0_6.index t a * S1x1x2048.size a ≤ i a ∧ (i a : Nat) < win0_6.index t a * S1x1x2048.size a + S1x1x2048.size a
  rw [e, ht]
  match a with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 2048 ≤ (i 2).val ∧ (i 2).val < 0 * 2048 + 2048; omega

theorem array6 (c : Dev nD) : (dats m 0 c).arrAt 6 (cfg0 (F := Ideal)).N = stack3 (fun b => (rws m c b).x1) :=
  (dats m 0 c).arrAt_eq_of_cover 6 _ (fun t _ => flushed6 m c t) covered6

theorem flushed7 (c : Dev nD) (t : Fin (cfg0 (F := Ideal)).N) :
    (dats m 0 c).flushed 7 t = ((cfg0.win 7).blk t).view.read (Elt Ideal) (stack3 (fun b => (rws m c b).y1)) := by
  have e := (index_of t).2.2.2.2.2.2.1
  show (cfg0.win 7).cut (grid0.coords t) ((dats m 0 c).after 7 t) = _
  rw [after0_7, iblk1, iblk2, iblk3, iblk4, iblk5]
  funext y
  show out0_7 (F := Ideal) (row1 (a1 m c) (img t)) (row1 (a2 m c) (img t)) (row1 (a3 m c) (img t)) (row1 (a4 m c) (img t)) (row1 (a5 m c) (img t)) y = stack3 (fun b => (rws m c b).y1) (((cfg0.win 7).blk t).view.emb y)
  unfold out0_7
  rw [View.canon_unit_zero (S := S1x1x2048) (off := ![0, 0, 0]) off0]
  refine (pay2_at _ y).trans ?_
  refine stack_at (fun b => (rws m c b).y1) _ _ _ ?_ ?_
  · show win0_7.index t (0 : Fin 3) * 1 + 1 * (y 0).val = (img t).val; rw [e, y0]; show (img t).val * 1 + 1 * 0 = _; omega
  · show win0_7.index t (2 : Fin 3) * 2048 + 1 * (y 2).val = (y 2).val; rw [e]; show 0 * 2048 + _ = _; omega

theorem covered7 (i : S2x1x2048.Idx) : ∃ t : Fin (cfg0 (F := Ideal)).N, ((cfg0 (F := Ideal)).win 7).flush t = true ∧ i ∈ (((cfg0 (F := Ideal)).win 7).blk t).view.set := by
  obtain ⟨t, ht⟩ := img_onto (i 0)
  have e := (index_of t).2.2.2.2.2.2.1
  refine ⟨t, flush0_7 t, ?_⟩
  show i ∈ ((View.whole main_v29_1).slice (win0_7.rect t)).set
  rw [View.set_slice_whole, Rect.mem_set_unit]
  have h1 : (i 1).val < 1 := (i 1).isLt
  have h2 : (i 2).val < 2048 := (i 2).isLt
  intro a
  show win0_7.index t a * S1x1x2048.size a ≤ i a ∧ (i a : Nat) < win0_7.index t a * S1x1x2048.size a + S1x1x2048.size a
  rw [e, ht]
  match a with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 2048 ≤ (i 2).val ∧ (i 2).val < 0 * 2048 + 2048; omega

theorem array7 (c : Dev nD) : (dats m 0 c).arrAt 7 (cfg0 (F := Ideal)).N = stack3 (fun b => (rws m c b).y1) :=
  (dats m 0 c).arrAt_eq_of_cover 7 _ (fun t _ => flushed7 m c t) covered7

theorem flushed8 (c : Dev nD) (t : Fin (cfg0 (F := Ideal)).N) :
    (dats m 0 c).flushed 8 t = ((cfg0.win 8).blk t).view.read (Elt Ideal) (stack3 (fun b => (rws m c b).x2)) := by
  have e := (index_of t).2.2.2.2.2.2.2.1
  show (cfg0.win 8).cut (grid0.coords t) ((dats m 0 c).after 8 t) = _
  rw [after0_8, iblk1, iblk2, iblk3, iblk4, iblk5]
  funext y
  show out0_8 (F := Ideal) (row1 (a1 m c) (img t)) (row1 (a2 m c) (img t)) (row1 (a3 m c) (img t)) (row1 (a4 m c) (img t)) (row1 (a5 m c) (img t)) y = stack3 (fun b => (rws m c b).x2) (((cfg0.win 8).blk t).view.emb y)
  unfold out0_8
  rw [View.canon_unit_zero (S := S1x1x2048) (off := ![0, 0, 0]) off0]
  refine (pay3_at _ y).trans ?_
  refine stack_at (fun b => (rws m c b).x2) _ _ _ ?_ ?_
  · show win0_8.index t (0 : Fin 3) * 1 + 1 * (y 0).val = (img t).val; rw [e, y0]; show (img t).val * 1 + 1 * 0 = _; omega
  · show win0_8.index t (2 : Fin 3) * 2048 + 1 * (y 2).val = (y 2).val; rw [e]; show 0 * 2048 + _ = _; omega

theorem covered8 (i : S2x1x2048.Idx) : ∃ t : Fin (cfg0 (F := Ideal)).N, ((cfg0 (F := Ideal)).win 8).flush t = true ∧ i ∈ (((cfg0 (F := Ideal)).win 8).blk t).view.set := by
  obtain ⟨t, ht⟩ := img_onto (i 0)
  have e := (index_of t).2.2.2.2.2.2.2.1
  refine ⟨t, flush0_8 t, ?_⟩
  show i ∈ ((View.whole main_v29_2).slice (win0_8.rect t)).set
  rw [View.set_slice_whole, Rect.mem_set_unit]
  have h1 : (i 1).val < 1 := (i 1).isLt
  have h2 : (i 2).val < 2048 := (i 2).isLt
  intro a
  show win0_8.index t a * S1x1x2048.size a ≤ i a ∧ (i a : Nat) < win0_8.index t a * S1x1x2048.size a + S1x1x2048.size a
  rw [e, ht]
  match a with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 2048 ≤ (i 2).val ∧ (i 2).val < 0 * 2048 + 2048; omega

theorem array8 (c : Dev nD) : (dats m 0 c).arrAt 8 (cfg0 (F := Ideal)).N = stack3 (fun b => (rws m c b).x2) :=
  (dats m 0 c).arrAt_eq_of_cover 8 _ (fun t _ => flushed8 m c t) covered8

theorem flushed9 (c : Dev nD) (t : Fin (cfg0 (F := Ideal)).N) :
    (dats m 0 c).flushed 9 t = ((cfg0.win 9).blk t).view.read (Elt Ideal) (stack3 (fun b => (rws m c b).y2)) := by
  have e := (index_of t).2.2.2.2.2.2.2.2.1
  show (cfg0.win 9).cut (grid0.coords t) ((dats m 0 c).after 9 t) = _
  rw [after0_9, iblk1, iblk2, iblk3, iblk4, iblk5]
  funext y
  show out0_9 (F := Ideal) (row1 (a1 m c) (img t)) (row1 (a2 m c) (img t)) (row1 (a3 m c) (img t)) (row1 (a4 m c) (img t)) (row1 (a5 m c) (img t)) y = stack3 (fun b => (rws m c b).y2) (((cfg0.win 9).blk t).view.emb y)
  unfold out0_9
  rw [View.canon_unit_zero (S := S1x1x2048) (off := ![0, 0, 0]) off0]
  refine (pay4_at _ y).trans ?_
  refine stack_at (fun b => (rws m c b).y2) _ _ _ ?_ ?_
  · show win0_9.index t (0 : Fin 3) * 1 + 1 * (y 0).val = (img t).val; rw [e, y0]; show (img t).val * 1 + 1 * 0 = _; omega
  · show win0_9.index t (2 : Fin 3) * 2048 + 1 * (y 2).val = (y 2).val; rw [e]; show 0 * 2048 + _ = _; omega

theorem covered9 (i : S2x1x2048.Idx) : ∃ t : Fin (cfg0 (F := Ideal)).N, ((cfg0 (F := Ideal)).win 9).flush t = true ∧ i ∈ (((cfg0 (F := Ideal)).win 9).blk t).view.set := by
  obtain ⟨t, ht⟩ := img_onto (i 0)
  have e := (index_of t).2.2.2.2.2.2.2.2.1
  refine ⟨t, flush0_9 t, ?_⟩
  show i ∈ ((View.whole main_v29_3).slice (win0_9.rect t)).set
  rw [View.set_slice_whole, Rect.mem_set_unit]
  have h1 : (i 1).val < 1 := (i 1).isLt
  have h2 : (i 2).val < 2048 := (i 2).isLt
  intro a
  show win0_9.index t a * S1x1x2048.size a ≤ i a ∧ (i a : Nat) < win0_9.index t a * S1x1x2048.size a + S1x1x2048.size a
  rw [e, ht]
  match a with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 2048 ≤ (i 2).val ∧ (i 2).val < 0 * 2048 + 2048; omega

theorem array9 (c : Dev nD) : (dats m 0 c).arrAt 9 (cfg0 (F := Ideal)).N = stack3 (fun b => (rws m c b).y2) :=
  (dats m 0 c).arrAt_eq_of_cover 9 _ (fun t _ => flushed9 m c t) covered9

theorem cods_eq (c : Dev nD) (b : Fin 2) : cods m c b
    = group (F := Ideal) ((rowsOf (row1 (a1 m c) b) (row1 (a2 m c) b) (row1 (a3 m c) b) (row1 (a4 m c) b) (row1 (a5 m c) b)).alive 8) k0_pay85
      (bok (F := Ideal) (row1 (a1 m c) b) (row1 (a2 m c) b) (row1 (a3 m c) b) (row1 (a4 m c) b) (row1 (a5 m c) b)) := by
  delta cods
  rfl

theorem codes_at (x1 : Vec Ideal S1x1x2048 .i32) (x2 x3 x4 x5 : Vec Ideal S1x1x2048 .f32) (y : S1x1x2048.Idx) :
    out0_10 x1 x2 x3 x4 x5 y = group ((rowsOf x1 x2 x3 x4 x5).alive 8) k0_pay85 (bok x1 x2 x3 x4 x5) (ix2 0 (y 2)) := by
  unfold out0_10
  rw [View.canon_unit_zero (S := S1x1x2048) (off := ![0, 0, 0]) off0]
  exact pay5_at _ y

theorem flushed10 (c : Dev nD) (t : Fin (cfg0 (F := Ideal)).N) :
    (dats m 0 c).flushed 10 t = ((cfg0.win 10).blk t).view.read (Elt Ideal) (stack3 (cods m c)) := by
  have e := (index_of t).2.2.2.2.2.2.2.2.2
  show (cfg0.win 10).cut (grid0.coords t) ((dats m 0 c).after 10 t) = _
  rw [after0_10, iblk1, iblk2, iblk3, iblk4, iblk5]
  have hs := fun (y : S1x1x2048.Idx) (i : S2x1x2048.Idx) h0 h2 => stack_at (cods m c) (img t) y i h0 h2
  have ho := fun y : S1x1x2048.Idx => codes_at (row1 (a1 m c) (img t)) (row1 (a2 m c) (img t)) (row1 (a3 m c) (img t)) (row1 (a4 m c) (img t)) (row1 (a5 m c) (img t)) y
  rw [← cods_eq] at ho
  revert hs ho
  generalize out0_10 (F := Ideal) (row1 (a1 m c) (img t)) (row1 (a2 m c) (img t)) (row1 (a3 m c) (img t)) (row1 (a4 m c) (img t)) (row1 (a5 m c) (img t)) = X
  generalize cods m c = G
  intro hs ho
  funext y
  show X y = stack3 G (((cfg0.win 10).blk t).view.emb y)
  refine (ho y).trans (hs y _ ?_ ?_)
  · show win0_10.index t (0 : Fin 3) * 1 + 1 * (y 0).val = (img t).val; rw [e, y0]; show (img t).val * 1 + 1 * 0 = _; omega
  · show win0_10.index t (2 : Fin 3) * 2048 + 1 * (y 2).val = (y 2).val; rw [e]; show 0 * 2048 + _ = _; omega

theorem covered10 (i : S2x1x2048.Idx) : ∃ t : Fin (cfg0 (F := Ideal)).N, ((cfg0 (F := Ideal)).win 10).flush t = true ∧ i ∈ (((cfg0 (F := Ideal)).win 10).blk t).view.set := by
  obtain ⟨t, ht⟩ := img_onto (i 0)
  have e := (index_of t).2.2.2.2.2.2.2.2.2
  refine ⟨t, flush0_10 t, ?_⟩
  show i ∈ ((View.whole main_v29_4).slice (win0_10.rect t)).set
  rw [View.set_slice_whole, Rect.mem_set_unit]
  have h1 : (i 1).val < 1 := (i 1).isLt
  have h2 : (i 2).val < 2048 := (i 2).isLt
  intro a
  show win0_10.index t a * S1x1x2048.size a ≤ i a ∧ (i a : Nat) < win0_10.index t a * S1x1x2048.size a + S1x1x2048.size a
  rw [e, ht]
  match a with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 2048 ≤ (i 2).val ∧ (i 2).val < 0 * 2048 + 2048; omega

theorem array10 (c : Dev nD) : (dats m 0 c).arrAt 10 (cfg0 (F := Ideal)).N = stack3 (cods m c) :=
  (dats m 0 c).arrAt_eq_of_cover 10 _ (fun t _ => flushed10 m c t) covered10

/-- Image by image the rows, without the middle axis. -/
def stack2 {α : Type} (f : Fin 2 → S1x2048.Idx → α) : S2x2048.Idx → α := fun i => f (i 0) (ix2 0 (i 1))

theorem reshape_stack {α : Type} (f : Fin 2 → S1x2048.Idx → α) :
    shapeCast S2x2048 (stack3 f) shapeCasts_S2x1x2048_S2x2048 = stack2 f := by
  funext i
  pointwise [stack3, stack2]

/-- A window's array, as the lines after the call find it. -/
theorem found (c : Dev nD) (w : Fin (cfg0 (F := Ideal)).W) : Pipeline.withArrays spec0 c (V₀ m c) (fun w => (dats m 0 c).arrAt w (cfg0 (F := Ideal)).N)
    (Proc.devRef .tc (Pipeline.arrRef spec0 w)) = (dats m 0 c).arrAt w (cfg0 (F := Ideal)).N :=
  Pipeline.withArrays_arr spec0 winFacts0.arr_inj c _ _ w

/-- What the call leaves. -/
abbrev called (c : Dev nD) : Valuation τ sig (Elt Ideal) := Pipeline.withArrays spec0 c (V₀ m c) (fun w => (dats m 0 c).arrAt w (cfg0 (F := Ideal)).N)

theorem tail6 (c : Dev nD) : after hostOps1 (called m c) (Proc.devRef .tc main_v30) = stack2 (fun b => (rws m c b).x1) := by
  after_reads_simp
  exact (congrArg (fun a => shapeCast S2x2048 a shapeCasts_S2x1x2048_S2x2048) ((found m c 6).trans (array6 m c))).trans (reshape_stack _)

theorem tail7 (c : Dev nD) : after hostOps1 (called m c) (Proc.devRef .tc main_v31) = stack2 (fun b => (rws m c b).y1) := by
  after_reads_simp
  exact (congrArg (fun a => shapeCast S2x2048 a shapeCasts_S2x1x2048_S2x2048) ((found m c 7).trans (array7 m c))).trans (reshape_stack _)

theorem tail8 (c : Dev nD) : after hostOps1 (called m c) (Proc.devRef .tc main_v32) = stack2 (fun b => (rws m c b).x2) := by
  after_reads_simp
  exact (congrArg (fun a => shapeCast S2x2048 a shapeCasts_S2x1x2048_S2x2048) ((found m c 8).trans (array8 m c))).trans (reshape_stack _)

theorem tail9 (c : Dev nD) : after hostOps1 (called m c) (Proc.devRef .tc main_v33) = stack2 (fun b => (rws m c b).y2) := by
  after_reads_simp
  exact (congrArg (fun a => shapeCast S2x2048 a shapeCasts_S2x1x2048_S2x2048) ((found m c 9).trans (array9 m c))).trans (reshape_stack _)

theorem tail10 (c : Dev nD) : after hostOps1 (called m c) (Proc.devRef .tc main_v34) = stack2 (cods m c) := by
  after_reads_simp
  exact (congrArg (fun a => shapeCast S2x2048 a shapeCasts_S2x1x2048_S2x2048) ((found m c 10).trans (array10 m c))).trans (reshape_stack _)

end Cert.Proof.Chunk
-- ==== Proof.NmsSpec.lean ====
/- Hand-written, untrusted: the formulas that the suppression call and its reference have in common. -/
module

public import Idealize.ShloMosaic.Lib.Pointwise

@[expose] public section

noncomputable section

namespace Cert.Proof.Chunk

open Idealize.ShloMosaic

/-- The widths and the heights of a pixel's fifteen anchors. -/
def wBits : Fin 15 → BitVec 32 := ![0x423504F3#32, 0x42000000#32, 0x41B504F3#32, 0x42B504F3#32, 0x42800000#32, 0x423504F3#32,
  0x433504F3#32, 0x43000000#32, 0x42B504F3#32, 0x43B504F3#32, 0x43800000#32, 0x433504F3#32, 0x443504F3#32, 0x44000000#32, 0x43B504F3#32]
def hBits : Fin 15 → BitVec 32 := ![0x41B504F3#32, 0x42000000#32, 0x423504F3#32, 0x423504F3#32, 0x42800000#32, 0x42B504F3#32,
  0x42B504F3#32, 0x43000000#32, 0x433504F3#32, 0x433504F3#32, 0x43800000#32, 0x43B504F3#32, 0x43B504F3#32, 0x44000000#32, 0x443504F3#32]

/-- The anchor of a row. -/
def anc (r : BitVec 32) : Fin 15 := ⟨r.toNat % 15, Nat.mod_lt _ (by norm_num)⟩
def wTab (r : BitVec 32) : EReal := Ideal.ofBits .f32 (wBits (anc r))
def hTab (r : BitVec 32) : EReal := Ideal.ofBits .f32 (hBits (anc r))

/-- A side's centre and length, and its two ends. -/
def ctr (w d : EReal) : EReal := Ideal.ofBits .f32 0x3F000000#32 * w + d * w
def len (w e : EReal) : EReal := Ideal.exp (min e (Ideal.ofBits .f32 0x40845349#32)) * w
def lo (w d e : EReal) : EReal := ctr w d - Ideal.ofBits .f32 0x3F000000#32 * len w e
def hi (w d e : EReal) : EReal := ctr w d + Ideal.ofBits .f32 0x3F000000#32 * len w e

/-- A coordinate clipped to `[0, c]`. -/
def clipTo (c : BitVec 32) (x : EReal) : EReal := min (Ideal.ofBits .f32 c) (max 0 x)

/-- Whether a box, clipped to the image, is large enough. -/
def okB (X1 Y1 X2 Y2 : EReal) : BitVec 1 :=
  IntOp.andi (BitVec.ofBool (decide (Ideal.ofBits .f32 0x3A83126F#32 ≤ clipTo 0x44A00000#32 X2 - clipTo 0x44A00000#32 X1)))
    (BitVec.ofBool (decide (Ideal.ofBits .f32 0x3A83126F#32 ≤ clipTo 0x44480000#32 Y2 - clipTo 0x44480000#32 Y1)))

/-- Whether a row is one of the 2000 proposals. -/
def valB (n : ℕ) : BitVec 1 := IntOp.cmpi .slt (BitVec.ofNat 32 n) 2000#32

open Classical in
/-- A row's code: kept, suppressed, too small or padding. -/
def code (kept : Prop) (ok valid : BitVec 1) : BitVec 32 :=
  if kept then 0#32 else if IntOp.andi ok valid = 1#1 then 1#32 else if valid = 1#1 then 2#32 else 3#32

end Cert.Proof.Chunk
-- ==== Proof.NmsBox.lean ====
/- Hand-written, untrusted: the boxes of the suppression call's body, row by row. -/
module

public import proofs.«01_k».proof.Proof.NmsCand
public import Idealize.ShloMosaic.Lib.Pointwise
public import proofs.«01_k».proof.Proof.NmsSpec

@[expose] public section

set_option maxRecDepth 16384

noncomputable section

namespace Cert.Proof.Chunk

open Cert.NmsIdeal Cert.NmsIdeal.Gen Idealize.ShloMosaic Idealize.ShloMosaic.TcCoe

section

variable (x1 : Vec Ideal S1x1x2048 .i32) (x2 x3 x4 x5 : Vec Ideal S1x1x2048 .f32)

theorem ld_rW {e : EltTy} (x : Vec Ideal S1x1x2048 e) : View.ld x rW = x :=
  View.ld_unit_zero (S := S1x1x2048) (off := ![0, 0, 0]) (funext fun a => by fin_cases a <;> rfl) _ x

theorem rem15 (r : BitVec 32) (h : r.toNat < 240000) : IntOp.remsi .vector r 15#32 = BitVec.ofNat 32 (r.toNat % 15) := by
  have hm : r.msb = false := BitVec.msb_eq_false_iff_two_mul_lt.mpr (by omega)
  unfold IntOp.remsi
  rw [if_neg (by rintro (h0 | ⟨-, h1⟩); exact absurd h0 (by decide); exact absurd h1 (by decide)), BitVec.srem_eq, hm]
  apply BitVec.eq_of_toNat_eq
  rw [BitVec.toNat_ofNat]
  show (r % 15#32).toNat = _
  rw [BitVec.toNat_umod]
  show r.toNat % 15 = _
  omega

theorem anch_apply (n : Fin 2048) (h : (x1 (ix3 0 0 n)).toNat < 240000) :
    anch x1 (ix2 0 n) = BitVec.ofNat 32 (anc (x1 (ix3 0 0 n))) := by
  unfold anch
  rw [ld_rW]
  pointwise [k0_pay50]
  rw [show Scalar.select (Scalar.cmpi CmpIPredicate.eq 15#32 0#32) 1#32 15#32 = 15#32 from rfl, rem15 _ h]
  show _ = BitVec.ofNat 32 (anc (x1 (ix3 0 0 n)))
  rw [show (BitVec.toNat (x1 (ix3 0 0 n)) % 15) = (anc (x1 (ix3 0 0 n))).val from rfl]
  generalize anc (x1 (ix3 0 0 n)) = k
  revert k
  decide

theorem wsel_apply (n : Fin 2048) (k : Fin 15) (h : anch x1 (ix2 0 n) = BitVec.ofNat 32 k) :
    k0_pay75 (anch x1) (v107 x1) (k0_pay72 (anch x1)) k0_pay73 (ix2 0 n) = Ideal.ofBits .f32 (wBits k) := by
  unfold v107
  pointwise [k0_pay75, k0_pay72, k0_pay73, k0_pay70, k0_pay62, k0_pay51, k0_pay53, k0_pay54, k0_pay55, k0_pay56, k0_pay57, k0_pay58, k0_pay59, k0_pay61, k0_pay64, k0_pay65, k0_pay66, k0_pay67, k0_pay68, k0_pay69, k0_pay74]
  rw [h]
  fin_cases k <;> rfl

theorem hsel_apply (n : Fin 2048) (k : Fin 15) (h : anch x1 (ix2 0 n) = BitVec.ofNat 32 k) :
    k0_pay76 (anch x1) (v109 x1) (k0_pay72 (anch x1)) (ix2 0 n) = Ideal.ofBits .f32 (hBits k) := by
  unfold v109
  pointwise [k0_pay76, k0_pay72, k0_pay71, k0_pay60, k0_pay52, k0_pay53, k0_pay54, k0_pay55, k0_pay56, k0_pay57, k0_pay58, k0_pay59, k0_pay61, k0_pay63, k0_pay64, k0_pay65, k0_pay66, k0_pay67, k0_pay68, k0_pay69, k0_pay74]
  rw [h]
  fin_cases k <;> rfl

variable (n : Fin 2048) (h : (x1 (ix3 0 0 n)).toNat < 240000)
include h

theorem bx1_apply : bx1 x1 x2 x5 (ix2 0 n) = lo (wTab (x1 (ix3 0 0 n))) (x2 (ix3 0 0 n)) (x5 (ix3 0 0 n)) := by
  have e := wsel_apply x1 n _ (anch_apply x1 n h)
  unfold bx1
  rw [ld_rW, ld_rW]
  pointwise [k0_pay81, k0_pay77, k0_pay79, k0_pay46, k0_pay49]
  rw [e]
  rfl

theorem bx2_apply : bx2 x1 x2 x5 (ix2 0 n) = hi (wTab (x1 (ix3 0 0 n))) (x2 (ix3 0 0 n)) (x5 (ix3 0 0 n)) := by
  have e := wsel_apply x1 n _ (anch_apply x1 n h)
  unfold bx2
  rw [ld_rW, ld_rW]
  pointwise [k0_pay83, k0_pay77, k0_pay79, k0_pay46, k0_pay49]
  rw [e]
  rfl

theorem by1_apply : by1 x1 x3 x4 (ix2 0 n) = lo (hTab (x1 (ix3 0 0 n))) (x3 (ix3 0 0 n)) (x4 (ix3 0 0 n)) := by
  have e := hsel_apply x1 n _ (anch_apply x1 n h)
  unfold by1
  rw [ld_rW, ld_rW]
  pointwise [k0_pay82, k0_pay78, k0_pay80, k0_pay47, k0_pay48]
  rw [e]
  rfl

theorem by2_apply : by2 x1 x3 x4 (ix2 0 n) = hi (hTab (x1 (ix3 0 0 n))) (x3 (ix3 0 0 n)) (x4 (ix3 0 0 n)) := by
  have e := hsel_apply x1 n _ (anch_apply x1 n h)
  unfold by2
  rw [ld_rW, ld_rW]
  pointwise [k0_pay84, k0_pay78, k0_pay80, k0_pay47, k0_pay48]
  rw [e]
  rfl

omit h

theorem bok_apply : bok x1 x2 x3 x4 x5 (ix2 0 n)
    = okB (bx1 x1 x2 x5 (ix2 0 n)) (by1 x1 x3 x4 (ix2 0 n)) (bx2 x1 x2 x5 (ix2 0 n)) (by2 x1 x3 x4 (ix2 0 n)) := by
  unfold bok bw bh bx1 by1 bx2 by2
  pointwise [k0_pay88, k0_pay86, k0_pay87]
  rfl

theorem valid_apply : k0_pay85 (ix2 0 n) = valB n := by
  pointwise [k0_pay85]
  rfl

theorem group_apply (al : FVec Idealize.ShloMosaic.Ideal S1x2048 .f32) (valid ok : IVec S1x2048 1) (P : Prop) (hal : al (ix2 0 n) = ind P) :
    group al valid ok (ix2 0 n) = code P (ok (ix2 0 n)) (valid (ix2 0 n)) := by
  pointwise [group]
  rw [hal, ofBits_half]
  have e := half_lt_ind P _ half_nonneg half_lt_one
  unfold code Scalar.select
  by_cases hP : P
  · rw [if_pos (e.mpr hP), if_pos hP]
  · rw [if_neg (fun h => hP (e.mp h)), if_neg hP]
    by_cases h1 : IntOp.andi (ok (ix2 0 n)) (valid (ix2 0 n)) = 1#1 <;> by_cases h2 : valid (ix2 0 n) = 1#1 <;> simp [h1, h2]

end

end Cert.Proof.Chunk
-- ==== Proof.NmsGoal.lean ====
/- Hand-written, untrusted: what the suppression call and its reference both compute, written once. -/
module

public import proofs.«01_k».proof.Proof.NmsSpec
public import proofs.«01_k».proof.Proof.Greedy

@[expose] public section

noncomputable section

namespace Cert.Proof.Chunk

open Idealize.ShloMosaic

/-- Two images of 2048 entries. -/
abbrev SI : Shape := ⟨2, ![2, 2048]⟩

/-- A box's lower and upper ends, from the sides of its anchor, the shifts and the growths. -/
def lows (t : BitVec 32 → EReal) (R : SI.Idx → BitVec 32) (d e : SI.Idx → EReal) : SI.Idx → EReal := fun i => lo (t (R i)) (d i) (e i)
def highs (t : BitVec 32 → EReal) (R : SI.Idx → BitVec 32) (d e : SI.Idx → EReal) : SI.Idx → EReal := fun i => hi (t (R i)) (d i) (e i)

section
variable (X1 Y1 X2 Y2 : SI.Idx → EReal) (b : Fin 2)

/-- A box's area. -/
def areaS (i : Fin 2048) : EReal := max (X2 (ix2 b i) - X1 (ix2 b i)) 0 * max (Y2 (ix2 b i) - Y1 (ix2 b i)) 0

/-- The area two boxes share. -/
def shareS (i j : Fin 2048) : EReal :=
  max (min (X2 (ix2 b i)) (X2 (ix2 b j)) - max (X1 (ix2 b i)) (X1 (ix2 b j))) 0 * max (min (Y2 (ix2 b i)) (Y2 (ix2 b j)) - max (Y1 (ix2 b i)) (Y1 (ix2 b j))) 0

/-- The area two boxes cover, held away from zero. -/
def unionS (i j : Fin 2048) : EReal :=
  max (areaS X1 Y1 X2 Y2 b i + areaS X1 Y1 X2 Y2 b j - shareS X1 Y1 X2 Y2 b i j) (Ideal.ofBits .f32 0x3089705F#32)

/-- Two boxes overlap by more than the threshold's share. -/
def overS (i j : ℕ) : Prop := ∃ (hi : i < 2048) (hj : j < 2048),
  Ideal.ofBits .f32 0x3F333333#32 * unionS X1 Y1 X2 Y2 b ⟨i, hi⟩ ⟨j, hj⟩ < shareS X1 Y1 X2 Y2 b ⟨i, hi⟩ ⟨j, hj⟩

/-- Whether an entry's box is large enough. -/
def okS (n : Fin 2048) : BitVec 1 := okB (X1 (ix2 b n)) (Y1 (ix2 b n)) (X2 (ix2 b n)) (Y2 (ix2 b n))

/-- An entry is a candidate. -/
def candS (n : ℕ) : Prop := ∃ h : n < 2048, IntOp.andi (okS X1 Y1 X2 Y2 b ⟨n, h⟩) (valB n) = 1#1

end

/-- Every entry's code, of the boxes. -/
def codeS (X1 Y1 X2 Y2 : SI.Idx → EReal) : SI.Idx → BitVec 32 := fun i =>
  code (Greedy.Kept (candS X1 Y1 X2 Y2 (i 0)) (overS X1 Y1 X2 Y2 (i 0)) (i 1).val) (okS X1 Y1 X2 Y2 (i 0) (i 1)) (valB (i 1).val)

/-- The greedy choice below `N` depends on candidates and clashes below `N` only. -/
theorem kept_congr (N : ℕ) (C C' : ℕ → Prop) (S S' : ℕ → ℕ → Prop) (hC : ∀ i, i < N → (C i ↔ C' i))
    (hS : ∀ i j, i < N → j < N → (S i j ↔ S' i j)) (i : ℕ) (hi : i < N) : Greedy.Kept C S i ↔ Greedy.Kept C' S' i := by
  induction i using Nat.strong_induction_on with
  | _ i ih =>
    rw [Greedy.kept_iff, Greedy.kept_iff C' S', hC i hi]
    refine and_congr_right fun _ => forall_congr' fun j => forall_congr' fun hj => ?_
    rw [ih j hj (hj.trans hi), hS j i (hj.trans hi) hi]

/-- The threshold on the quotient is the threshold's multiple of the divisor. -/
theorem quotient_iff (s u : EReal) (h : Ideal.ofBits .f32 0x3089705F#32 ≤ u) :
    Ideal.ofBits .f32 0x3F333333#32 < Ideal.div s u ↔ Ideal.ofBits .f32 0x3F333333#32 * u < s := by
  have ht : Ideal.ofBits .f32 0x3F333333#32 = ((11744051 / 16777216 : ℝ) : EReal) := by
    simp [Ideal.ofBits, Ideal.ieee, -EReal.coe_mul]; norm_num
  have he : (0 : EReal) < Ideal.ofBits .f32 0x3089705F#32 := by
    simp [Ideal.ofBits, Ideal.ieee, -EReal.coe_mul]
  have hu : 0 < u := he.trans_le h
  unfold Ideal.div
  rw [if_neg hu.ne', ht]
  by_cases htop : u = ⊤
  · subst htop
    rw [EReal.inv_top, mul_zero, EReal.coe_mul_top_of_pos (by norm_num)]
    constructor
    · intro h1
      exact absurd h1 (not_lt.mpr (by norm_cast; norm_num))
    · intro h1
      exact absurd h1 not_top_lt
  · rw [← div_eq_mul_inv, EReal.lt_div_iff hu htop]

end Cert.Proof.Chunk
-- ==== Proof.NmsKernelGoal.lean ====
/- Hand-written, untrusted: the suppression call computes the boxes and codes of the specification. -/
module

public import proofs.«01_k».proof.Proof.NmsValue
public import proofs.«01_k».proof.Proof.NmsBox
public import proofs.«01_k».proof.Proof.NmsCand
public import proofs.«01_k».proof.Proof.NmsGoal

@[expose] public section

set_option maxRecDepth 16384

noncomputable section

namespace Cert.Proof.Chunk

open Cert.NmsIdeal Cert.NmsIdeal.Gen Idealize.ShloMosaic Idealize.ShloMosaic.TcCoe Idealize.SL.Sem

variable (m : (ℓ : Loc nD τ sig) → Buf (Elt Ideal) ℓ) (c : Dev nD)

/-- The boxes' ends. -/
abbrev kX1 : SI.Idx → EReal := lows wTab (a1 m c) (a2 m c) (a5 m c)
abbrev kY1 : SI.Idx → EReal := lows hTab (a1 m c) (a3 m c) (a4 m c)
abbrev kX2 : SI.Idx → EReal := highs wTab (a1 m c) (a2 m c) (a5 m c)
abbrev kY2 : SI.Idx → EReal := highs hTab (a1 m c) (a3 m c) (a4 m c)

theorem area_apply (x1 y1 x2 y2 : FVec Idealize.ShloMosaic.Ideal S1x2048 .f32) (n : Fin 2048) : k0_pay90 x1 y1 x2 y2 (ix2 0 n)
    = max (x2 (ix2 0 n) - x1 (ix2 0 n)) 0 * max (y2 (ix2 0 n) - y1 (ix2 0 n)) 0 := by
  pointwise [k0_pay90]

theorem stack_apply {α : Type} (f : Fin 2 → S1x2048.Idx → α) (g : SI.Idx → α) (h : ∀ b n, f b (ix2 0 n) = g (ix2 b n)) : stack2 f = g := by
  funext i
  refine (h (i 0) (i 1)).trans (congrArg g (funext fun a => by fin_cases a <;> rfl))

variable (hr : ∀ (b : Fin 2) (n : Fin 2048), (a1 m c (ix2 b n)).toNat < 240000) (b : Fin 2)
include hr

theorem rws_x1 (n : Fin 2048) : (rws m c b).x1 (ix2 0 n) = kX1 m c (ix2 b n) := bx1_apply (row1 (a1 m c) b) (row1 (a2 m c) b) (row1 (a5 m c) b) n (hr b n)
theorem rws_y1 (n : Fin 2048) : (rws m c b).y1 (ix2 0 n) = kY1 m c (ix2 b n) := by1_apply (row1 (a1 m c) b) (row1 (a3 m c) b) (row1 (a4 m c) b) n (hr b n)
theorem rws_x2 (n : Fin 2048) : (rws m c b).x2 (ix2 0 n) = kX2 m c (ix2 b n) := bx2_apply (row1 (a1 m c) b) (row1 (a2 m c) b) (row1 (a5 m c) b) n (hr b n)
theorem rws_y2 (n : Fin 2048) : (rws m c b).y2 (ix2 0 n) = kY2 m c (ix2 b n) := by2_apply (row1 (a1 m c) b) (row1 (a3 m c) b) (row1 (a4 m c) b) n (hr b n)

theorem rws_ar (n : Fin 2048) : (rws m c b).ar (ix2 0 n) = areaS (kX1 m c) (kY1 m c) (kX2 m c) (kY2 m c) b n := by
  refine (area_apply (rws m c b).x1 (rws m c b).y1 (rws m c b).x2 (rws m c b).y2 n).trans ?_
  rw [rws_x1 m c hr, rws_y1 m c hr, rws_x2 m c hr, rws_y2 m c hr]
  rfl

theorem over_iff (i j : ℕ) (hi : i < 2048) (hj : j < 2048) :
    OverP (rws m c b).x1 (rws m c b).y1 (rws m c b).x2 (rws m c b).y2 (rws m c b).ar i j ↔ overS (kX1 m c) (kY1 m c) (kX2 m c) (kY2 m c) b i j := by
  have e1 (n : ℕ) (hn : n < 2048) := (at_fin (rws m c b).x1 ⟨n, hn⟩).symm.trans (rws_x1 m c hr b ⟨n, hn⟩)
  have e2 (n : ℕ) (hn : n < 2048) := (at_fin (rws m c b).y1 ⟨n, hn⟩).symm.trans (rws_y1 m c hr b ⟨n, hn⟩)
  have e3 (n : ℕ) (hn : n < 2048) := (at_fin (rws m c b).x2 ⟨n, hn⟩).symm.trans (rws_x2 m c hr b ⟨n, hn⟩)
  have e4 (n : ℕ) (hn : n < 2048) := (at_fin (rws m c b).y2 ⟨n, hn⟩).symm.trans (rws_y2 m c hr b ⟨n, hn⟩)
  have e5 (n : ℕ) (hn : n < 2048) := (at_fin (rws m c b).ar ⟨n, hn⟩).symm.trans (rws_ar m c hr b ⟨n, hn⟩)
  generalize (rws m c b).x1 = x1 at *
  generalize (rws m c b).y1 = y1 at *
  generalize (rws m c b).x2 = x2 at *
  generalize (rws m c b).y2 = y2 at *
  generalize (rws m c b).ar = ar at *
  unfold OverP interP
  rw [e1 i hi, e1 j hj, e2 i hi, e2 j hj, e3 i hi, e3 j hj, e4 i hi, e4 j hj, e5 i hi, e5 j hj]
  exact ⟨fun h => ⟨hi, hj, h⟩, fun ⟨_, _, h⟩ => h⟩

theorem ok_apply (n : Fin 2048) : bok (F := Ideal) (row1 (a1 m c) b) (row1 (a2 m c) b) (row1 (a3 m c) b) (row1 (a4 m c) b) (row1 (a5 m c) b) (ix2 0 n)
    = okS (kX1 m c) (kY1 m c) (kX2 m c) (kY2 m c) b n := by
  refine (bok_apply _ _ _ _ _ n).trans ?_
  unfold okS
  rw [← rws_x1 m c hr, ← rws_y1 m c hr, ← rws_x2 m c hr, ← rws_y2 m c hr]
  rfl

theorem cand_iff (i : ℕ) : CandP (row1 (a1 m c) b) (row1 (a2 m c) b) (row1 (a3 m c) b) (row1 (a4 m c) b) (row1 (a5 m c) b) i
    ↔ candS (kX1 m c) (kY1 m c) (kX2 m c) (kY2 m c) b i := by
  unfold CandP candS
  refine exists_congr fun h => ?_
  rw [← ok_apply m c hr b ⟨i, h⟩, ← valid_apply ⟨i, h⟩]
  rfl

theorem cods_apply (n : Fin 2048) : cods m c b (ix2 0 n) = codeS (kX1 m c) (kY1 m c) (kX2 m c) (kY2 m c) (ix2 b n) := by
  rw [cods_eq]
  refine (group_apply n _ _ _ _ ((at_fin _ n).trans (rows_kept _ _ _ _ _ n.val n.isLt))).trans ?_
  rw [ok_apply m c hr b n, valid_apply n]
  show code _ _ _ = code _ _ _
  rw [propext (kept_congr 2048 _ _ _ _ (fun i _ => cand_iff m c hr b i) (fun i j hi hj => over_iff m c hr b i j hi hj) n.val n.isLt)]
  rfl

/-- What the call's results hold. -/
theorem nms_x1 : stack2 (fun b => (rws m c b).x1) = kX1 m c := stack_apply _ _ (rws_x1 m c hr)
theorem nms_y1 : stack2 (fun b => (rws m c b).y1) = kY1 m c := stack_apply _ _ (rws_y1 m c hr)
theorem nms_x2 : stack2 (fun b => (rws m c b).x2) = kX2 m c := stack_apply _ _ (rws_x2 m c hr)
theorem nms_y2 : stack2 (fun b => (rws m c b).y2) = kY2 m c := stack_apply _ _ (rws_y2 m c hr)
theorem nms_codes : stack2 (cods m c) = codeS (kX1 m c) (kY1 m c) (kX2 m c) (kY2 m c) := stack_apply _ _ (cods_apply m c hr)

end Cert.Proof.Chunk
-- ==== Proof.Order.lean ====
/- Hand-written, untrusted: sorting positions, and when two ways of sorting agree. -/
module

public import Idealize.ShloMosaic.Lib.SortFacts
public import proofs.«01_k».proof.Proof.Greedy
public import Mathlib.Order.WellFounded

@[expose] public section

namespace Cert.Proof.Order

open Idealize.ShloMosaic

section Stable

variable {ι κ : Type} [LinearOrder ι] [LinearOrder κ] (key : ι → κ)

/-- Ordered by a key, equal keys by position. -/
def Before (a b : ι) : Prop := key a < key b ∨ (key a = key b ∧ a < b)

theorem before_insert (a : ι) (l : List ι) (ha : ∀ b ∈ l, a < b) (hl : l.Pairwise (Before key)) :
    (insertBefore (fun x y => decide (key x < key y)) a l).Pairwise (Before key) := by
  induction l with
  | nil => exact List.pairwise_singleton _ _
  | cons b l ih =>
    obtain ⟨hb, hl'⟩ := List.pairwise_cons.mp hl
    unfold insertBefore
    split
    · rename_i h
      have hba : key b < key a := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · rename_i h
      have hab : key a ≤ key b := by simpa using h
      refine List.pairwise_cons.mpr ⟨fun x hx => ?_, hl⟩
      have hle : key a ≤ key x := by
        rcases List.mem_cons.mp hx with rfl | hx'
        · exact hab
        · rcases hb x hx' with h1 | ⟨h1, -⟩
          · exact hab.trans h1.le
          · exact hab.trans h1.le
      rcases hle.lt_or_eq with h1 | h1
      · exact Or.inl h1
      · exact Or.inr ⟨h1, ha x hx⟩

/-- The stable sort leaves a list by key, equal keys by position. -/
theorem before_sort (l : List ι) (hl : l.Pairwise (· < ·)) : (stableSort (fun x y => decide (key x < key y)) l).Pairwise (Before key) := by
  induction l with
  | nil => exact List.Pairwise.nil
  | cons a l ih =>
    obtain ⟨ha, hl'⟩ := List.pairwise_cons.mp hl
    unfold stableSort
    exact before_insert key a _ (fun b hb => ha b ((perm_stableSort _ l).mem_iff.mp hb)) (ih hl')

end Stable

/-- Sorted positions go up by key, equal keys by position. -/
theorem sorted_before {n : ℕ} {κ : Type} [LinearOrder κ] (key : Fin n → κ) (i j : Fin n) (h : i < j) :
    Before key (sortedFrom (fun x y => decide (key x < key y)) i) (sortedFrom (fun x y => decide (key x < key y)) j) := by
  have hp : ∀ a b : Fin (sortPositions n fun x y => decide (key x < key y)).length, a < b →
      Before key ((sortPositions n fun x y => decide (key x < key y)).get a) ((sortPositions n fun x y => decide (key x < key y)).get b) :=
    List.pairwise_iff_get.mp (before_sort key (List.finRange n) (List.pairwise_lt_finRange n))
  unfold sortedFrom
  exact hp _ _ (by simp only [Fin.lt_def, Fin.val_cast]; exact h)

/-- Two orderings of the positions that go up by the same key, equal keys by position, are equal. -/
theorem unique {n : ℕ} {κ : Type} [LinearOrder κ] (key : Fin n → κ) (f g : Fin n → Fin n)
    (hf : ∀ i j, i < j → Before key (f i) (f j)) (hg : ∀ i j, i < j → Before key (g i) (g j)) : f = g := by
  let K : Fin n → κ ×ₗ Fin n := fun i => toLex (key i, i)
  have hK (a b : Fin n) : Before key a b ↔ K a < K b := by
    show _ ↔ toLex (key a, a) < toLex (key b, b)
    rw [Prod.Lex.toLex_lt_toLex]
    rfl
  have ff : StrictMono fun i => K (f i) := fun i j h => (hK _ _).mp (hf i j h)
  have gg : StrictMono fun i => K (g i) := fun i j h => (hK _ _).mp (hg i j h)
  have hinj : Function.Injective K := fun a b h => (Prod.ext_iff.mp (congrArg ofLex h)).2
  have fi : Function.Surjective f := Finite.surjective_of_injective fun a b h => ff.injective (congrArg K h)
  have gi : Function.Surjective g := Finite.surjective_of_injective fun a b h => gg.injective (congrArg K h)
  have hr : Set.range (fun i => K (f i)) = Set.range fun i => K (g i) := by
    have e1 : Set.range (fun i => K (f i)) = Set.range K := fi.range_comp K
    have e2 : Set.range (fun i => K (g i)) = Set.range K := gi.range_comp K
    rw [e1, e2]
  have := (StrictMono.range_inj ff gg).mp hr
  exact funext fun i => hinj (congrFun this i)

end Cert.Proof.Order
-- ==== Proof.Sort.lean ====
/- Hand-written, untrusted: the two programs' sorts, row by row. -/
module

public import proofs.«01_k».proof.Proof.Order
public import proofs.«01_k».proof.Proof.Gen.NmsIdeal
public import proofs.«01_k».proof.Proof.Gen.NmsRefIdeal
public import Idealize.ShloMosaic.Lib.Pointwise

@[expose] public section

set_option maxRecDepth 16384

noncomputable section

namespace Cert.Proof.Order

open Idealize.ShloMosaic

/-- The positions by a key, equal keys in order of position. -/
def byKey {n : ℕ} {κ : Type} [LinearOrder κ] (key : Fin n → κ) : Fin n → Fin n := sortedFrom fun p q => decide (key p < key q)

theorem byKey_before {n : ℕ} {κ : Type} [LinearOrder κ] (key : Fin n → κ) (i j : Fin n) (h : i < j) : Before key (byKey key i) (byKey key j) :=
  sorted_before key i j h

theorem byKey_onto {n : ℕ} {κ : Type} [LinearOrder κ] (key : Fin n → κ) : Function.Surjective (byKey key) := sortedFrom_surjective _

theorem along_row {n : ℕ} (b : Fin 2) (r k : Fin n) :
    Shape.Idx.along (s := ⟨2, ![2, n]⟩) (ix2 b r) (1 : Fin 2) k = ix2 b k := by
  funext a
  fin_cases a
  · exact Function.update_of_ne (show (0 : Fin 2) ≠ 1 by decide) _ _
  · exact Function.update_self _ _ _

section
variable {n : ℕ} {α κ : Type} [LinearOrder κ] (cmp : α × BitVec 32 → α × BitVec 32 → BitVec 1) (key : α → κ)
  (hc : ∀ a b, cmp a b = 1#1 ↔ key a.1 < key b.1) (x : (⟨2, ![2, n]⟩ : Shape).Idx → α) (y : (⟨2, ![2, n]⟩ : Shape).Idx → BitVec 32) (b : Fin 2) (r : Fin n)
include hc

theorem picked_eq : sortedFrom (fun k k' : Fin n => cmp (x (Shape.Idx.along (s := ⟨2, ![2, n]⟩) (ix2 b r) (1 : Fin 2) k), y (Shape.Idx.along (s := ⟨2, ![2, n]⟩) (ix2 b r) (1 : Fin 2) k))
      (x (Shape.Idx.along (s := ⟨2, ![2, n]⟩) (ix2 b r) (1 : Fin 2) k'), y (Shape.Idx.along (s := ⟨2, ![2, n]⟩) (ix2 b r) (1 : Fin 2) k')) == 1#1)
    = byKey fun p => key (x (ix2 b p)) := by
  unfold byKey
  congr 1
  funext p q
  rw [along_row, along_row, Bool.eq_iff_iff, beq_iff_eq, decide_eq_true_iff, hc]

/-- A row sorted, -/
theorem sort_values : (Host.sort2 ⟨2, ![2, n]⟩ 1 cmp x y).1 (ix2 b r) = x (ix2 b (byKey (fun p => key (x (ix2 b p))) r)) := by
  unfold Host.sort2
  rw [dif_pos (show 1 < 2 by decide)]
  refine (congrArg (fun f : Fin n → Fin n => x (Shape.Idx.along (s := ⟨2, ![2, n]⟩) (ix2 b r) (1 : Fin 2) (f r))) (picked_eq cmp key hc x y b r)).trans ?_
  show x (Shape.Idx.along (s := ⟨2, ![2, n]⟩) (ix2 b r) (1 : Fin 2) _) = _
  rw [along_row]

/-- and the positions its entries come from. -/
theorem sort_places (hy : ∀ p, y (ix2 b p) = BitVec.ofNat 32 p.val) :
    (Host.sort2 ⟨2, ![2, n]⟩ 1 cmp x y).2 (ix2 b r) = BitVec.ofNat 32 (byKey (fun p => key (x (ix2 b p))) r).val := by
  unfold Host.sort2
  rw [dif_pos (show 1 < 2 by decide)]
  refine (congrArg (fun f : Fin n → Fin n => y (Shape.Idx.along (s := ⟨2, ![2, n]⟩) (ix2 b r) (1 : Fin 2) (f r))) (picked_eq cmp key hc x y b r)).trans ?_
  show y (Shape.Idx.along (s := ⟨2, ![2, n]⟩) (ix2 b r) (1 : Fin 2) _) = _
  rw [along_row, hy]

end

/-! ## The comparisons -/

theorem greater_iff (a b : EReal) : FloatOps.cmpfTotal (F := Ideal) (φ := .f32) .gt a b = 1#1 ↔ OrderDual.toDual a < OrderDual.toDual b := by
  rw [OrderDual.toDual_lt_toDual]
  show BitVec.ofBool (decide (b < a)) = 1#1 ↔ _
  by_cases h : b < a <;> simp [h]

theorem no_nan (a : EReal) : Scalar.select (FloatOps.cmpf (F := Ideal) (φ := .f32) .une a a) (FloatOps.ofBits (F := Ideal) .f32 0x7FC00000#32)
    (Scalar.select (FloatOps.cmpf (F := Ideal) (φ := .f32) .oeq a (FloatOps.ofBits (F := Ideal) .f32 0x00000000#32)) (FloatOps.ofBits (F := Ideal) .f32 0x00000000#32) a) = a := by
  have h1 : FloatOps.cmpf (F := Ideal) (φ := .f32) .une a a = 0#1 := by
    show BitVec.ofBool (decide (a ≠ a)) = 0#1
    simp
  rw [h1]
  show Scalar.select (FloatOps.cmpf (F := Ideal) (φ := .f32) .oeq a (FloatOps.ofBits (F := Ideal) .f32 0x00000000#32)) (FloatOps.ofBits (F := Ideal) .f32 0x00000000#32) a = a
  by_cases h : a = FloatOps.ofBits (F := Ideal) .f32 0x00000000#32
  · rw [← h]
    unfold Scalar.select
    split <;> rfl
  · have h2 : FloatOps.cmpf (F := Ideal) (φ := .f32) .oeq a (FloatOps.ofBits (F := Ideal) .f32 0x00000000#32) = 0#1 := by
      exact congrArg BitVec.ofBool (decide_eq_false h)
    rw [h2]
    rfl

theorem less_iff (l r : EReal × BitVec 32) : Cert.NmsRefIdeal.comparator_f32_i32_d1 (F := Ideal) l r = 1#1 ↔ l.1 < r.1 := by
  unfold Cert.NmsRefIdeal.comparator_f32_i32_d1
  simp only [no_nan]
  show BitVec.ofBool (decide (l.1 < r.1)) = 1#1 ↔ _
  by_cases h : l.1 < r.1 <;> simp [h]

theorem code_iff (l r : BitVec 32 × BitVec 32) : Cert.NmsIdeal.comparator_i32_i32_d1 l r = 1#1 ↔ l.1.toInt < r.1.toInt := by
  unfold Cert.NmsIdeal.comparator_i32_i32_d1
  show BitVec.ofBool (l.1.slt r.1) = 1#1 ↔ _
  rw [BitVec.slt]
  by_cases h : l.1.toInt < r.1.toInt <;> simp [h]

/-! ## The greatest entries of a row -/

theorem first_at {α : Type} {n t : ℕ} (htn : t ≤ n) (W : (⟨2, ![2, n]⟩ : Shape).Idx → α) (h : (⟨2, ![2, n]⟩ : Shape).Slices (fun _ => 0) ⟨2, ![2, t]⟩)
    (b : Fin 2) (r : Fin t) : extractStridedSlice ⟨2, ![2, t]⟩ (fun _ => 0) W h (ix2 b r) = W (ix2 b ⟨r.val, r.isLt.trans_le htn⟩) := by
  unfold extractStridedSlice
  refine congrArg W (funext fun a => Fin.ext ?_)
  fin_cases a
  · exact Nat.zero_add _
  · exact Nat.zero_add _

theorem top_places {n t : ℕ} (htn : t ≤ n) (X : (⟨2, ![2, n]⟩ : Shape).Idx → EReal) (h : (⟨2, ![2, n]⟩ : Shape).Slices (fun _ => 0) ⟨2, ![2, t]⟩)
    (b : Fin 2) (r : Fin t) : (Host.topK ⟨2, ![2, t]⟩ 1 (FloatOps.cmpfTotal (F := Ideal) (φ := .f32) .gt) X h).2 (ix2 b r)
      = BitVec.ofNat 32 (byKey (fun p => OrderDual.toDual (X (ix2 b p))) ⟨r.val, r.isLt.trans_le htn⟩).val := by
  have e := sort_places (fun l r => FloatOps.cmpfTotal (F := Ideal) (φ := .f32) .gt l.1 r.1) OrderDual.toDual (fun l r => greater_iff l.1 r.1) X
    (fun i => if hd : 1 < (⟨2, ![2, n]⟩ : Shape).rank then iotaInDim ⟨2, ![2, n]⟩ 32 ⟨1, hd⟩ i else 0#32) b ⟨r.val, r.isLt.trans_le htn⟩ (fun p => rfl)
  refine Eq.trans ?_ e
  exact first_at htn (Host.sort2 ⟨2, ![2, n]⟩ 1 (fun l r => FloatOps.cmpfTotal (F := Ideal) (φ := .f32) .gt l.1 r.1) X
    (fun i => if hd : 1 < (⟨2, ![2, n]⟩ : Shape).rank then iotaInDim ⟨2, ![2, n]⟩ 32 ⟨1, hd⟩ i else 0#32)).2 h b r

/-! ## A row and its padding -/

/-- Where the padding has a greater key, and the same key throughout, it does not change which rows come first. -/
theorem padded {N M : ℕ} (hNM : N ≤ M) (key : Fin M → ℤ) (f : Fin N → Fin N)
    (hf : ∀ i j, i < j → Before (fun n : Fin N => key (Fin.castLE hNM n)) (f i) (f j))
    (h1 : ∀ (n : Fin N) (p : Fin M), N ≤ p.val → key (Fin.castLE hNM n) < key p) (h2 : ∀ p q : Fin M, N ≤ p.val → N ≤ q.val → key p = key q) (i : Fin N) :
    byKey key (Fin.castLE hNM i) = Fin.castLE hNM (f i) := by
  let g : Fin M → Fin M := fun p => if h : p.val < N then Fin.castLE hNM (f ⟨p.val, h⟩) else p
  have hg : byKey key = g := by
    refine unique key _ _ (fun i j h => byKey_before key i j h) fun p q hpq => ?_
    have hv : p.val < q.val := hpq
    show Before key (if h : p.val < N then Fin.castLE hNM (f ⟨p.val, h⟩) else p) (if h : q.val < N then Fin.castLE hNM (f ⟨q.val, h⟩) else q)
    by_cases hq : q.val < N
    · have hp : p.val < N := hv.trans hq
      rw [dif_pos hp, dif_pos hq]
      exact hf ⟨p.val, hp⟩ ⟨q.val, hq⟩ hv
    · rw [dif_neg hq]
      by_cases hp : p.val < N
      · rw [dif_pos hp]
        exact Or.inl (h1 _ q (by omega))
      · rw [dif_neg hp]
        exact Or.inr ⟨h2 p q (by omega) (by omega), hpq⟩
  rw [hg]
  show (if h : i.val < N then Fin.castLE hNM (f ⟨i.val, h⟩) else Fin.castLE hNM i) = _
  rw [dif_pos i.isLt]

end Cert.Proof.Order
-- ==== Proof.NmsTop.lean ====
/- Hand-written, untrusted: the rows of the greatest scores, the head's values there and the boxes they make. -/
module

public import proofs.«01_k».proof.Proof.Sort
public import proofs.«01_k».proof.Proof.NmsGoal
public import proofs.«01_k».proof.Proof.Gen.NmsIdeal
public import Idealize.ShloMosaic.Lib.Pointwise

@[expose] public section

set_option maxRecDepth 16384

noncomputable section

namespace Cert.Proof.Top

open Idealize.ShloMosaic Cert.NmsIdeal Cert.NmsIdeal.Gen
open Cert.Proof.Chunk (lo hi wBits hBits)

variable (x : S2x16000x15.Idx → EReal) (z : S2x16000x60.Idx → EReal) (b : Fin 2) (n : Fin 2000)

/-- The scores, a row for each image. -/
def rows : S2x240000.Idx → EReal := shapeCast S2x240000 x shapeCasts_S2x16000x15_S2x240000

/-- The head's values, a row for each anchor of both images. -/
def table : S480000x4.Idx → EReal := shapeCast S480000x4 z shapeCasts_S2x16000x60_S480000x4

/-- The anchor with the `n`-th greatest score. -/
def top : Fin 240000 := Order.byKey (fun p => OrderDual.toDual (rows x (ix2 b p))) ⟨n.val, by omega⟩

/-- Its row in the table. -/
def spot : Fin 480000 := ⟨(top x b n).val + b.val * 240000, by have := (top x b n).isLt; omega⟩

/-- Its score. -/
def score : EReal := rows x (ix2 b (top x b n))

/-- The head's values for it. -/
def val (k : Fin 4) : EReal := table z (ix2 (spot x b n) k)

/-- The sides of its anchor. -/
def wide : EReal := Ideal.ofBits .f32 (wBits ⟨(top x b n).val % 15, Nat.mod_lt _ (by norm_num)⟩)
def high : EReal := Ideal.ofBits .f32 (hBits ⟨(top x b n).val % 15, Nat.mod_lt _ (by norm_num)⟩)

/-- Its box. -/
def box : Fin 4 → EReal := ![lo (wide x b n) (val x z b n 0) (val x z b n 3), lo (high x b n) (val x z b n 1) (val x z b n 2),
  hi (wide x b n) (val x z b n 0) (val x z b n 3), hi (high x b n) (val x z b n 1) (val x z b n 2)]

/-- The scores fall. -/
theorem score_falls (i j : Fin 2000) (h : i < j) : score x b j ≤ score x b i := by
  rcases Order.byKey_before (fun p => OrderDual.toDual (rows x (ix2 b p))) ⟨i.val, by omega⟩ ⟨j.val, by omega⟩ h with h1 | ⟨h1, -⟩
  · exact (OrderDual.toDual_lt_toDual.mp h1).le
  · exact (OrderDual.toDual_inj.mp h1).ge

/-- A score is one of the scores. -/
theorem score_mem (F : EReal) (h : ∀ i, F < x i) : F < score x b n := h _

/-- The places found. -/
theorem places_at (X : S2x240000.Idx → EReal) (h : X = rows x) :
    (Host.topK S2x2000 1 (FloatOps.cmpfTotal (F := Ideal) (φ := .f32) .gt) X sliceFits_S2x240000_S2x2000).2 (ix2 b n) = BitVec.ofNat 32 (top x b n).val := by
  subst h
  exact Order.top_places (by norm_num) _ _ b n

end Cert.Proof.Top
-- ==== Proof.Rank.lean ====
/- Hand-written, untrusted: choosing by the score kept is choosing by the code. -/
module

public import proofs.«01_k».proof.Proof.Order

@[expose] public section

namespace Cert.Proof.Order

open Idealize.ShloMosaic

section

/-- Rows in the order of falling scores, whether each is large enough, the score left for one that is not, the order of the scores so
    left, the rows kept in that order, and the order of the scores kept. -/
structure Ranked (N : ℕ) {κ : Type} [LinearOrder κ] (s : Fin N → κ) (ok : Fin N → Prop) (F : κ) (t : Fin N → κ) (P : Fin N → Fin N)
    (C : ℕ → Prop) (S : ℕ → ℕ → Prop) (S' : ℕ → ℕ → Prop) (u : Fin N → κ) (Q : Fin N → Fin N) : Prop where
  falls : ∀ i j, i < j → s j ≤ s i
  above : ∀ i, F < s i
  left : ∀ i, ok i → t i = s i
  drop : ∀ i, ¬ ok i → t i = F
  sorted : ∀ i j, i < j → t (P j) < t (P i) ∨ (t (P i) = t (P j) ∧ P i < P j)
  onto : Function.Surjective P
  cand : ∀ i : Fin N, C i.val ↔ ok i
  clash : ∀ i j : Fin N, S' i.val j.val ↔ S (P i).val (P j).val
  keep : ∀ i : Fin N, Greedy.Kept (fun _ => True) S' i.val → u i = t (P i)
  lose : ∀ i : Fin N, ¬ Greedy.Kept (fun _ => True) S' i.val → u i = F
  chosen : ∀ i j, i < j → u (Q j) < u (Q i) ∨ (u (Q i) = u (Q j) ∧ Q i < Q j)

variable {N : ℕ} {κ : Type} [LinearOrder κ] {s : Fin N → κ} {ok : Fin N → Prop} {F : κ} {t : Fin N → κ} {P : Fin N → Fin N}
  {C : ℕ → Prop} {S S' : ℕ → ℕ → Prop} {u : Fin N → κ} {Q : Fin N → Fin N} (h : Ranked N s ok F t P C S S' u Q)
include h

theorem Ranked.inj : Function.Injective P := Finite.injective_iff_surjective.mpr h.onto

/-- A row large enough comes before any later row that is large enough, -/
theorem Ranked.mono (i j : Fin N) (oi : ok (P i)) (oj : ok (P j)) (hij : i < j) : P i < P j := by
  rcases h.sorted i j hij with h1 | ⟨-, h1⟩
  · rw [h.left _ oi, h.left _ oj] at h1
    rcases lt_trichotomy (P i) (P j) with h2 | h2 | h2
    · exact h2
    · rw [h2] at h1; exact absurd h1 (lt_irrefl _)
    · exact absurd h1 (not_lt.mpr (h.falls _ _ h2))
  · exact h1

theorem Ranked.mono_iff (i j : Fin N) (oi : ok (P i)) (oj : ok (P j)) : P i < P j ↔ i < j := by
  refine ⟨fun hp => ?_, h.mono i j oi oj⟩
  rcases lt_trichotomy i j with h1 | h1 | h1
  · exact h1
  · rw [h1] at hp; exact absurd hp (lt_irrefl _)
  · exact absurd (h.mono j i oj oi h1) (not_lt.mpr hp.le)

/-- and before every row that is not. -/
theorem Ranked.first (i j : Fin N) (oj : ok (P j)) (hij : i < j) : ok (P i) := by
  by_contra oi
  rcases h.sorted i j hij with h1 | ⟨h1, -⟩
  · rw [h.left _ oj, h.drop _ oi] at h1; exact absurd h1 (not_lt.mpr (h.above _).le)
  · rw [h.left _ oj, h.drop _ oi] at h1; exact absurd (h.above (P j)) (by rw [h1]; exact lt_irrefl _)

/-- The same rows are kept. -/
theorem Ranked.kept (n : ℕ) : ∀ i : Fin N, i.val = n → ok (P i) → (Greedy.Kept (fun _ => True) S' i.val ↔ Greedy.Kept C S (P i).val) := by
  induction n using Nat.strong_induction_on with
  | _ n ih =>
    intro i hn oi
    rw [Greedy.kept_iff, Greedy.kept_iff C S]
    constructor
    · rintro ⟨-, hk⟩
      refine ⟨(h.cand _).mpr oi, fun j hj kj hs => ?_⟩
      have hjN : j < N := hj.trans (P i).isLt
      obtain ⟨q, hq⟩ := h.onto ⟨j, hjN⟩
      have hqv : (P q).val = j := by rw [hq]
      have oq : ok (P q) := (h.cand _).mp (by rw [hqv]; exact Greedy.kept_candidate kj)
      have hqi : q < i := (h.mono_iff q i oq oi).mp (Fin.lt_def.mpr (by rw [hqv]; exact hj))
      have hqi' : q.val < i.val := hqi
      refine hk q.val hqi' ((ih q.val (by omega) q rfl oq).mpr (by rw [hqv]; exact kj)) ?_
      rw [h.clash q i, hqv]; exact hs
    · rintro ⟨-, hk⟩
      refine ⟨trivial, fun j hj kj hs => ?_⟩
      have hjN : j < N := hj.trans i.isLt
      have hji : (⟨j, hjN⟩ : Fin N) < i := hj
      have oj := h.first ⟨j, hjN⟩ i oi hji
      exact hk _ (Fin.lt_def.mp (h.mono _ _ oj oi hji)) ((ih j (by omega) ⟨j, hjN⟩ rfl oj).mp kj) ((h.clash ⟨j, hjN⟩ i).mp hs)

open Classical in
/-- A row's rank: kept, suppressed or too small. -/
noncomputable def rankOf {N : ℕ} (ok : Fin N → Prop) (C : ℕ → Prop) (S : ℕ → ℕ → Prop) (n : Fin N) : ℕ :=
  if Greedy.Kept C S n.val then 0 else if ok n then 1 else 2

/-- Choosing by the score kept goes up by the rank, equal ranks by row. -/
theorem Ranked.ranks (i j : Fin N) (hij : i < j) : Before (rankOf ok C S) (P (Q i)) (P (Q j)) := by
  classical
  have hko (n : Fin N) (k : Greedy.Kept C S n.val) : ok n := (h.cand n).mp (Greedy.kept_candidate k)
  -- a row's score left is above the floor exactly when it is kept
  have hkept (p : Fin N) (k : Greedy.Kept C S (P p).val) : u p = s (P p) := by
    have o := hko _ k
    rw [h.keep p ((h.kept _ p rfl o).mpr k), h.left _ o]
  have hlost (p : Fin N) (k : ¬ Greedy.Kept C S (P p).val) : u p = F := by
    by_cases k' : Greedy.Kept (fun _ => True) S' p.val
    · by_cases o : ok (P p)
      · exact absurd ((h.kept _ p rfl o).mp k') k
      · rw [h.keep p k', h.drop _ o]
    · exact h.lose p k'
  generalize hp : Q i = p
  generalize hq : Q j = q
  have hc := h.chosen i j hij
  rw [hp, hq] at hc
  unfold Before rankOf
  by_cases kp : Greedy.Kept C S (P p).val
  · by_cases kq : Greedy.Kept C S (P q).val
    · rw [if_pos kp, if_pos kq]
      refine Or.inr ⟨rfl, ?_⟩
      rcases hc with h1 | ⟨-, h1⟩
      · rw [hkept p kp, hkept q kq] at h1
        rcases lt_trichotomy (P p) (P q) with h2 | h2 | h2
        · exact h2
        · rw [h2] at h1; exact absurd h1 (lt_irrefl _)
        · exact absurd h1 (not_lt.mpr (h.falls _ _ h2))
      · exact h.mono p q (hko _ kp) (hko _ kq) h1
    · rw [if_pos kp, if_neg kq]
      left
      split <;> decide
  · have up := hlost p kp
    by_cases kq : Greedy.Kept C S (P q).val
    · exfalso
      have := h.above (P q)
      rw [up, hkept q kq] at hc
      rcases hc with h1 | ⟨h1, -⟩
      · exact absurd h1 (not_lt.mpr this.le)
      · rw [← h1] at this; exact lt_irrefl _ this
    · have uq := hlost q kq
      have hpq : p < q := by
        rcases hc with h1 | ⟨-, h1⟩
        · rw [up, uq] at h1; exact absurd h1 (lt_irrefl _)
        · exact h1
      rw [if_neg kp, if_neg kq]
      by_cases oq : ok (P q)
      · have op := h.first p q oq hpq
        rw [if_pos op, if_pos oq]
        exact Or.inr ⟨rfl, h.mono p q op oq hpq⟩
      · by_cases op : ok (P p)
        · rw [if_pos op, if_neg oq]
          left; decide
        · rw [if_neg op, if_neg oq]
          refine Or.inr ⟨rfl, ?_⟩
          rcases h.sorted p q hpq with h1 | ⟨-, h1⟩
          · rw [h.drop _ op, h.drop _ oq] at h1; exact absurd h1 (lt_irrefl _)
          · exact h1

end

end Cert.Proof.Order
-- ==== Proof.NmsWant.lean ====
/- Hand-written, untrusted: which boxes the plain suppression returns. -/
module

public import proofs.«01_k».proof.Proof.NmsTop
public import proofs.«01_k».proof.Proof.Rank

@[expose] public section

noncomputable section

namespace Cert.Proof.Top

open Idealize.ShloMosaic Cert.NmsIdeal
open Cert.Proof.Order (byKey)

/-- The score of a row left out. -/
def floor : EReal := Ideal.ofBits .f32 0xD01502F9#32

/-- A box's area, the area two share, the area they cover, held away from zero. -/
def area (B : Fin 4 → EReal) : EReal := max (B 2 - B 0) 0 * max (B 3 - B 1) 0
def share (B D : Fin 4 → EReal) : EReal := max (min (B 2) (D 2) - max (B 0) (D 0)) 0 * max (min (B 3) (D 3) - max (B 1) (D 1)) 0
def cover (B D : Fin 4 → EReal) : EReal := max (area B + area D - share B D) (Ideal.ofBits .f32 0x3089705F#32)

/-- Two boxes overlap by more than the threshold's share. -/
def Over (B D : Fin 4 → EReal) : Prop := Ideal.ofBits .f32 0x3F333333#32 * cover B D < share B D

/-- A box is large enough. -/
def Large (B : Fin 4 → EReal) : Prop := Chunk.okB (B 0) (B 1) (B 2) (B 3) = 1#1

variable (x : S2x16000x15.Idx → EReal) (z : S2x16000x60.Idx → EReal) (b : Fin 2)

open Classical in
/-- The scores left: a box too small has the lowest. -/
def leftScore (n : Fin 2000) : EReal := if Large (box x z b n) then score x b n else floor

/-- The rows by the scores left. -/
def inOrder : Fin 2000 → Fin 2000 := byKey fun p => -leftScore x z b p

/-- Two rows in that order overlap. -/
def Clashes (i j : ℕ) : Prop := ∃ (hi : i < 2000) (hj : j < 2000), Over (box x z b (inOrder x z b ⟨i, hi⟩)) (box x z b (inOrder x z b ⟨j, hj⟩))

open Classical in
/-- The scores kept. -/
def keptScore (n : Fin 2000) : EReal := if Greedy.Kept (fun _ => True) (Clashes x z b) n.val then leftScore x z b (inOrder x z b n) else floor

/-- The places by the scores kept. -/
def best : Fin 2000 → Fin 2000 := byKey fun p => OrderDual.toDual (keptScore x z b p)

/-- The suppression's greedy choice, beside candidates and clashes over the rows themselves. -/
theorem ranked (C : ℕ → Prop) (S : ℕ → ℕ → Prop) (hF : ∀ n, floor < score x b n) (hC : ∀ i : Fin 2000, C i.val ↔ Large (box x z b i))
    (hS : ∀ i j : Fin 2000, S i.val j.val ↔ Over (box x z b i) (box x z b j)) :
    Order.Ranked 2000 (score x b) (fun n => Large (box x z b n)) floor (leftScore x z b) (inOrder x z b) C S (Clashes x z b) (keptScore x z b) (best x z b) where
  falls := score_falls x b
  above := hF
  left _ h := if_pos h
  drop _ h := if_neg h
  sorted i j hij := by
    rcases Order.byKey_before (fun p => -leftScore x z b p) i j hij with h | ⟨h, h'⟩
    · exact Or.inl (EReal.neg_lt_neg_iff.mp h)
    · exact Or.inr ⟨neg_inj.mp h, h'⟩
  onto := Order.byKey_onto _
  cand := hC
  clash i j := ⟨fun ⟨_, _, h⟩ => (hS _ _).mpr h, fun h => ⟨i.isLt, j.isLt, (hS _ _).mp h⟩⟩
  keep _ h := if_pos h
  lose _ h := if_neg h
  chosen i j hij := by
    rcases Order.byKey_before (fun p => OrderDual.toDual (keptScore x z b p)) i j hij with h | ⟨h, h'⟩
    · exact Or.inl (OrderDual.toDual_lt_toDual.mp h)
    · exact Or.inr ⟨OrderDual.toDual_inj.mp h, h'⟩

end Cert.Proof.Top
-- ==== Proof.NmsRefAnchor.lean ====
/- Hand-written, untrusted: the anchors of the suppression call's reference. -/
module

public import proofs.«01_k».proof.Proof.NmsRefRun
public import Idealize.ShloMosaic.Lib.Pointwise
public import Idealize.ShloMosaic.Lib.Routing.Ops
public import proofs.«01_k».proof.Proof.NmsSpec
public import Idealize.ShloMosaic.Lib.StableHlo.RunRead

@[expose] public section

set_option maxRecDepth 16384

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem
open Cert.Proof.Chunk (anc wTab hTab wBits hBits)
open Idealize.ShloMosaic.Routing (gather_row)

variable (V : Valuation τ sig (Elt Ideal))

/-- The table of the 15 anchors. -/
def tab (k : Fin 15) (j : Fin 4) : EReal := Ideal.ofBits .f32 (lit0 (S15x4.rowMajor (ix2 k j)))

/-- The shift of a place, along the row and along the column. -/
def shift (x : ℕ) : EReal := (FloatOps.sitofp (F := Ideal) .f32 (BitVec.ofNat 32 x) + Ideal.ofBits .f32 1056964608#32) * Ideal.ofBits .f32 1090519040#32

section
variable (p : Fin 16000) (k : Fin 15)

theorem v23_0 : (after hostOps0 V (Proc.devRef .tc main_v23) : S16000x15x4.Idx → EReal) (ix3 p k (0 : Fin 4)) = shift (p.val % 160) + tab k 0 := by
  after_reads_simp
  pointwise []
  after_reads_simp
  pointwise []
  rfl

theorem v23_1 : (after hostOps0 V (Proc.devRef .tc main_v23) : S16000x15x4.Idx → EReal) (ix3 p k (1 : Fin 4)) = shift (p.val / 160) + tab k 1 := by
  after_reads_simp
  pointwise []
  after_reads_simp
  pointwise []
  rfl

theorem v23_2 : (after hostOps0 V (Proc.devRef .tc main_v23) : S16000x15x4.Idx → EReal) (ix3 p k (2 : Fin 4)) = shift (p.val % 160) + tab k 2 := by
  after_reads_simp
  pointwise []
  after_reads_simp
  pointwise []
  rfl

theorem v23_3 : (after hostOps0 V (Proc.devRef .tc main_v23) : S16000x15x4.Idx → EReal) (ix3 p k (3 : Fin 4)) = shift (p.val / 160) + tab k 3 := by
  after_reads_simp
  pointwise []
  after_reads_simp
  pointwise []
  rfl

end

/-- The anchors of both images, one row each. -/
def both (T : S16000x15x4.Idx → EReal) : S480000x4.Idx → EReal :=
  shapeCast S480000x4 (broadcastInDim S2x240000x4 ![0, 1, 2] bcast_S1x240000x4_S2x240000x4_0_1_2 (shapeCast S1x240000x4 T shapeCasts_S16000x15x4_S1x240000x4))
    shapeCasts_S2x240000x4_S480000x4

theorem v35_eq : (after hostOps0 V (Proc.devRef .tc main_v35) : S480000x4.Idx → EReal) = both (after hostOps0 V (Proc.devRef .tc main_v23)) := by
  after_reads_simp
  rfl

theorem both_at (T : S16000x15x4.Idx → EReal) (a : Fin 480000) (j : Fin 4) : both T (ix2 a j)
    = T (ix3 (⟨a.val % 240000 / 15, by omega⟩ : Fin 16000) (⟨a.val % 240000 % 15, by omega⟩ : Fin 15) j) := by
  pointwise [both]

/-! ## The sides of an anchor -/

theorem ofBits_8 : Ideal.ofBits .f32 1090519040#32 = ((8 : ℝ) : EReal) := by
  simp [Ideal.ofBits, Ideal.ieee, -EReal.coe_mul]; norm_num
theorem ofBits_h : Ideal.ofBits .f32 1056964608#32 = ((1 / 2 : ℝ) : EReal) := by
  simp [Ideal.ofBits, Ideal.ieee, -EReal.coe_mul]; norm_num

theorem shift_real (x : ℕ) : ∃ s : ℝ, shift x = s := by
  unfold shift
  rw [ofBits_8, ofBits_h]
  exact ⟨((BitVec.ofNat 32 x).toInt + 1 / 2) * 8, by norm_cast⟩

/-- A shifted side is the side. -/
theorem side (x : ℕ) (a b w : EReal) (h : ∃ p q : ℝ, a = p ∧ b = q ∧ w = ((p - q : ℝ) : EReal)) : (shift x + a) - (shift x + b) = w := by
  obtain ⟨p, q, rfl, rfl, rfl⟩ := h
  obtain ⟨s, hs⟩ := shift_real x
  rw [hs, ← EReal.coe_add, ← EReal.coe_add, ← EReal.coe_sub, EReal.coe_eq_coe_iff]
  ring

/-- The words of the sides. -/
def sides : List (BitVec 32) := [0x41B504F3#32, 0x42000000#32, 0x423504F3#32, 0x42800000#32, 0x42B504F3#32, 0x43000000#32, 0x433504F3#32,
  0x43800000#32, 0x43B504F3#32, 0x44000000#32, 0x443504F3#32]

/-- An anchor's ends are half its side away from the centre. -/
theorem ends (b : BitVec 32) (h : b ∈ sides) : ∃ p q : ℝ, Ideal.ofBits .f32 (b - 0x00800000#32) = p
    ∧ Ideal.ofBits .f32 (b - 0x00800000#32 + 0x80000000#32) = q ∧ Ideal.ofBits .f32 b = ((p - q : ℝ) : EReal) := by
  simp only [sides, List.mem_cons, List.not_mem_nil, or_false] at h
  rcases h with rfl | rfl | rfl | rfl | rfl | rfl | rfl | rfl | rfl | rfl | rfl
  all_goals
    refine ⟨_, _, rfl, rfl, ?_⟩
    simp [Ideal.ofBits, Ideal.ieee, -EReal.coe_mul]
    norm_num
    try (rw [← EReal.coe_add, EReal.coe_eq_coe_iff]; norm_num)

theorem tab_words : ∀ k : Fin 15, lit0 (S15x4.rowMajor (ix2 k 2)) = wBits k - 0x00800000#32
    ∧ lit0 (S15x4.rowMajor (ix2 k 0)) = wBits k - 0x00800000#32 + 0x80000000#32
    ∧ lit0 (S15x4.rowMajor (ix2 k 3)) = hBits k - 0x00800000#32
    ∧ lit0 (S15x4.rowMajor (ix2 k 1)) = hBits k - 0x00800000#32 + 0x80000000#32 ∧ wBits k ∈ sides ∧ hBits k ∈ sides := by
  decide +kernel

theorem wide (k : Fin 15) : ∃ p q : ℝ, tab k 2 = p ∧ tab k 0 = q ∧ Ideal.ofBits .f32 (wBits k) = ((p - q : ℝ) : EReal) := by
  obtain ⟨e2, e0, -, -, hm, -⟩ := tab_words k
  unfold tab
  rw [e2, e0]
  exact ends _ hm

theorem high (k : Fin 15) : ∃ p q : ℝ, tab k 3 = p ∧ tab k 1 = q ∧ Ideal.ofBits .f32 (hBits k) = ((p - q : ℝ) : EReal) := by
  obtain ⟨-, -, e2, e0, -, hm⟩ := tab_words k
  unfold tab
  rw [e2, e0]
  exact ends _ hm

/-- The rows the lookup reads: a negative row counts from the end. -/
def look (R : S4000.Idx → BitVec 32) : S4000x1.Idx → BitVec 32 :=
  broadcastInDim S4000x1 ![0] bcast_S4000_S4000x1_0
    (select (cmpi CmpIPredicate.slt R (broadcastInDim S4000 ![] bcast_S_S4000 (constantI S_ 32 0#32)))
      (addi R (broadcastInDim S4000 ![] bcast_S_S4000 (constantI S_ 32 480000#32))) R)

/-- Which of them lie in the table. -/
def inTab (R : S4000.Idx → BitVec 32) : S4000.Idx → BitVec 1 :=
  Host.reduce IntOp.andi
    (andi (cmpi CmpIPredicate.sge (look R) (broadcastInDim S4000x1 ![] bcast_S_S4000x1 (constantI S_ 32 0#32)))
      (cmpi CmpIPredicate.sle (look R)
        (broadcastInDim S4000x1 ![0, 1] bcast_S1x1_S4000x1_0_1 (broadcastInDim S1x1 ![1] bcast_S1_S1x1_1 (constantI S1 32 479999#32)))))
    (constantI S_ 1 1#1) reducesTo_S4000x1_S4000_d1 h_S_

/-- The lookup. -/
def took (R : S4000.Idx → BitVec 32) (A : S480000x4.Idx → EReal) : S4000x4.Idx → EReal :=
  select (broadcastInDim S4000x4 ![0] bcast_S4000_S4000x4_0 (inTab R))
    (Host.gather gather_S480000x4_S4000x1_S4000x4_1_0_n_n_0_1_14 A (look R))
    (broadcastInDim S4000x4 ![] bcast_S_S4000x4 (constant (F := Ideal) S_ FTy.f32 2143289344#32))

theorem v36_eq : (after hostOps0_1 V (Proc.devRef .tc main_v36) : S4000x4.Idx → EReal) = took (V (Proc.devRef .tc main_v31)) (V (Proc.devRef .tc main_v32)) := by
  after_reads_simp
  simp only [TRef.ofBuf_toBuf]
  rfl
theorem v37_eq : (after hostOps0_2 V (Proc.devRef .tc main_v37) : S4000x4.Idx → EReal) = took (V (Proc.devRef .tc main_v31)) (V (Proc.devRef .tc main_v35)) := by
  after_reads_simp
  simp only [TRef.ofBuf_toBuf]
  rfl

section
variable (R : S4000.Idx → BitVec 32) (A : S480000x4.Idx → EReal) (r : Fin 4000) (h : (R (ix1 r)).toNat < 480000)
include h

theorem not_neg : IntOp.cmpi CmpIPredicate.slt (R (ix1 r)) 0#32 = 0#1 := by
  have e : (R (ix1 r)).toInt = (R (ix1 r)).toNat := BitVec.toInt_eq_toNat_of_lt (by omega)
  show BitVec.ofBool ((R (ix1 r)).slt 0#32) = BitVec.ofBool false
  refine congrArg _ (decide_eq_false ?_)
  rw [e, show (0#32 : BitVec 32).toInt = 0 from rfl]
  omega

theorem look_at : look R (ix2 r (0 : Fin 1)) = R (ix1 r) := by
  pointwise [look]
  rw [not_neg R r h]
  rfl

theorem inTab_at : inTab R (ix1 r) = 1#1 := by
  have e := look_at R r h
  have e' : (R (ix1 r)).toInt = (R (ix1 r)).toNat := BitVec.toInt_eq_toNat_of_lt (by omega)
  unfold inTab
  generalize look R = L at *
  pointwise []
  rw [Finset.univ_unique, Finset.fold_singleton, show (default : Fin 1) = 0 from rfl, e]
  have h1 : IntOp.cmpi CmpIPredicate.sge (R (ix1 r)) 0#32 = 1#1 := by
    show BitVec.ofBool ((0#32 : BitVec 32).sle (R (ix1 r))) = BitVec.ofBool true
    refine congrArg _ (decide_eq_true ?_)
    rw [e', show (0#32 : BitVec 32).toInt = 0 from rfl]; omega
  have h2 : IntOp.cmpi CmpIPredicate.sle (R (ix1 r)) 479999#32 = 1#1 := by
    show BitVec.ofBool ((R (ix1 r)).sle 479999#32) = BitVec.ofBool true
    refine congrArg _ (decide_eq_true ?_)
    rw [e', show (479999#32 : BitVec 32).toInt = 479999 from rfl]; omega
  rw [h1, h2]
  rfl

theorem gather_at (k : Fin 4) : Host.gather gather_S480000x4_S4000x1_S4000x4_1_0_n_n_0_1_14 A (look R) (ix2 r k) = A (ix2 (⟨(R (ix1 r)).toNat, h⟩ : Fin 480000) k) :=
  gather_row _ rfl rfl rfl rfl rfl A (look R) r k ⟨(R (ix1 r)).toNat, h⟩
    ((look_at R r h).trans (BitVec.eq_of_toNat_eq (by rw [BitVec.toNat_ofNat]; show _ = (R (ix1 r)).toNat % 2 ^ 32; omega))) (by norm_num)

theorem took_at (k : Fin 4) : took R A (ix2 r k) = A (ix2 (⟨(R (ix1 r)).toNat, h⟩ : Fin 480000) k) := by
  have e := inTab_at R r h
  have e' := gather_at R A r h k
  unfold took
  generalize inTab R = I at *
  generalize Host.gather gather_S480000x4_S4000x1_S4000x4_1_0_n_n_0_1_14 A (look R) = G at *
  pointwise []
  rw [e, e']
  rfl

end

/-! ## The sides of the row looked up -/

variable (R : S4000.Idx → BitVec 32) (r : Fin 4000) (h : (R (ix1 r)).toNat < 480000) (q : ℕ) (hq : (R (ix1 r)).toNat % 240000 % 15 = q % 15)
include h hq

theorem anchors_w : took R (after hostOps0 V (Proc.devRef .tc main_v35)) (ix2 r (2 : Fin 4)) - took R (after hostOps0 V (Proc.devRef .tc main_v35)) (ix2 r (0 : Fin 4))
    = Ideal.ofBits .f32 (wBits ⟨q % 15, Nat.mod_lt _ (by norm_num)⟩) := by
  rw [v35_eq, took_at _ _ _ h, took_at _ _ _ h, both_at, both_at, v23_2, v23_0]
  refine (side _ _ _ _ (wide _)).trans (congrArg (fun z => Ideal.ofBits .f32 (wBits z)) (Fin.ext hq))

theorem anchors_h : took R (after hostOps0 V (Proc.devRef .tc main_v35)) (ix2 r (3 : Fin 4)) - took R (after hostOps0 V (Proc.devRef .tc main_v35)) (ix2 r (1 : Fin 4))
    = Ideal.ofBits .f32 (hBits ⟨q % 15, Nat.mod_lt _ (by norm_num)⟩) := by
  rw [v35_eq, took_at _ _ _ h, took_at _ _ _ h, both_at, both_at, v23_3, v23_1]
  refine (side _ _ _ _ (high _)).trans (congrArg (fun z => Ideal.ofBits .f32 (hBits z)) (Fin.ext hq))

end Cert.Proof.NmsRef
-- ==== Proof.NmsRefBox.lean ====
/- Hand-written, untrusted: the boxes of the suppression call's reference. -/
module

public import proofs.«01_k».proof.Proof.NmsRefAnchor
public import Idealize.ShloMosaic.Lib.Pointwise
public import Idealize.ShloMosaic.Lib.Routing.Ops
public import proofs.«01_k».proof.Proof.NmsSpec
public import Idealize.ShloMosaic.Lib.StableHlo.RunRead

@[expose] public section

set_option maxRecDepth 16384

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem
open Cert.Proof.Chunk (lo hi)
open Idealize.ShloMosaic.Routing (gather_row)

variable (V : Valuation τ sig (Elt Ideal))

/-- Half of a value. -/
theorem div_two (x : EReal) : Ideal.div x (Ideal.ofBits .f32 1073741824#32) = Ideal.ofBits .f32 0x3F000000#32 * x := by
  have e2 : Ideal.ofBits .f32 1073741824#32 = ((2 : ℝ) : EReal) := by
    simp [Ideal.ofBits, Ideal.ieee, -EReal.coe_mul]; norm_num
  have eh : Ideal.ofBits .f32 0x3F000000#32 = ((2⁻¹ : ℝ) : EReal) := by
    simp [Ideal.ofBits, Ideal.ieee, -EReal.coe_mul]; norm_num
  rw [e2, eh]
  unfold Ideal.div
  rw [if_neg (by norm_cast), mul_comm, EReal.coe_inv]

/-- The anchors as the box formulas read them. -/
abbrev anch : S4000x4.Idx → EReal := V (Proc.devRef .tc main_v37)
/-- The head's values as the box formulas read them. -/
abbrev regs : S4000x4.Idx → EReal := V (Proc.devRef .tc main_v36)

/-- The place of an image's entry in the flattened list. -/
def flat (b : Fin 2) (n : Fin 2000) : Fin 4000 := ⟨b.val * 2000 + n.val, by omega⟩

theorem v74_at (r : Fin 4000) : (after hostOps0_3 V (Proc.devRef .tc main_v74) : S4000.Idx → EReal) (ix1 r)
    = lo (anch V (ix2 r (2 : Fin 4)) - anch V (ix2 r (0 : Fin 4))) (regs V (ix2 r (0 : Fin 4))) (regs V (ix2 r (3 : Fin 4))) := by
  after_reads_simp
  pointwise []
  simp only [div_two]
  rfl

theorem v77_at (r : Fin 4000) : (after hostOps0_3 V (Proc.devRef .tc main_v77) : S4000.Idx → EReal) (ix1 r)
    = lo (anch V (ix2 r (3 : Fin 4)) - anch V (ix2 r (1 : Fin 4))) (regs V (ix2 r (1 : Fin 4))) (regs V (ix2 r (2 : Fin 4))) := by
  after_reads_simp
  pointwise []
  simp only [div_two]
  rfl

theorem v80_at (r : Fin 4000) : (after hostOps0_3 V (Proc.devRef .tc main_v80) : S4000.Idx → EReal) (ix1 r)
    = hi (anch V (ix2 r (2 : Fin 4)) - anch V (ix2 r (0 : Fin 4))) (regs V (ix2 r (0 : Fin 4))) (regs V (ix2 r (3 : Fin 4))) := by
  after_reads_simp
  pointwise []
  simp only [div_two]
  rfl

theorem v83_at (r : Fin 4000) : (after hostOps0_3 V (Proc.devRef .tc main_v83) : S4000.Idx → EReal) (ix1 r)
    = hi (anch V (ix2 r (3 : Fin 4)) - anch V (ix2 r (1 : Fin 4))) (regs V (ix2 r (1 : Fin 4))) (regs V (ix2 r (2 : Fin 4))) := by
  after_reads_simp
  pointwise []
  simp only [div_two]
  rfl

/-- The four ends of the boxes as one array. -/
def stackA (x1 y1 x2 y2 : S4000.Idx → EReal) : S2x2000x4.Idx → EReal :=
  shapeCast S2x2000x4 (concatenate S4000x4 1 [⟨S4000x1, broadcastInDim S4000x1 ![0] bcast_S4000_S4000x1_0 x1⟩, ⟨S4000x1, broadcastInDim S4000x1 ![0] bcast_S4000_S4000x1_0 y1⟩,
    ⟨S4000x1, broadcastInDim S4000x1 ![0] bcast_S4000_S4000x1_0 x2⟩, ⟨S4000x1, broadcastInDim S4000x1 ![0] bcast_S4000_S4000x1_0 y2⟩]
    concatenates_S4000x1_S4000x1_S4000x1_S4000x1_S4000x4_d1) shapeCasts_S4000x4_S2x2000x4

theorem v89_eq : (after hostOps0_3 V (Proc.devRef .tc main_v89) : S2x2000x4.Idx → EReal)
    = stackA (after hostOps0_3 V (Proc.devRef .tc main_v74)) (after hostOps0_3 V (Proc.devRef .tc main_v77))
        (after hostOps0_3 V (Proc.devRef .tc main_v80)) (after hostOps0_3 V (Proc.devRef .tc main_v83)) := by
  after_reads_simp
  rfl

variable (b : Fin 2) (n : Fin 2000) (x1 y1 x2 y2 : S4000.Idx → EReal)

theorem stackA_0 : stackA x1 y1 x2 y2 (ix3 b n (0 : Fin 4)) = x1 (ix1 (flat b n)) := by
  pointwise [stackA]
  rfl
theorem stackA_1 : stackA x1 y1 x2 y2 (ix3 b n (1 : Fin 4)) = y1 (ix1 (flat b n)) := by
  pointwise [stackA]
  rfl
theorem stackA_2 : stackA x1 y1 x2 y2 (ix3 b n (2 : Fin 4)) = x2 (ix1 (flat b n)) := by
  pointwise [stackA]
  rfl
theorem stackA_3 : stackA x1 y1 x2 y2 (ix3 b n (3 : Fin 4)) = y2 (ix1 (flat b n)) := by
  pointwise [stackA]
  rfl

end Cert.Proof.NmsRef
-- ==== Proof.Gather.lean ====
/- Hand-written, untrusted: the lookup of rows image by image. -/
module

public import proofs.«01_k».proof.Proof.Gen.NmsIdeal
public import proofs.«01_k».proof.Proof.Gen.NmsRefIdeal
public import Idealize.ShloMosaic.Lib.Pointwise
public import Idealize.ShloMosaic.Lib.Routing.Ops

@[expose] public section

namespace Cert.Proof.Gather

open Idealize.ShloMosaic

/-- The start of a row read as a word. -/
theorem clamp (w : BitVec 32) (n : ℕ) (h : w.toNat < n) (hn : n < 2 ^ 31) : min w.toInt.toNat (n - 1) = w.toNat := by
  have e : w.toInt = w.toNat := BitVec.toInt_eq_toNat_of_lt (by omega)
  rw [e, Int.toNat_natCast]
  omega

section
open Cert.NmsRefIdeal Cert.NmsRefIdeal.Gen

/-- The boxes, -/
theorem boxes_at {α : Type} (x : S2x2000x4.Idx → α) (idx : S2x2000x1.Idx → BitVec 32) (b : Fin 2) (r : Fin 2000) (k : Fin 4)
    (h : (idx (ix3 b r (0 : Fin 1))).toNat < 2000) :
    Host.gather gather_S2x2000x4_S2x2000x1_S2x2000x4_2_1_0_0_1_2_114 x idx (ix3 b r k) = x (ix3 b (⟨(idx (ix3 b r (0 : Fin 1))).toNat, h⟩ : Fin 2000) k) := by
  unfold Host.gather
  refine congrArg x (funext fun a => Fin.ext ?_)
  fin_cases a
  · show GatherDims.start _ _ _ _ + GatherDims.batchCoord _ _ _ + GatherDims.offCoord _ _ _ = b.val
    unfold GatherDims.start GatherDims.offCoord
    rw [dif_neg (by decide), dif_neg (by decide)]
    simp only [Nat.zero_add, Nat.add_zero]
    rfl
  · show GatherDims.start _ _ _ _ + GatherDims.batchCoord _ _ _ + GatherDims.offCoord _ _ _ = _
    unfold GatherDims.offCoord GatherDims.batchCoord GatherDims.start
    rw [dif_pos (by decide), dif_neg (by decide), dif_neg (by decide)]
    simp only [Nat.add_zero]
    have e : GatherDims.siIdx gather_S2x2000x4_S2x2000x1_S2x2000x4_2_1_0_0_1_2_114 (ix3 b r k) ⟨0, by decide⟩ = ix3 b r (0 : Fin 1) := by
      funext a'
      fin_cases a' <;> rfl
    exact (congrArg (fun z => min (idx z).toInt.toNat (2000 - 1)) e).trans (clamp _ _ h (by norm_num))
  · show GatherDims.start _ _ _ _ + GatherDims.batchCoord _ _ _ + GatherDims.offCoord _ _ _ = k.val
    unfold GatherDims.start GatherDims.batchCoord
    rw [dif_neg (by decide), dif_neg (by decide)]
    simp only [Nat.zero_add]
    rfl

/-- the scores, -/
theorem scores_at {α : Type} (x : S2x2000.Idx → α) (idx : S2x2000x1.Idx → BitVec 32) (b : Fin 2) (r : Fin 2000)
    (h : (idx (ix3 b r (0 : Fin 1))).toNat < 2000) :
    Host.gather gather_S2x2000_S2x2000x1_S2x2000_n_1_0_0_1_2_11 x idx (ix2 b r) = x (ix2 b (⟨(idx (ix3 b r (0 : Fin 1))).toNat, h⟩ : Fin 2000)) := by
  unfold Host.gather
  refine congrArg x (funext fun a => Fin.ext ?_)
  fin_cases a
  · show GatherDims.start _ _ _ _ + GatherDims.batchCoord _ _ _ + GatherDims.offCoord _ _ _ = b.val
    unfold GatherDims.start GatherDims.offCoord
    rw [dif_neg (by decide), dif_neg (by decide)]
    simp only [Nat.zero_add, Nat.add_zero]
    rfl
  · show GatherDims.start _ _ _ _ + GatherDims.batchCoord _ _ _ + GatherDims.offCoord _ _ _ = _
    unfold GatherDims.offCoord GatherDims.batchCoord GatherDims.start
    rw [dif_pos (by decide), dif_neg (by decide), dif_neg (by decide)]
    simp only [Nat.add_zero]
    have e : GatherDims.siIdx gather_S2x2000_S2x2000x1_S2x2000_n_1_0_0_1_2_11 (ix2 b r) ⟨0, by decide⟩ = ix3 b r (0 : Fin 1) := by
      funext a'
      fin_cases a' <;> rfl
    exact (congrArg (fun z => min (idx z).toInt.toNat (2000 - 1)) e).trans (clamp _ _ h (by norm_num))

/-- the boxes chosen, -/
theorem picks_at {α : Type} (x : S2x2000x4.Idx → α) (idx : S2x1000x1.Idx → BitVec 32) (b : Fin 2) (r : Fin 1000) (k : Fin 4)
    (h : (idx (ix3 b r (0 : Fin 1))).toNat < 2000) :
    Host.gather gather_S2x2000x4_S2x1000x1_S2x1000x4_2_1_0_0_1_2_114 x idx (ix3 b r k) = x (ix3 b (⟨(idx (ix3 b r (0 : Fin 1))).toNat, h⟩ : Fin 2000) k) := by
  unfold Host.gather
  refine congrArg x (funext fun a => Fin.ext ?_)
  fin_cases a
  · show GatherDims.start _ _ _ _ + GatherDims.batchCoord _ _ _ + GatherDims.offCoord _ _ _ = b.val
    unfold GatherDims.start GatherDims.offCoord
    rw [dif_neg (by decide), dif_neg (by decide)]
    simp only [Nat.zero_add, Nat.add_zero]
    rfl
  · show GatherDims.start _ _ _ _ + GatherDims.batchCoord _ _ _ + GatherDims.offCoord _ _ _ = _
    unfold GatherDims.offCoord GatherDims.batchCoord GatherDims.start
    rw [dif_pos (by decide), dif_neg (by decide), dif_neg (by decide)]
    simp only [Nat.add_zero]
    have e : GatherDims.siIdx gather_S2x2000x4_S2x1000x1_S2x1000x4_2_1_0_0_1_2_114 (ix3 b r k) ⟨0, by decide⟩ = ix3 b r (0 : Fin 1) := by
      funext a'
      fin_cases a' <;> rfl
    exact (congrArg (fun z => min (idx z).toInt.toNat (2000 - 1)) e).trans (clamp _ _ h (by norm_num))
  · show GatherDims.start _ _ _ _ + GatherDims.batchCoord _ _ _ + GatherDims.offCoord _ _ _ = k.val
    unfold GatherDims.start GatherDims.batchCoord
    rw [dif_neg (by decide), dif_neg (by decide)]
    simp only [Nat.zero_add]
    rfl

end

section
open Cert.NmsIdeal Cert.NmsIdeal.Gen

/-- and the boxes that the program itself chooses. -/
theorem kernel_at {α : Type} (x : S2x2048x4.Idx → α) (idx : S2x1000x1.Idx → BitVec 32) (b : Fin 2) (r : Fin 1000) (k : Fin 4)
    (h : (idx (ix3 b r (0 : Fin 1))).toNat < 2048) :
    Host.gather gather_S2x2048x4_S2x1000x1_S2x1000x4_2_1_0_0_1_2_114 x idx (ix3 b r k) = x (ix3 b (⟨(idx (ix3 b r (0 : Fin 1))).toNat, h⟩ : Fin 2048) k) := by
  unfold Host.gather
  refine congrArg x (funext fun a => Fin.ext ?_)
  fin_cases a
  · show GatherDims.start _ _ _ _ + GatherDims.batchCoord _ _ _ + GatherDims.offCoord _ _ _ = b.val
    unfold GatherDims.start GatherDims.offCoord
    rw [dif_neg (by decide), dif_neg (by decide)]
    simp only [Nat.zero_add, Nat.add_zero]
    rfl
  · show GatherDims.start _ _ _ _ + GatherDims.batchCoord _ _ _ + GatherDims.offCoord _ _ _ = _
    unfold GatherDims.offCoord GatherDims.batchCoord GatherDims.start
    rw [dif_pos (by decide), dif_neg (by decide), dif_neg (by decide)]
    simp only [Nat.add_zero]
    have e : GatherDims.siIdx gather_S2x2048x4_S2x1000x1_S2x1000x4_2_1_0_0_1_2_114 (ix3 b r k) ⟨0, by decide⟩ = ix3 b r (0 : Fin 1) := by
      funext a'
      fin_cases a' <;> rfl
    exact (congrArg (fun z => min (idx z).toInt.toNat (2048 - 1)) e).trans (clamp _ _ h (by norm_num))
  · show GatherDims.start _ _ _ _ + GatherDims.batchCoord _ _ _ + GatherDims.offCoord _ _ _ = k.val
    unfold GatherDims.start GatherDims.batchCoord
    rw [dif_neg (by decide), dif_neg (by decide)]
    simp only [Nat.zero_add]
    rfl

end

end Cert.Proof.Gather
-- ==== Proof.NmsRefLook.lean ====
/- Hand-written, untrusted: the lookups of the suppression call's reference image by image. -/
module

public import proofs.«01_k».proof.Proof.Gather
public import proofs.«01_k».proof.Proof.NmsRefAnchor
public import Idealize.ShloMosaic.Lib.Pointwise
public import Idealize.ShloMosaic.Lib.Routing.Ops
public import Idealize.ShloMosaic.Lib.Routing.OpsSet
public import Idealize.ShloMosaic.Lib.StableHlo.RunRead

@[expose] public section

set_option maxRecDepth 16384

noncomputable section

namespace Cert.Proof.NmsRef

open Idealize.ShloMosaic.StableHlo Cert.NmsRefIdeal Cert.NmsRefIdeal.Gen Idealize.ShloMosaic Idealize.ShloMosaic.TcCoe Idealize.SL.Sem

variable (V : Valuation τ sig (Elt Ideal))

theorem sge_zero (w : BitVec 32) (h : w.toNat < 2048) : IntOp.cmpi CmpIPredicate.sge w 0#32 = 1#1 := by
  have e' : w.toInt = w.toNat := BitVec.toInt_eq_toNat_of_lt (by omega)
  show BitVec.ofBool ((0#32 : BitVec 32).sle w) = BitVec.ofBool true
  refine congrArg _ (decide_eq_true ?_)
  rw [e', show (0#32 : BitVec 32).toInt = 0 from rfl]; omega
theorem slt_zero (w : BitVec 32) (h : w.toNat < 2048) : IntOp.cmpi CmpIPredicate.slt w 0#32 = 0#1 := by
  have e' : w.toInt = w.toNat := BitVec.toInt_eq_toNat_of_lt (by omega)
  show BitVec.ofBool (w.slt 0#32) = BitVec.ofBool false
  refine congrArg _ (decide_eq_false ?_)
  rw [e', show (0#32 : BitVec 32).toInt = 0 from rfl]; omega
theorem sle_last (w : BitVec 32) (h : w.toNat < 2000) : IntOp.cmpi CmpIPredicate.sle w 1999#32 = 1#1 := by
  have e' : w.toInt = w.toNat := BitVec.toInt_eq_toNat_of_lt (by omega)
  show BitVec.ofBool (w.sle 1999#32) = BitVec.ofBool true
  refine congrArg _ (decide_eq_true ?_)
  rw [e', show (1999#32 : BitVec 32).toInt = 1999 from rfl]; omega

/-- The rows a lookup of 2000 reads: a negative row counts from the end, -/
def look2 (R : S2x2000.Idx → BitVec 32) : S2x2000x1.Idx → BitVec 32 :=
  broadcastInDim S2x2000x1 ![0, 1] bcast_S2x2000_S2x2000x1_0_1
    (select (cmpi CmpIPredicate.slt R (broadcastInDim S2x2000 ![] bcast_S_S2x2000 (constantI S_ 32 0#32)))
      (addi R (broadcastInDim S2x2000 ![] bcast_S_S2x2000 (constantI S_ 32 2000#32))) R)

/-- and which of them lie in the table. -/
def inside2 (L : S2x2000x1.Idx → BitVec 32) : S2x2000.Idx → BitVec 1 :=
  Host.reduce IntOp.andi
    (andi (cmpi CmpIPredicate.sge L (broadcastInDim S2x2000x1 ![] bcast_S_S2x2000x1 (constantI S_ 32 0#32)))
      (cmpi CmpIPredicate.sle L
        (broadcastInDim S2x2000x1 ![0, 1, 2] bcast_S1x1x1_S2x2000x1_0_1_2 (broadcastInDim S1x1x1 ![2] bcast_S1_S1x1x1_2 (constantI S1 32 1999#32)))))
    (constantI S_ 1 1#1) reducesTo_S2x2000x1_S2x2000_d2 h_S_

theorem look2_at (R : S2x2000.Idx → BitVec 32) (b : Fin 2) (r : Fin 2000) (h : (R (ix2 b r)).toNat < 2000) : look2 R (ix3 b r (0 : Fin 1)) = R (ix2 b r) := by
  pointwise [look2]
  rw [slt_zero _ (by omega)]
  rfl

theorem inside2_at (L : S2x2000x1.Idx → BitVec 32) (b : Fin 2) (r : Fin 2000) (h : (L (ix3 b r (0 : Fin 1))).toNat < 2000) : inside2 L (ix2 b r) = 1#1 := by
  unfold inside2
  pointwise []
  rw [Finset.univ_unique, Finset.fold_singleton, show (default : Fin 1) = 0 from rfl, sge_zero _ (by omega), sle_last _ h]
  rfl

/-- The rows a lookup of 1000 reads: a negative row counts from the end, -/
def look1 (R : S2x1000.Idx → BitVec 32) : S2x1000x1.Idx → BitVec 32 :=
  broadcastInDim S2x1000x1 ![0, 1] bcast_S2x1000_S2x1000x1_0_1
    (select (cmpi CmpIPredicate.slt R (broadcastInDim S2x1000 ![] bcast_S_S2x1000 (constantI S_ 32 0#32)))
      (addi R (broadcastInDim S2x1000 ![] bcast_S_S2x1000 (constantI S_ 32 2000#32))) R)

/-- and which of them lie in the table. -/
def inside1 (L : S2x1000x1.Idx → BitVec 32) : S2x1000.Idx → BitVec 1 :=
  Host.reduce IntOp.andi
    (andi (cmpi CmpIPredicate.sge L (broadcastInDim S2x1000x1 ![] bcast_S_S2x1000x1 (constantI S_ 32 0#32)))
      (cmpi CmpIPredicate.sle L
        (broadcastInDim S2x1000x1 ![0, 1, 2] bcast_S1x1x1_S2x1000x1_0_1_2 (broadcastInDim S1x1x1 ![2] bcast_S1_S1x1x1_2 (constantI S1 32 1999#32)))))
    (constantI S_ 1 1#1) reducesTo_S2x1000x1_S2x1000_d2 h_S_

theorem look1_at (R : S2x1000.Idx → BitVec 32) (b : Fin 2) (r : Fin 1000) (h : (R (ix2 b r)).toNat < 2000) : look1 R (ix3 b r (0 : Fin 1)) = R (ix2 b r) := by
  pointwise [look1]
  rw [slt_zero _ (by omega)]
  rfl

theorem inside1_at (L : S2x1000x1.Idx → BitVec 32) (b : Fin 2) (r : Fin 1000) (h : (L (ix3 b r (0 : Fin 1))).toNat < 2000) : inside1 L (ix2 b r) = 1#1 := by
  unfold inside1
  pointwise []
  rw [Finset.univ_unique, Finset.fold_singleton, show (default : Fin 1) = 0 from rfl, sge_zero _ (by omega), sle_last _ h]
  rfl

/-- The lookup of boxes. -/
def tookB (R : S2x2000.Idx → BitVec 32) (A : S2x2000x4.Idx → EReal) : S2x2000x4.Idx → EReal :=
  select (broadcastInDim S2x2000x4 ![0, 1] bcast_S2x2000_S2x2000x4_0_1 (inside2 (look2 R))) (Host.gather gather_S2x2000x4_S2x2000x1_S2x2000x4_2_1_0_0_1_2_114 A (look2 R))
    (broadcastInDim S2x2000x4 ![] bcast_S_S2x2000x4 (constant (F := Ideal) S_ FTy.f32 2143289344#32))

theorem tookB_at (R : S2x2000.Idx → BitVec 32) (A : S2x2000x4.Idx → EReal) (b : Fin 2) (r : Fin 2000) (k : Fin 4) (p : Fin 2000) (hp : R (ix2 b r) = BitVec.ofNat 32 p.val) :
    tookB R A (ix3 b r k) = A (ix3 b p k) := by
  have hn : (R (ix2 b r)).toNat = p.val := by rw [hp, BitVec.toNat_ofNat]; omega
  have el := look2_at R b r (by omega)
  have e := inside2_at (look2 R) b r (by rw [el]; omega)
  have e' := Gather.boxes_at A (look2 R) b r k (by rw [el]; omega)
  unfold tookB
  generalize inside2 (look2 R) = I at *
  generalize Host.gather gather_S2x2000x4_S2x2000x1_S2x2000x4_2_1_0_0_1_2_114 A (look2 R) = G at *
  pointwise []
  rw [e, e']
  show A _ = A _
  congr 2
  exact Fin.ext (by show (look2 R (ix3 b r (0 : Fin 1))).toNat = _; rw [el, hn])

/-- The lookup of scores. -/
def tookS (R : S2x2000.Idx → BitVec 32) (A : S2x2000.Idx → EReal) : S2x2000.Idx → EReal :=
  select (inside2 (look2 R)) (Host.gather gather_S2x2000_S2x2000x1_S2x2000_n_1_0_0_1_2_11 A (look2 R))
    (broadcastInDim S2x2000 ![] bcast_S_S2x2000 (constant (F := Ideal) S_ FTy.f32 2143289344#32))

theorem tookS_at (R : S2x2000.Idx → BitVec 32) (A : S2x2000.Idx → EReal) (b : Fin 2) (r : Fin 2000) (p : Fin 2000) (hp : R (ix2 b r) = BitVec.ofNat 32 p.val) :
    tookS R A (ix2 b r) = A (ix2 b p) := by
  have hn : (R (ix2 b r)).toNat = p.val := by rw [hp, BitVec.toNat_ofNat]; omega
  have el := look2_at R b r (by omega)
  have e := inside2_at (look2 R) b r (by rw [el]; omega)
  have e' := Gather.scores_at A (look2 R) b r (by rw [el]; omega)
  unfold tookS
  generalize inside2 (look2 R) = I at *
  generalize Host.gather gather_S2x2000_S2x2000x1_S2x2000_n_1_0_0_1_2_11 A (look2 R) = G at *
  pointwise []
  rw [e, e']
  show A _ = A _
  congr 2
  exact Fin.ext (by show (look2 R (ix3 b r (0 : Fin 1))).toNat = _; rw [el, hn])

/-- The lookup of boxes. -/
def tookP (R : S2x1000.Idx → BitVec 32) (A : S2x2000x4.Idx → EReal) : S2x1000x4.Idx → EReal :=
  select (broadcastInDim S2x1000x4 ![0, 1] bcast_S2x1000_S2x1000x4_0_1 (inside1 (look1 R))) (Host.gather gather_S2x2000x4_S2x1000x1_S2x1000x4_2_1_0_0_1_2_114 A (look1 R))
    (broadcastInDim S2x1000x4 ![] bcast_S_S2x1000x4 (constant (F := Ideal) S_ FTy.f32 2143289344#32))

theorem tookP_at (R : S2x1000.Idx → BitVec 32) (A : S2x2000x4.Idx → EReal) (b : Fin 2) (r : Fin 1000) (k : Fin 4) (p : Fin 2000) (hp : R (ix2 b r) = BitVec.ofNat 32 p.val) :
    tookP R A (ix3 b r k) = A (ix3 b p k) := by
  have hn : (R (ix2 b r)).toNat = p.val := by rw [hp, BitVec.toNat_ofNat]; omega
  have el := look1_at R b r (by omega)
  have e := inside1_at (look1 R) b r (by rw [el]; omega)
  have e' := Gather.picks_at A (look1 R) b r k (by rw [el]; omega)
  unfold tookP
  generalize inside1 (look1 R) = I at *
  generalize Host.gather gather_S2x2000x4_S2x1000x1_S2x1000x4_2_1_0_0_1_2_114 A (look1 R) = G at *
  pointwise []
  rw [e, e']
  show A _ = A _
  congr 2
  exact Fin.ext (by show (look1 R (ix3 b r (0 : Fin 1))).toNat = _; rw [el, hn])

theorem v115_eq : (after hostOps0_17 V (Proc.devRef .tc main_v115) : S2x2000x4.Idx → EReal) = tookB (V (Proc.devRef .tc main_v114)) (V (Proc.devRef .tc main_v89)) := by
  after_reads_simp
  simp only [TRef.ofBuf_toBuf]
  rfl
theorem v116_eq : (after hostOps0_18 V (Proc.devRef .tc main_v116) : S2x2000.Idx → EReal) = tookS (V (Proc.devRef .tc main_v114)) (V (Proc.devRef .tc main_v112)) := by
  after_reads_simp
  simp only [TRef.ofBuf_toBuf]
  rfl
theorem v172_eq : (after hostOps0_23 V (Proc.devRef .tc main_v172) : S2x1000x4.Idx → EReal) = tookP (V (Proc.devRef .tc main_indices_32)) (V (Proc.devRef .tc main_v115)) := by
  after_reads_simp
  simp only [TRef.ofBuf_toBuf]
  rfl

/-! ## The scores of the rows chosen -/

/-- The lookup of the scores. -/
def tookV (R : S4000.Idx → BitVec 32) (A : S480000.Idx → EReal) : S4000.Idx → EReal :=
  select (inTab R) (Host.gather gather_S480000_S4000x1_S4000_n_0_n_n_0_1_1 A (look R))
    (broadcastInDim S4000 ![] bcast_S_S4000 (constant (F := Ideal) S_ FTy.f32 2143289344#32))

theorem v91_eq : (after hostOps0_4 V (Proc.devRef .tc main_v91) : S4000.Idx → EReal) = tookV (V (Proc.devRef .tc main_v31)) (V (Proc.devRef .tc main_v90)) := by
  after_reads_simp
  simp only [TRef.ofBuf_toBuf]
  rfl

theorem tookV_at (R : S4000.Idx → BitVec 32) (A : S480000.Idx → EReal) (r : Fin 4000) (h : (R (ix1 r)).toNat < 480000) :
    tookV R A (ix1 r) = A (ix1 (⟨(R (ix1 r)).toNat, h⟩ : Fin 480000)) := by
  have e := inTab_at R r h
  have e' : Host.gather gather_S480000_S4000x1_S4000_n_0_n_n_0_1_1 A (look R) (ix1 r) = A (ix1 (⟨(R (ix1 r)).toNat, h⟩ : Fin 480000)) :=
    Routing.gather_take1 _ rfl rfl rfl rfl A (look R) r ⟨(R (ix1 r)).toNat, h⟩
      ((look_at R r h).trans (BitVec.eq_of_toNat_eq (by rw [BitVec.toNat_ofNat]; show _ = (R (ix1 r)).toNat % 2 ^ 32; omega))) (by norm_num)
  unfold tookV
  generalize inTab R = I at *
  generalize Host.gather gather_S480000_S4000x1_S4000_n_0_n_n_0_1_1 A (look R) = G at *
  pointwise []
  rw [e, e']
  rfl

end Cert.Proof.NmsRef
-- ==== Proof.NmsRefCode.lean ====
/- Hand-written, untrusted: which boxes are large enough, and the scores left, in the suppression call's reference. -/
module

public import proofs.«01_k».proof.Proof.NmsRefRun
public import Idealize.ShloMosaic.Lib.Pointwise
public import Idealize.ShloMosaic.Lib.Routing.Ops
public import proofs.«01_k».proof.Proof.NmsSpec
public import Idealize.ShloMosaic.Lib.StableHlo.RunRead

@[expose] public section

set_option maxRecDepth 16384

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem
open Cert.Proof.Chunk (clipTo okB valB)
open Idealize.ShloMosaic.Routing (gather_row)

variable (V : Valuation τ sig (Elt Ideal))

/-- Clipping to the image. -/
def clipA (x : S2x2000.Idx → EReal) (l h : S_.Idx → EReal) : S2x2000.Idx → EReal :=
  minimumf (F := Ideal) (φ := .f32) (broadcastInDim S2x2000 ![] bcast_S_S2x2000 h) (maximumf (F := Ideal) (φ := .f32) (broadcastInDim S2x2000 ![] bcast_S_S2x2000 l) x)

/-- Which boxes are large enough. -/
def okA (X1 Y1 X2 Y2 : S2x2000.Idx → EReal) : S2x2000.Idx → BitVec 1 :=
  andi (cmpf (F := Ideal) (φ := .f32) CmpFPredicate.oge (subf (F := Ideal) (φ := .f32) X2 X1) (broadcastInDim S2x2000 ![] bcast_S_S2x2000 (constant (F := Ideal) S_ FTy.f32 981668463#32)))
    (cmpf (F := Ideal) (φ := .f32) CmpFPredicate.oge (subf (F := Ideal) (φ := .f32) Y2 Y1) (broadcastInDim S2x2000 ![] bcast_S_S2x2000 (constant (F := Ideal) S_ FTy.f32 981668463#32)))

/-- One corner of every box. -/
def cornerA (k : ℕ) (hk : S2x2000x4.Slices ![0, 0, k] S2x2000x1) (B : S2x2000x4.Idx → EReal) : S2x2000.Idx → EReal :=
  shapeCast S2x2000 (extractStridedSlice S2x2000x1 ![0, 0, k] B hk) shapeCasts_S2x2000x1_S2x2000

theorem v111_eq : (after hostOps0_13 V (Proc.devRef .tc main_v111) : S2x2000.Idx → BitVec 1)
    = okA (V (Proc.devRef .tc main_v95)) (V (Proc.devRef .tc main_v98)) (V (Proc.devRef .tc main_v101)) (V (Proc.devRef .tc main_v104)) := by
  after_reads_simp
  rfl

/-- The valuation after the four clips. -/
abbrev clips : Valuation τ sig (Elt Ideal) :=
  after hostOps0_12 (after hostOps0_11 (after hostOps0_10 (after hostOps0_9 (after hostOps0_8 (after hostOps0_7 (after hostOps0_6 (after hostOps0_5 V)))))))

theorem v95_eq : (clips V (Proc.devRef .tc main_v95) : S2x2000.Idx → EReal) = clipA (cornerA 0 slices_S2x2000x4_S2x2000x1_0_0_0 (V (Proc.devRef .tc main_v89)))
    (constant (F := Ideal) S_ .f32 0#32) (constant (F := Ideal) S_ .f32 0x44A00000#32) := by
  after_reads_simp
  simp only [TRef.ofBuf_toBuf]
  rfl
theorem v98_eq : (clips V (Proc.devRef .tc main_v98) : S2x2000.Idx → EReal) = clipA (cornerA 1 slices_S2x2000x4_S2x2000x1_0_0_1 (V (Proc.devRef .tc main_v89)))
    (constant (F := Ideal) S_ .f32 0#32) (constant (F := Ideal) S_ .f32 0x44480000#32) := by
  after_reads_simp
  simp only [TRef.ofBuf_toBuf]
  rfl
theorem v101_eq : (clips V (Proc.devRef .tc main_v101) : S2x2000.Idx → EReal) = clipA (cornerA 2 slices_S2x2000x4_S2x2000x1_0_0_2 (V (Proc.devRef .tc main_v89)))
    (constant (F := Ideal) S_ .f32 0#32) (constant (F := Ideal) S_ .f32 0x44A00000#32) := by
  after_reads_simp
  simp only [TRef.ofBuf_toBuf]
  rfl
theorem v104_eq : (clips V (Proc.devRef .tc main_v104) : S2x2000.Idx → EReal) = clipA (cornerA 3 slices_S2x2000x4_S2x2000x1_0_0_3 (V (Proc.devRef .tc main_v89)))
    (constant (F := Ideal) S_ .f32 0#32) (constant (F := Ideal) S_ .f32 0x44480000#32) := by
  after_reads_simp
  simp only [TRef.ofBuf_toBuf]
  rfl

theorem v92_eq : (clips V (Proc.devRef .tc main_v92) : S2x2000.Idx → EReal) = shapeCast S2x2000 (V (Proc.devRef .tc main_v91) : S4000.Idx → EReal) shapeCasts_S4000_S2x2000 := by
  after_reads_simp
  rfl

/-- The scores left: the floor where the box is too small. -/
def leftA (ok : S2x2000.Idx → BitVec 1) (s : S2x2000.Idx → EReal) : S2x2000.Idx → EReal :=
  select ok s (broadcastInDim S2x2000 ![1] bcast_S2000_S2x2000_1 (broadcastInDim S2000 ![] bcast_S_S2000 (constant (F := Ideal) S_ .f32 0xD01502F9#32)))

theorem v112_eq : (after hostOps0_14 (after hostOps0_13 V) (Proc.devRef .tc main_v112) : S2x2000.Idx → EReal)
    = leftA (after hostOps0_13 V (Proc.devRef .tc main_v111)) (V (Proc.devRef .tc main_v92)) := by
  after_reads_simp
  simp only [TRef.ofBuf_toBuf]
  rfl

theorem v171_eq : (after hostOps0_21 (after hostOps0_20 V) (Proc.devRef .tc main_v171) : S2x2000.Idx → EReal)
    = leftA (V (Proc.devRef .tc main_v170_4)) (V (Proc.devRef .tc main_v116)) := by
  after_reads_simp
  simp only [TRef.ofBuf_toBuf]
  rfl

section
variable (b : Fin 2) (n : Fin 2000)

theorem cornerA_at (k : Fin 4) (hk : S2x2000x4.Slices ![0, 0, k.val] S2x2000x1) (B : S2x2000x4.Idx → EReal) : cornerA k.val hk B (ix2 b n) = B (ix3 b n k) := by
  pointwise [cornerA]

theorem leftA_at (ok : S2x2000.Idx → BitVec 1) (s : S2x2000.Idx → EReal) : leftA ok s (ix2 b n)
    = if ok (ix2 b n) = 1#1 then s (ix2 b n) else Ideal.ofBits .f32 0xD01502F9#32 := by
  pointwise [leftA]
  rfl

theorem okA_at (X1 Y1 X2 Y2 : S2x2000.Idx → EReal) :
    okA (clipA X1 (constant (F := Ideal) S_ .f32 0#32) (constant (F := Ideal) S_ .f32 0x44A00000#32)) (clipA Y1 (constant (F := Ideal) S_ .f32 0#32) (constant (F := Ideal) S_ .f32 0x44480000#32))
      (clipA X2 (constant (F := Ideal) S_ .f32 0#32) (constant (F := Ideal) S_ .f32 0x44A00000#32)) (clipA Y2 (constant (F := Ideal) S_ .f32 0#32) (constant (F := Ideal) S_ .f32 0x44480000#32)) (ix2 b n)
    = okB (X1 (ix2 b n)) (Y1 (ix2 b n)) (X2 (ix2 b n)) (Y2 (ix2 b n)) := by
  pointwise [okA, clipA]
  rfl

/-- Which boxes are large enough, of the boxes. -/
theorem v111_at : (after hostOps0_13 (clips V) (Proc.devRef .tc main_v111) : S2x2000.Idx → BitVec 1) (ix2 b n)
    = okB ((V (Proc.devRef .tc main_v89) : S2x2000x4.Idx → EReal) (ix3 b n (0 : Fin 4))) ((V (Proc.devRef .tc main_v89) : S2x2000x4.Idx → EReal) (ix3 b n (1 : Fin 4)))
      ((V (Proc.devRef .tc main_v89) : S2x2000x4.Idx → EReal) (ix3 b n (2 : Fin 4))) ((V (Proc.devRef .tc main_v89) : S2x2000x4.Idx → EReal) (ix3 b n (3 : Fin 4))) := by
  rw [v111_eq, v95_eq, v98_eq, v101_eq, v104_eq, okA_at]
  exact congr (congr (congr (congrArg okB (cornerA_at b n 0 _ _)) (cornerA_at b n 1 _ _)) (cornerA_at b n 2 _ _)) (cornerA_at b n 3 _ _)

end

end Cert.Proof.NmsRef
-- ==== Proof.NmsRefEntry.lean ====
/- Hand-written, untrusted: the boxes and the scores the suppression call's reference starts from. -/
module

public import proofs.«01_k».proof.Proof.NmsTop
public import proofs.«01_k».proof.Proof.NmsRefBox
public import proofs.«01_k».proof.Proof.NmsRefLook
public import proofs.«01_k».proof.Proof.NmsRefCode
public import Idealize.ShloMosaic.Lib.StableHlo.RunRead

@[expose] public section

set_option maxRecDepth 16384

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem
open Cert.Proof.Chunk (lo hi wBits hBits)
open Cert.Proof.Top (top spot score val box rows table)

section Places

variable (V : Valuation τ sig (Elt Ideal))

/-- The scores and the head's values given. -/
abbrev sc : S2x16000x15.Idx → EReal := V (Proc.devRef .tc main_arg0)
abbrev hv : S2x16000x60.Idx → EReal := V (Proc.devRef .tc main_arg1)

/-- The rows of the table looked up. -/
def placesA (K : S2x2000.Idx → BitVec 32) : S4000.Idx → BitVec 32 :=
  shapeCast S4000 (addi K (broadcastInDim S2x2000 ![0, 1] bcast_S2x1_S2x2000_0_1
    (muli (broadcastInDim S2x1 ![0] bcast_S2_S2x1_0 (iotaInDim S2 32 0)) (broadcastInDim S2x1 ![] bcast_S_S2x1 (constantI S_ 32 240000#32)))))
    shapeCasts_S2x2000_S4000

theorem placesA_at (K : S2x2000.Idx → BitVec 32) (b : Fin 2) (n : Fin 2000) :
    placesA K (ix1 (flat b n)) = K (ix2 b n) + BitVec.ofNat 32 b.val * 240000#32 := by
  have e1 : (flat b n).val / 2000 = b.val := by show (b.val * 2000 + n.val) / 2000 = b.val; omega
  have e2 : (flat b n).val % 2000 = n.val := by show (b.val * 2000 + n.val) % 2000 = n.val; omega
  pointwise [placesA]
  simp only [e1, e2]
  rfl

theorem v31_eq : (after hostOps0 V (Proc.devRef .tc main_v31) : S4000.Idx → BitVec 32)
    = placesA (Host.topK S2x2000 1 (FloatOps.cmpfTotal (F := Ideal) (φ := .f32) .gt) (rows (sc V)) sliceFits_S2x240000_S2x2000).2 := by
  after_reads_simp
  rfl

theorem v31_at (b : Fin 2) (n : Fin 2000) : ((after hostOps0 V (Proc.devRef .tc main_v31) : S4000.Idx → BitVec 32) (ix1 (flat b n))).toNat = (spot (sc V) b n).val := by
  have e := Top.places_at (sc V) b n (rows (sc V)) rfl
  have ht := (top (sc V) b n).isLt
  rw [v31_eq, placesA_at]
  refine (congrArg (fun w : BitVec 32 => (w + BitVec.ofNat 32 b.val * 240000#32).toNat) e).trans ?_
  show _ = (top (sc V) b n).val + b.val * 240000
  rw [BitVec.toNat_add, BitVec.toNat_mul, BitVec.toNat_ofNat, BitVec.toNat_ofNat, show (240000#32 : BitVec 32).toNat = 240000 from rfl]
  omega

theorem v32_eq : (after hostOps0 V (Proc.devRef .tc main_v32) : S480000x4.Idx → EReal) = table (hv V) := by
  after_reads_simp
  rfl

theorem v24_eq : (after hostOps0 V (Proc.devRef .tc main_v24) : S2x240000.Idx → EReal) = rows (sc V) := by
  after_reads_simp
  rfl

theorem v90_eq : (after hostOps0_3 V (Proc.devRef .tc main_v90) : S480000.Idx → EReal) = shapeCast S480000 (V (Proc.devRef .tc main_v24) : S2x240000.Idx → EReal) shapeCasts_S2x240000_S480000 := by
  after_reads_simp
  rfl

theorem flat_row (X : S2x240000.Idx → EReal) (b : Fin 2) (p : Fin 240000) (h : p.val + b.val * 240000 < 480000) :
    shapeCast S480000 X shapeCasts_S2x240000_S480000 (ix1 (⟨p.val + b.val * 240000, h⟩ : Fin 480000)) = X (ix2 b p) := by
  pointwise []

/-- The contents behind the boxes. -/
abbrev boxed : Valuation τ sig (Elt Ideal) := after hostOps0_3 (after hostOps0_2 (after hostOps0_1 (after hostOps0 V)))

variable (b : Fin 2) (n : Fin 2000)

theorem spot_lt : ((after hostOps0 V (Proc.devRef .tc main_v31) : S4000.Idx → BitVec 32) (ix1 (flat b n))).toNat < 480000 := by
  rw [v31_at]
  exact (spot (sc V) b n).isLt

theorem spot_mod : ((after hostOps0 V (Proc.devRef .tc main_v31) : S4000.Idx → BitVec 32) (ix1 (flat b n))).toNat % 240000 % 15 = (top (sc V) b n).val % 15 := by
  rw [v31_at]
  show ((top (sc V) b n).val + b.val * 240000) % 240000 % 15 = _
  have ht := (top (sc V) b n).isLt
  omega

theorem keep1 (r : Ref sig .tc) (h : r ∉ hostOps0_1_W) (W : Valuation τ sig (Elt Ideal)) : after hostOps0_1 W (Proc.devRef .tc r) = W (Proc.devRef .tc r) :=
  after_of_writes_sub hostOps0_1 _ hostOps0_1_writes h
theorem keep2 (r : Ref sig .tc) (h : r ∉ hostOps0_2_W) (W : Valuation τ sig (Elt Ideal)) : after hostOps0_2 W (Proc.devRef .tc r) = W (Proc.devRef .tc r) :=
  after_of_writes_sub hostOps0_2 _ hostOps0_2_writes h
theorem keep3 (r : Ref sig .tc) (h : r ∉ hostOps0_3_W) (W : Valuation τ sig (Elt Ideal)) : after hostOps0_3 W (Proc.devRef .tc r) = W (Proc.devRef .tc r) :=
  after_of_writes_sub hostOps0_3 _ hostOps0_3_writes h

theorem regs_eq : regs (after hostOps0_2 (after hostOps0_1 (after hostOps0 V))) = took (after hostOps0 V (Proc.devRef .tc main_v31)) (table (hv V)) := by
  refine (keep2 main_v36 (by decide +kernel) _).trans ((v36_eq _).trans ?_)
  rw [v32_eq]

theorem anch_eq : anch (after hostOps0_2 (after hostOps0_1 (after hostOps0 V))) = took (after hostOps0 V (Proc.devRef .tc main_v31)) (after hostOps0 V (Proc.devRef .tc main_v35)) := by
  refine (v37_eq _).trans ?_
  rw [keep1 main_v31 (by decide +kernel), keep1 main_v35 (by decide +kernel)]

theorem regs_at (k : Fin 4) : regs (after hostOps0_2 (after hostOps0_1 (after hostOps0 V))) (ix2 (flat b n) k) = val (sc V) (hv V) b n k := by
  rw [regs_eq, took_at _ _ _ (spot_lt V b n)]
  unfold Top.val
  congr 2
  exact Fin.ext (v31_at V b n)

theorem anch_w : anch (after hostOps0_2 (after hostOps0_1 (after hostOps0 V))) (ix2 (flat b n) (2 : Fin 4)) - anch (after hostOps0_2 (after hostOps0_1 (after hostOps0 V))) (ix2 (flat b n) (0 : Fin 4))
    = Top.wide (sc V) b n := by
  rw [anch_eq]
  exact anchors_w V _ _ (spot_lt V b n) _ (spot_mod V b n)

theorem anch_h : anch (after hostOps0_2 (after hostOps0_1 (after hostOps0 V))) (ix2 (flat b n) (3 : Fin 4)) - anch (after hostOps0_2 (after hostOps0_1 (after hostOps0 V))) (ix2 (flat b n) (1 : Fin 4))
    = Top.high (sc V) b n := by
  rw [anch_eq]
  exact anchors_h V _ _ (spot_lt V b n) _ (spot_mod V b n)

/-- The boxes, of the sides and the values looked up. -/
theorem box_of (W : Valuation τ sig (Elt Ideal)) (w h : EReal) (v : Fin 4 → EReal)
    (hw : anch W (ix2 (flat b n) (2 : Fin 4)) - anch W (ix2 (flat b n) (0 : Fin 4)) = w)
    (hh : anch W (ix2 (flat b n) (3 : Fin 4)) - anch W (ix2 (flat b n) (1 : Fin 4)) = h)
    (hr : ∀ k, regs W (ix2 (flat b n) k) = v k) (k : Fin 4) :
    (after hostOps0_3 W (Proc.devRef .tc main_v89) : S2x2000x4.Idx → EReal) (ix3 b n k)
      = (![lo w (v 0) (v 3), lo h (v 1) (v 2), hi w (v 0) (v 3), hi h (v 1) (v 2)] : Fin 4 → EReal) k := by
  rw [v89_eq]
  fin_cases k
  · refine (stackA_0 b n _ _ _ _).trans ((v74_at _ _).trans ?_)
    rw [hw, hr, hr]; rfl
  · refine (stackA_1 b n _ _ _ _).trans ((v77_at _ _).trans ?_)
    rw [hh, hr, hr]; rfl
  · refine (stackA_2 b n _ _ _ _).trans ((v80_at _ _).trans ?_)
    rw [hw, hr, hr]; rfl
  · refine (stackA_3 b n _ _ _ _).trans ((v83_at _ _).trans ?_)
    rw [hh, hr, hr]; rfl

/-- The boxes. -/
theorem boxed_at (k : Fin 4) : (boxed V (Proc.devRef .tc main_v89) : S2x2000x4.Idx → EReal) (ix3 b n k) = box (sc V) (hv V) b n k :=
  box_of b n _ _ _ (fun k => val (sc V) (hv V) b n k) (anch_w V b n) (anch_h V b n) (regs_at V b n) k

/-- The scores. -/
theorem scored_at : (after hostOps0_4 (boxed V) (Proc.devRef .tc main_v91) : S4000.Idx → EReal) (ix1 (flat b n)) = score (sc V) b n := by
  have e1 : boxed V (Proc.devRef .tc main_v31) = after hostOps0 V (Proc.devRef .tc main_v31) := by
    refine (keep3 main_v31 (by decide +kernel) _).trans ?_
    rw [keep2 main_v31 (by decide +kernel), keep1 main_v31 (by decide +kernel)]
  have e2 : (boxed V (Proc.devRef .tc main_v90) : S480000.Idx → EReal) = shapeCast S480000 (rows (sc V)) shapeCasts_S2x240000_S480000 := by
    refine (v90_eq _).trans ?_
    rw [keep2 main_v24 (by decide +kernel), keep1 main_v24 (by decide +kernel), v24_eq]
  rw [v91_eq, e1, e2, tookV_at _ _ _ (spot_lt V b n)]
  refine Eq.trans ?_ (flat_row (rows (sc V)) b (top (sc V) b n) (spot (sc V) b n).isLt)
  congr 2
  exact Fin.ext (v31_at V b n)

end Places

end Cert.Proof.NmsRef
-- ==== Proof.NmsRefGoal.lean ====
/- Hand-written, untrusted: the suppression call's reference orders its rows by the scores left. -/
module

public import proofs.«01_k».proof.Proof.NmsWant
public import proofs.«01_k».proof.Proof.NmsRefEntry

@[expose] public section

set_option maxRecDepth 16384

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem
open Cert.Proof.Top (box score floor Large leftScore inOrder)

section Steps

variable (V : Valuation τ sig (Elt Ideal))

/-- The scores with their signs changed, -/
theorem v113_eq : (after hostOps0_15 V (Proc.devRef .tc main_v113) : S2x2000.Idx → EReal) = Host.negf (F := Ideal) (φ := .f32) (V (Proc.devRef .tc main_v112) : S2x2000.Idx → EReal) := by
  after_reads_simp

/-- and the rows by them. -/
theorem v114_eq : (after hostOps0_16 V (Proc.devRef .tc main_v114) : S2x2000.Idx → BitVec 32)
    = (Host.sort2 S2x2000 1 (comparator_f32_i32_d1 (F := Ideal)) (V (Proc.devRef .tc main_v113) : S2x2000.Idx → EReal) (iotaInDim S2x2000 32 1)).2 := by
  after_reads_simp
  rfl

theorem order_at (T : S2x2000.Idx → EReal) (b : Fin 2) (r : Fin 2000) :
    (Host.sort2 S2x2000 1 (comparator_f32_i32_d1 (F := Ideal)) (Host.negf (F := Ideal) (φ := .f32) T) (iotaInDim S2x2000 32 1)).2 (ix2 b r)
      = BitVec.ofNat 32 (Order.byKey (fun p => -T (ix2 b p)) r).val :=
  Order.sort_places (comparator_f32_i32_d1 (F := Ideal)) (fun a : EReal => a) Order.less_iff (Host.negf (F := Ideal) (φ := .f32) T) (iotaInDim S2x2000 32 1) b r (fun _ => rfl)

theorem clips_v89 : clips V (Proc.devRef .tc main_v89) = V (Proc.devRef .tc main_v89) := by
  unfold clips
  rw [after_of_writes_sub hostOps0_12 _ hostOps0_12_writes (by decide +kernel), after_of_writes_sub hostOps0_11 _ hostOps0_11_writes (by decide +kernel),
    after_of_writes_sub hostOps0_10 _ hostOps0_10_writes (by decide +kernel), after_of_writes_sub hostOps0_9 _ hostOps0_9_writes (by decide +kernel),
    after_of_writes_sub hostOps0_8 _ hostOps0_8_writes (by decide +kernel), after_of_writes_sub hostOps0_7 _ hostOps0_7_writes (by decide +kernel),
    after_of_writes_sub hostOps0_6 _ hostOps0_6_writes (by decide +kernel), after_of_writes_sub hostOps0_5 _ hostOps0_5_writes (by decide +kernel)]

theorem keep4_v89 : after hostOps0_4 V (Proc.devRef .tc main_v89) = V (Proc.devRef .tc main_v89) :=
  after_of_writes_sub hostOps0_4 _ hostOps0_4_writes (by decide +kernel)

theorem keep_v89 : after hostOps0_16 (after hostOps0_15 (after hostOps0_14 (after hostOps0_13 V))) (Proc.devRef .tc main_v89) = V (Proc.devRef .tc main_v89) := by
  rw [after_of_writes_sub hostOps0_16 _ hostOps0_16_writes (by decide +kernel), after_of_writes_sub hostOps0_15 _ hostOps0_15_writes (by decide +kernel),
    after_of_writes_sub hostOps0_14 _ hostOps0_14_writes (by decide +kernel), after_of_writes_sub hostOps0_13 _ hostOps0_13_writes (by decide +kernel)]

theorem keep_v112 : after hostOps0_17 (after hostOps0_16 (after hostOps0_15 V)) (Proc.devRef .tc main_v112) = V (Proc.devRef .tc main_v112) := by
  rw [after_of_writes_sub hostOps0_17 _ hostOps0_17_writes (by decide +kernel), after_of_writes_sub hostOps0_16 _ hostOps0_16_writes (by decide +kernel),
    after_of_writes_sub hostOps0_15 _ hostOps0_15_writes (by decide +kernel)]

theorem keep17_v114 : after hostOps0_17 V (Proc.devRef .tc main_v114) = V (Proc.devRef .tc main_v114) :=
  after_of_writes_sub hostOps0_17 _ hostOps0_17_writes (by decide +kernel)

theorem keep18_v115 : after hostOps0_18 V (Proc.devRef .tc main_v115) = V (Proc.devRef .tc main_v115) :=
  after_of_writes_sub hostOps0_18 _ hostOps0_18_writes (by decide +kernel)

theorem cast_at (X : S4000.Idx → EReal) (b : Fin 2) (n : Fin 2000) : shapeCast S2x2000 X shapeCasts_S4000_S2x2000 (ix2 b n) = X (ix1 (flat b n)) := by
  pointwise []
  rfl

end Steps

section Ready

/-- From the boxes to the rows in order. -/
abbrev readyOf (W : Valuation τ sig (Elt Ideal)) : Valuation τ sig (Elt Ideal) :=
  after hostOps0_18 (after hostOps0_17 (after hostOps0_16 (after hostOps0_15 (after hostOps0_14 (after hostOps0_13 (clips W))))))

variable (W : Valuation τ sig (Elt Ideal)) (x : S2x16000x15.Idx → EReal) (z : S2x16000x60.Idx → EReal)
  (hB : ∀ b n k, (W (Proc.devRef .tc main_v89) : S2x2000x4.Idx → EReal) (ix3 b n k) = box x z b n k)
  (hs : ∀ b n, (W (Proc.devRef .tc main_v91) : S4000.Idx → EReal) (ix1 (flat b n)) = score x b n)
include hB hs

theorem left_at (b : Fin 2) (n : Fin 2000) :
    (after hostOps0_14 (after hostOps0_13 (clips W)) (Proc.devRef .tc main_v112) : S2x2000.Idx → EReal) (ix2 b n) = leftScore x z b n := by
  rw [v112_eq, leftA_at, v111_at, v92_eq, cast_at, hs, hB, hB, hB, hB]
  unfold Top.leftScore Top.Large Top.floor
  by_cases h : Chunk.okB (box x z b n 0) (box x z b n 1) (box x z b n 2) (box x z b n 3) = 1#1
  · rw [if_pos h, if_pos h]
  · rw [if_neg h, if_neg h]

theorem ordered_at (b : Fin 2) (r : Fin 2000) :
    (after hostOps0_16 (after hostOps0_15 (after hostOps0_14 (after hostOps0_13 (clips W)))) (Proc.devRef .tc main_v114) : S2x2000.Idx → BitVec 32) (ix2 b r)
      = BitVec.ofNat 32 (inOrder x z b r).val := by
  have e := left_at W x z hB hs b
  rw [v114_eq, v113_eq, order_at]
  unfold Top.inOrder
  simp only [e]

/-- The boxes in order, -/
theorem boxes_at (b : Fin 2) (r : Fin 2000) (k : Fin 4) : (readyOf W (Proc.devRef .tc main_v115) : S2x2000x4.Idx → EReal) (ix3 b r k) = box x z b (inOrder x z b r) k := by
  refine (congrFun (keep18_v115 _) _).trans ?_
  rw [v115_eq, tookB_at _ _ _ _ _ _ (ordered_at W x z hB hs b r), keep_v89, clips_v89, hB]

/-- and their scores. -/
theorem scores_at (b : Fin 2) (r : Fin 2000) : (readyOf W (Proc.devRef .tc main_v116) : S2x2000.Idx → EReal) (ix2 b r) = leftScore x z b (inOrder x z b r) := by
  refine (congrFun (v116_eq _) _).trans ?_
  rw [keep17_v114, tookS_at _ _ _ _ _ (ordered_at W x z hB hs b r), keep_v112, left_at W x z hB hs]

end Ready

section Launch

variable (V : Valuation τ sig (Elt Ideal))

theorem start_boxes (b : Fin 2) (n : Fin 2000) (k : Fin 4) : (after hostOps0_4 (boxed V) (Proc.devRef .tc main_v89) : S2x2000x4.Idx → EReal) (ix3 b n k) = box (sc V) (hv V) b n k :=
  (congrFun (keep4_v89 _) _).trans (boxed_at V b n k)

/-- The contents before the overlaps are taken. -/
abbrev ready : Valuation τ sig (Elt Ideal) := readyOf (after hostOps0_4 (boxed V))

theorem ready_boxes (b : Fin 2) (r : Fin 2000) (k : Fin 4) : (ready V (Proc.devRef .tc main_v115) : S2x2000x4.Idx → EReal) (ix3 b r k)
    = box (sc V) (hv V) b (inOrder (sc V) (hv V) b r) k := boxes_at _ _ _ (start_boxes V) (scored_at V) b r k

theorem ready_scores (b : Fin 2) (r : Fin 2000) : (ready V (Proc.devRef .tc main_v116) : S2x2000.Idx → EReal) (ix2 b r)
    = leftScore (sc V) (hv V) b (inOrder (sc V) (hv V) b r) := scores_at _ _ _ (start_boxes V) (scored_at V) b r

end Launch

end Cert.Proof.NmsRef
-- ==== Proof.NmsRefOver.lean ====
/- Hand-written, untrusted: the overlaps of the suppression call's reference. -/
module

public import proofs.«01_k».proof.Proof.NmsRefRun
public import Idealize.ShloMosaic.Lib.Pointwise
public import Idealize.ShloMosaic.Lib.Routing.Ops
public import proofs.«01_k».proof.Proof.NmsSpec
public import Idealize.ShloMosaic.Lib.StableHlo.RunRead

@[expose] public section

set_option maxRecDepth 16384

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem
open Cert.Proof.Chunk (clipTo okB valB)
open Idealize.ShloMosaic.Routing (gather_row)

variable (V : Valuation τ sig (Elt Ideal))

/-- The area of a box. -/
def areaOf (B : S2x2000x4.Idx → EReal) (b : Fin 2) (i : Fin 2000) : EReal :=
  max (B (ix3 b i 2) - B (ix3 b i 0)) 0 * max (B (ix3 b i 3) - B (ix3 b i 1)) 0

/-- The area two boxes share. -/
def shared (B : S2x2000x4.Idx → EReal) (b : Fin 2) (i j : Fin 2000) : EReal :=
  max (min (B (ix3 b i 2)) (B (ix3 b j 2)) - max (B (ix3 b i 0)) (B (ix3 b j 0))) 0
    * max (min (B (ix3 b i 3)) (B (ix3 b j 3)) - max (B (ix3 b i 1)) (B (ix3 b j 1))) 0

/-- The overlap of two boxes. -/
theorem overlap_at (b : Fin 2) (i j : Fin 2000) : (after hostOps0_19 V (Proc.devRef .tc main_v170_1) : S2x2000x2000.Idx → EReal) (ix3 b i j)
    = Ideal.div (shared (V (Proc.devRef .tc main_v115)) b i j)
      (max (areaOf (V (Proc.devRef .tc main_v115)) b i + areaOf (V (Proc.devRef .tc main_v115)) b j - shared (V (Proc.devRef .tc main_v115)) b i j)
        (Ideal.ofBits .f32 0x3089705F#32)) := by
  after_reads_simp
  simp only [id_eq]
  pointwise [areaOf, shared]

theorem enter_0 : (after hostOps0_19 V (Proc.devRef .tc main_v170_0) : S2000.Idx → BitVec 32) = iotaInDim S2000 32 0 := by
  after_reads_simp
  rfl
theorem enter_2 : (after hostOps0_19 V (Proc.devRef .tc main_v170_2) : S2000.Idx → BitVec 32) = iotaInDim S2000 32 0 := by
  after_reads_simp
  rfl
theorem enter_3 : (after hostOps0_19 V (Proc.devRef .tc main_v170_3) : S_.Idx → BitVec 32) = constantI S_ 32 0#32 := by
  after_reads_simp
  rfl
theorem enter_4 : (after hostOps0_19 V (Proc.devRef .tc main_v170_4) : S2x2000.Idx → BitVec 1) = fun _ => 1#1 := by
  after_reads_simp
  rfl

end Cert.Proof.NmsRef
-- ==== Proof.NmsRefTrip.lean ====
/- Hand-written, untrusted: one trip of the suppression call's reference. -/
module

public import proofs.«01_k».proof.Proof.NmsRefRun
public import Idealize.ShloMosaic.Lib.Pointwise
public import Idealize.ShloMosaic.Lib.Routing.Ops
public import Idealize.ShloMosaic.Lib.DynamicIndex
public import Idealize.ShloMosaic.Lib.WordCmp
public import proofs.«01_k».proof.Proof.NmsSpec
public import Idealize.ShloMosaic.Lib.StableHlo.RunRead

@[expose] public section

set_option maxRecDepth 16384

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem
open Idealize.ShloMosaic.Routing (gather_row)

variable (V : Valuation τ sig (Elt Ideal))

/-- Where the trip's two slices start, as printed. -/
def start3 (x : S_.Idx → BitVec 32) : Fin 3 → ℤ := fun k => (((![constantI S_ 32 0#32, select (cmpi .slt x (constantI S_ 32 0#32)) (addi x (constantI S_ 32 2000#32)) x, constantI S_ 32 0#32] : Fin 3 → (⟨S_, .i32⟩ : BufTy).Contents (Elt Ideal))) k (Shape.Idx.first h_S_)).toInt
def start2 (x : S_.Idx → BitVec 32) : Fin 2 → ℤ := fun k => (((![constantI S_ 32 0#32, select (cmpi .slt x (constantI S_ 32 0#32)) (addi x (constantI S_ 32 2000#32)) x] : Fin 2 → (⟨S_, .i32⟩ : BufTy).Contents (Elt Ideal))) k (Shape.Idx.first h_S_)).toInt

theorem start3_eq (k : ℕ) (hk : k < 2000) : start3 (fun _ => BitVec.ofNat 32 k) = ![0, (k : ℤ), 0] := by
  funext a
  fin_cases a
  · rfl
  · exact toInt_wrap_ofNat k (by omega) (d := constantI S_ 32 2000#32)
  · rfl
theorem start2_eq (k : ℕ) (hk : k < 2000) : start2 (fun _ => BitVec.ofNat 32 k) = ![0, (k : ℤ)] := by
  funext a
  fin_cases a
  · rfl
  · exact toInt_wrap_ofNat k (by omega) (d := constantI S_ 32 2000#32)

theorem row_fits (k : ℕ) (hk : k < 2000) : S2x2000x2000.Slices ![0, k, 0] S2x1x2000 := ⟨rfl, fun a => by
  fin_cases a
  · show 0 + 2 ≤ 2; omega
  · show k + 1 ≤ 2000; omega
  · show 0 + 2000 ≤ 2000; omega⟩
theorem col_fits (k : ℕ) (hk : k < 2000) : S2x2000.Slices ![0, k] S2x1 := ⟨rfl, fun a => by
  fin_cases a
  · show 0 + 2 ≤ 2; omega
  · show k + 1 ≤ 2000; omega⟩

/-- The row of overlaps a trip reads, and the column of codes. -/
theorem row_slice (k : ℕ) (hk : k < 2000) (O : S2x2000x2000.Idx → EReal) :
    Host.dynamicSlice S2x1x2000 O (start3 fun _ => BitVec.ofNat 32 k) sliceFits_S2x2000x2000_S2x1x2000 = extractStridedSlice S2x1x2000 ![0, k, 0] O (row_fits k hk) := by
  rw [start3_eq k hk]
  refine Host.dynamicSlice_eq_extractStridedSlice _ _ _ _ _ _ fun a => ?_
  fin_cases a <;> rfl
theorem col_slice (k : ℕ) (hk : k < 2000) (G : S2x2000.Idx → BitVec 1) :
    Host.dynamicSlice S2x1 G (start2 fun _ => BitVec.ofNat 32 k) sliceFits_S2x2000_S2x1 = extractStridedSlice S2x1 ![0, k] G (col_fits k hk) := by
  rw [start2_eq k hk]
  refine Host.dynamicSlice_eq_extractStridedSlice _ _ _ _ _ _ fun a => ?_
  fin_cases a <;> rfl

/-- The place a trip looks at. -/
def placeA (J : S2000.Idx → BitVec 32) (x : S_.Idx → BitVec 32) : S_.Idx → BitVec 32 :=
  shapeCast S_ (Host.dynamicSlice S1 J (fun k => ((![x] : Fin 1 → (⟨S_, .i32⟩ : BufTy).Contents (Elt Ideal)) k (Shape.Idx.first h_S_)).toInt) sliceFits_S2000_S1) shapeCasts_S1_S_

/-- What one trip keeps, of what the trip reads. -/
def stepA (O : S2x2000x2000.Idx → EReal) (I : S2000.Idx → BitVec 32) (x : S_.Idx → BitVec 32) (G : S2x2000.Idx → BitVec 1) : S2x2000.Idx → BitVec 1 :=
  andi G (noti (andi (andi (cmpf (F := Ideal) (φ := .f32) .ogt (shapeCast S2x2000 (Host.dynamicSlice S2x1x2000 O (start3 x) sliceFits_S2x2000x2000_S2x1x2000) shapeCasts_S2x1x2000_S2x2000)
      (broadcastInDim S2x2000 ![] bcast_S_S2x2000 (constant (F := Ideal) S_ .f32 0x3F333333#32)))
    (broadcastInDim S2x2000 ![0, 1] bcast_S1x2000_S2x2000_0_1 (broadcastInDim S1x2000 ![1] bcast_S2000_S1x2000_1 (cmpi .sgt I (broadcastInDim S2000 ![] bcast_S_S2000 x)))))
    (broadcastInDim S2x2000 ![0, 1] bcast_S2x1_S2x2000_0_1 (Host.dynamicSlice S2x1 G (start2 x) sliceFits_S2x2000_S2x1))))

theorem step_eq : (step_main_v170_4 V : S2x2000.Idx → BitVec 1)
    = stepA (V (Proc.devRef .tc main_v170_1)) (V (Proc.devRef .tc main_v170_2)) (placeA (V (Proc.devRef .tc main_v170_0)) (V (Proc.devRef .tc main_v170_3)))
        (V (Proc.devRef .tc main_v170_4)) := rfl

theorem one_fits (k : ℕ) (hk : k < 2000) : S2000.Slices ![k] S1 := ⟨rfl, fun a => by
  fin_cases a
  show k + 1 ≤ 2000; omega⟩

theorem placeA_eq (k : ℕ) (hk : k < 2000) : placeA (iotaInDim S2000 32 0) (fun _ => BitVec.ofNat 32 k) = fun _ => BitVec.ofNat 32 k := by
  have e : Host.dynamicSlice S1 (iotaInDim S2000 32 0) (fun j => ((![fun _ => BitVec.ofNat 32 k] : Fin 1 → (⟨S_, .i32⟩ : BufTy).Contents (Elt Ideal)) j (Shape.Idx.first h_S_)).toInt) sliceFits_S2000_S1
      = extractStridedSlice S1 ![k] (iotaInDim S2000 32 0) (one_fits k hk) := by
    refine Host.dynamicSlice_eq_extractStridedSlice _ _ _ _ _ _ fun a => ?_
    fin_cases a
    exact Idealize.ShloMosaic.toInt_ofNat_of_lt (by omega)
  unfold placeA
  rw [e]
  funext i
  pointwise []

theorem after_k (n k : ℕ) (hn : n < 2000) (hk : k < 2000) : IntOp.cmpi CmpIPredicate.sgt (BitVec.ofNat 32 n) (BitVec.ofNat 32 k) = BitVec.ofBool (decide (k < n)) := by
  show BitVec.ofBool ((BitVec.ofNat 32 k).slt (BitVec.ofNat 32 n)) = _
  refine congrArg _ (Bool.decide_congr ?_)
  rw [Idealize.ShloMosaic.toInt_ofNat_of_lt (by omega), Idealize.ShloMosaic.toInt_ofNat_of_lt (by omega)]
  omega

theorem and_bool (p q : Bool) : IntOp.andi (BitVec.ofBool p) (BitVec.ofBool q) = BitVec.ofBool (p && q) := by
  cases p <;> cases q <;> rfl

theorem not_bool (p : Bool) : ~~~ BitVec.ofBool p = BitVec.ofBool (!p) := by cases p <;> rfl
theorem bit_bool (a : BitVec 1) : a = BitVec.ofBool (decide (a = 1#1)) := by
  rcases BitVec.eq_zero_or_eq_one a with rfl | rfl <;> rfl

open Classical in
/-- A trip suppresses the later, overlapping, live entries when its own entry is live. -/
theorem step_at (k : ℕ) (hk : k < 2000) (G : S2x2000.Idx → BitVec 1) (O : S2x2000x2000.Idx → EReal) (b : Fin 2) (n : Fin 2000) :
    stepA O (iotaInDim S2000 32 0) (fun _ => BitVec.ofNat 32 k) G (ix2 b n) = 1#1
      ↔ G (ix2 b n) = 1#1 ∧ ¬ (Ideal.ofBits .f32 0x3F333333#32 < O (ix3 b ⟨k, hk⟩ n) ∧ k < n.val ∧ G (ix2 b ⟨k, hk⟩) = 1#1) := by
  unfold stepA
  rw [row_slice k hk, col_slice k hk]
  pointwise []
  simp only [after_k n.val k n.isLt hk]
  generalize G (ix2 b n) = g
  generalize G (ix2 b ⟨k, hk⟩) = g'
  by_cases h2 : Ideal.ofBits .f32 0x3F333333#32 < O (ix3 b ⟨k, hk⟩ n) <;> by_cases h3 : k < n.val <;>
    rcases BitVec.eq_zero_or_eq_one g with rfl | rfl <;> rcases BitVec.eq_zero_or_eq_one g' with rfl | rfl <;> simp [h2, h3] <;> decide

end Cert.Proof.NmsRef
-- ==== Proof.NmsRefLoop.lean ====
/- Hand-written, untrusted: the loop of the suppression call's reference. -/
module

public import proofs.«01_k».proof.Proof.NmsRefRun
public import Idealize.ShloMosaic.Lib.Pointwise
public import Idealize.ShloMosaic.Lib.Routing.Ops
public import proofs.«01_k».proof.Proof.NmsRefTrip
public import proofs.«01_k».proof.Proof.Greedy
public import Idealize.ShloMosaic.Lib.StableHlo.RunRead

@[expose] public section

set_option maxRecDepth 16384

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem
open Idealize.ShloMosaic.Routing (gather_row)

variable (V : Valuation τ sig (Elt Ideal))

/-- Two entries that overlap too much. -/
def Clash (O : S2x2000x2000.Idx → EReal) (b : Fin 2) (i j : ℕ) : Prop :=
  ∃ (hi : i < 2000) (hj : j < 2000), Ideal.ofBits .f32 0x3F333333#32 < O (ix3 b (⟨i, hi⟩ : Fin 2000) (⟨j, hj⟩ : Fin 2000))

open Classical in
/-- What is kept after `k` trips. -/
def maskAt (O : S2x2000x2000.Idx → EReal) (k : ℕ) : S2x2000.Idx → BitVec 1 := fun i =>
  BitVec.ofBool (decide (Greedy.Alive (fun _ => True) (Clash O (i 0)) k (i 1).val))

variable (O : S2x2000x2000.Idx → EReal)

open Classical in
theorem maskAt_iff (k : ℕ) (b : Fin 2) (n : Fin 2000) : maskAt O k (ix2 b n) = 1#1 ↔ Greedy.Alive (fun _ => True) (Clash O b) k n.val := by
  show BitVec.ofBool (decide (Greedy.Alive (fun _ => True) (Clash O b) k n.val)) = 1#1 ↔ _
  by_cases h : Greedy.Alive (fun _ => True) (Clash O b) k n.val <;> simp [h]

open Classical in
theorem maskAt_start : (fun _ => 1#1) = maskAt O 0 := by
  funext i
  show _ = BitVec.ofBool (decide (Greedy.Alive (fun _ => True) (Clash O (i 0)) 0 (i 1).val))
  have h : Greedy.Alive (fun _ => True) (Clash O (i 0)) 0 (i 1).val := by rw [Greedy.alive_zero]; trivial
  rw [decide_eq_true h]
  rfl

theorem bits_ext {a b : BitVec 1} (h : a = 1#1 ↔ b = 1#1) : a = b := by
  rcases BitVec.eq_zero_or_eq_one a with rfl | rfl <;> rcases BitVec.eq_zero_or_eq_one b with rfl | rfl <;> simp_all

theorem maskAt_step (k : ℕ) (hk : k < 2000) : stepA O (iotaInDim S2000 32 0) (fun _ => BitVec.ofNat 32 k) (maskAt O k) = maskAt O (k + 1) := by
  funext i
  obtain ⟨b, n, rfl⟩ : ∃ (b : Fin 2) (n : Fin 2000), i = ix2 b n := ⟨i 0, i 1, funext fun a => by fin_cases a <;> rfl⟩
  have hs : Ideal.ofBits .f32 0x3F333333#32 < O (ix3 b (⟨k, hk⟩ : Fin 2000) n) ↔ Clash O b k n.val :=
    ⟨fun h => ⟨hk, n.isLt, h⟩, fun ⟨_, _, h⟩ => h⟩
  refine bits_ext ?_
  rw [step_at k hk, maskAt_iff, maskAt_iff, maskAt_iff, hs, Greedy.alive_succ]
  tauto

/-- The trips in turn. -/
theorem trips (E : Valuation τ sig (Elt Ideal)) (hJ : (E (Proc.devRef .tc main_v170_0) : S2000.Idx → BitVec 32) = iotaInDim S2000 32 0)
    (hO : E (Proc.devRef .tc main_v170_1) = O) (hI : (E (Proc.devRef .tc main_v170_2) : S2000.Idx → BitVec 32) = iotaInDim S2000 32 0)
    (hx : (E (Proc.devRef .tc main_v170_3) : S_.Idx → BitVec 32) = constantI S_ 32 0#32)
    (hG : (E (Proc.devRef .tc main_v170_4) : S2x2000.Idx → BitVec 1) = fun _ => 1#1) :
    ∀ k, k ≤ 2000 → ((STEP^[k] E) (Proc.devRef .tc main_v170_0) : S2000.Idx → BitVec 32) = iotaInDim S2000 32 0
      ∧ (STEP^[k] E) (Proc.devRef .tc main_v170_1) = O
      ∧ ((STEP^[k] E) (Proc.devRef .tc main_v170_2) : S2000.Idx → BitVec 32) = iotaInDim S2000 32 0
      ∧ ((STEP^[k] E) (Proc.devRef .tc main_v170_3) : S_.Idx → BitVec 32) = (fun _ => BitVec.ofNat 32 k)
      ∧ ((STEP^[k] E) (Proc.devRef .tc main_v170_4) : S2x2000.Idx → BitVec 1) = maskAt O k
  | 0, _ => ⟨hJ, hO, hI, hx, hG.trans (maskAt_start O)⟩
  | k + 1, h => by
    obtain ⟨hj, h0, h1, h3, h4⟩ := trips E hJ hO hI hx hG k (by omega)
    rw [Function.iterate_succ_apply']
    generalize STEP^[k] E = X at *
    refine ⟨(STEP_main_v170_0 X).trans hj, (STEP_main_v170_1 X).trans h0, (STEP_main_v170_2 X).trans h1, (STEP_main_v170_3 X).trans ?_, (STEP_main_v170_4 X).trans ?_⟩
    · show addi (X (Proc.devRef .tc main_v170_3) : S_.Idx → BitVec 32) (constantI S_ 32 1#32) = _
      rw [h3]
      funext i
      show BitVec.ofNat 32 k + 1#32 = _
      rw [BitVec.ofNat_add]
    · rw [step_eq, hj, h0, h1, h3, h4]
      exact (congrArg (fun z => stepA O (iotaInDim S2000 32 0) z (maskAt O k)) (placeA_eq k (by omega))).trans (maskAt_step O k (by omega))

end Cert.Proof.NmsRef
-- ==== Proof.NmsRefDone.lean ====
/- Hand-written, untrusted: the boxes the suppression call's reference returns. -/
module

public import proofs.«01_k».proof.Proof.NmsRefGoal
public import proofs.«01_k».proof.Proof.NmsRefOver
public import proofs.«01_k».proof.Proof.NmsRefLoop

@[expose] public section

set_option maxRecDepth 16384

noncomputable section

namespace Cert.Proof.NmsRef

open Idealize.ShloMosaic.StableHlo Cert.NmsRefIdeal Cert.NmsRefIdeal.Gen Cert.NmsRefIdeal.Value Idealize.ShloMosaic Idealize.ShloMosaic.TcCoe Idealize.SL.Sem
open Cert.Proof.Top (box floor leftScore keptScore inOrder best Clashes Over)

/-- The overlaps of boxes in order. -/
theorem olap_iff (V : Valuation τ sig (Elt Ideal)) (b : Fin 2) (B : Fin 2000 → Fin 4 → EReal)
    (hB : ∀ r k, (V (Proc.devRef .tc main_v115) : S2x2000x4.Idx → EReal) (ix3 b r k) = B r k) (i j : Fin 2000) :
    Ideal.ofBits .f32 0x3F333333#32 < (after hostOps0_19 V (Proc.devRef .tc main_v170_1) : S2x2000x2000.Idx → EReal) (ix3 b i j) ↔ Over (B i) (B j) := by
  rw [overlap_at]
  generalize (V (Proc.devRef .tc main_v115) : S2x2000x4.Idx → EReal) = A at *
  unfold areaOf shared
  simp only [hB]
  exact Chunk.quotient_iff _ _ (le_max_right _ _)

/-- The last steps, one by one. -/
theorem v172_at (V : Valuation τ sig (Elt Ideal)) (b : Fin 2) (r : Fin 1000) (k : Fin 4) (f : Fin 2000 → EReal)
    (hf : ∀ n, (V (Proc.devRef .tc main_v171) : S2x2000.Idx → EReal) (ix2 b n) = f n) :
    (after hostOps0_23 (after hostOps0_22 V) (Proc.devRef .tc main_v172) : S2x1000x4.Idx → EReal) (ix3 b r k)
      = (V (Proc.devRef .tc main_v115) : S2x2000x4.Idx → EReal) (ix3 b (Order.byKey (fun p => OrderDual.toDual (f p)) ⟨r.val, by omega⟩) k) := by
  have e : (after hostOps0_22 V (Proc.devRef .tc main_indices_32) : S2x1000.Idx → BitVec 32)
      = (Host.topK S2x1000 1 (FloatOps.cmpfTotal (F := Ideal) (φ := .f32) .gt) (V (Proc.devRef .tc main_v171) : S2x2000.Idx → EReal) sliceFits_S2x2000_S2x1000).2 := by
    after_reads_simp
  have t := Order.top_places (by norm_num) (V (Proc.devRef .tc main_v171) : S2x2000.Idx → EReal) sliceFits_S2x2000_S2x1000 b r
  simp only [hf] at t
  rw [v172_eq, e, tookP_at _ _ _ _ _ _ t, after_of_writes_sub hostOps0_22 _ hostOps0_22_writes (by decide +kernel)]

section Launch

variable (m : (ℓ : Loc nD τ sig) → Buf (Elt Ideal) ℓ) (ρ : Dev nD → PrngReg) (c : Dev nD) (b : Fin 2)

/-- The contents the loop starts from. -/
theorem enter_eq : entryContents preI m c = after hostOps0_19 (ready (launchContents m c)) := by
  simp only [entryContents, afterL_cons, afterL_nil]

/-- The two arguments. -/
abbrev scoR : S2x16000x15.Idx → EReal := m ((c : Thread nD τ).loc main_arg0)
abbrev heaR : S2x16000x60.Idx → EReal := m ((c : Thread nD τ).loc main_arg1)

/-- The overlaps the loop reads. -/
abbrev olap : S2x2000x2000.Idx → EReal := after hostOps0_19 (ready (launchContents m c)) (Proc.devRef .tc main_v170_1)

theorem clash_iff (i j : ℕ) : Clash (olap m c) b i j ↔ Clashes (scoR m c) (heaR m c) b i j :=
  exists_congr fun hi => exists_congr fun hj => olap_iff (ready (launchContents m c)) b _ (ready_boxes (launchContents m c) b) ⟨i, hi⟩ ⟨j, hj⟩

theorem left_mask : left m c (Proc.devRef .tc main_v170_4) = maskAt (olap m c) 2000 := by
  have e := enter_eq m c
  have t := trips (olap m c) (entryContents preI m c) (by rw [e]; exact enter_0 _) (by rw [e]) (by rw [e]; exact enter_2 _)
    (by rw [e]; exact enter_3 _) (by rw [e]; exact enter_4 _) 2000 le_rfl
  exact ((cond_keeps (atK m 2000 c) main_v170_4 (by decide)).trans (atK_agree m c 2000 main_v170_4 (by decide))).trans t.2.2.2.2

theorem mask_iff (n : Fin 2000) : (left m c (Proc.devRef .tc main_v170_4) : S2x2000.Idx → BitVec 1) (ix2 b n) = 1#1
    ↔ Greedy.Kept (fun _ => True) (Clashes (scoR m c) (heaR m c) b) n.val := by
  rw [left_mask, maskAt_iff]
  exact (Greedy.alive_iff_kept _ _ 2000 n.val n.isLt.le).trans
    (Chunk.kept_congr 2000 _ _ _ _ (fun _ _ => Iff.rfl) (fun i j _ _ => clash_iff m c b i j) n.val n.isLt)

theorem left_v115 : left m c (Proc.devRef .tc main_v115) = ready (launchContents m c) (Proc.devRef .tc main_v115) := by
  rw [left_keep m c main_v115 (by decide +kernel) (by decide +kernel) (by decide +kernel) (by decide +kernel) (by decide +kernel), enter_eq,
    after_of_writes_sub hostOps0_19 _ hostOps0_19_writes (by decide +kernel)]

theorem left_v116 : left m c (Proc.devRef .tc main_v116) = ready (launchContents m c) (Proc.devRef .tc main_v116) := by
  rw [left_keep m c main_v116 (by decide +kernel) (by decide +kernel) (by decide +kernel) (by decide +kernel) (by decide +kernel), enter_eq,
    after_of_writes_sub hostOps0_19 _ hostOps0_19_writes (by decide +kernel)]

theorem kept_at (n : Fin 2000) : (after hostOps0_21 (after hostOps0_20 (left m c)) (Proc.devRef .tc main_v171) : S2x2000.Idx → EReal) (ix2 b n)
    = keptScore (scoR m c) (heaR m c) b n := by
  rw [v171_eq, leftA_at]
  unfold Top.keptScore Top.floor
  by_cases h : Greedy.Kept (fun _ => True) (Clashes (scoR m c) (heaR m c) b) n.val
  · rw [if_pos h, if_pos ((mask_iff m c b n).mpr h)]
    exact (congrFun (left_v116 m c) _).trans (ready_scores (launchContents m c) b n)
  · rw [if_neg h, if_neg fun g => h ((mask_iff m c b n).mp g)]

/-- What the reference returns. -/
abbrev returnedR : S2x1000x4.Idx → EReal :=
  after hostOps0_23 (after hostOps0_22 (after hostOps0_21 (after hostOps0_20 (left m c)))) (Proc.devRef .tc main_v172)

theorem returnedR_at (r : Fin 1000) (k : Fin 4) : returnedR m c (ix3 b r k)
    = box (scoR m c) (heaR m c) b (inOrder (scoR m c) (heaR m c) b (best (scoR m c) (heaR m c) b ⟨r.val, by omega⟩)) k := by
  refine (v172_at _ b r k _ (kept_at m c b)).trans ?_
  rw [after_of_writes_sub hostOps0_21 _ hostOps0_21_writes (by decide +kernel), after_of_writes_sub hostOps0_20 _ hostOps0_20_writes (by decide +kernel), left_v115]
  exact ready_boxes (launchContents m c) b _ k

theorem nmsRef_run : θ_run (defs (F := Ideal)) (onTc (τ := τ) (main (F := Ideal))) ⟨m, fun _ => 0, ρ⟩ (fun r => ∀ c : Dev nD,
    r.2.mem ((c.tc : Thread nD τ).loc main_v172) = returnedR m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨(h c main_v172 rfl).trans (congrFun (final_eq m c) _),
     (h c main_arg0 rfl).trans (final_arg m c _ (by decide)), (h c main_arg1 rfl).trans (final_arg m c _ (by decide))⟩)
    (run_fold (F := Ideal) m ρ)

end Launch

end Cert.Proof.NmsRef
-- ==== Proof.NmsLook.lean ====
/- Hand-written, untrusted: the lookups of the program of the selection image by image. -/
module

public import proofs.«01_k».proof.Proof.Gather
public import proofs.«01_k».proof.Proof.NmsValue
public import Idealize.ShloMosaic.Lib.Pointwise
public import Idealize.ShloMosaic.Lib.Routing.Ops
public import Idealize.ShloMosaic.Lib.Routing.OpsSet
public import Idealize.ShloMosaic.Lib.StableHlo.RunRead

@[expose] public section

set_option maxRecDepth 16384

noncomputable section

namespace Cert.Proof.NmsLook

open Idealize.ShloMosaic.StableHlo Cert.NmsIdeal Cert.NmsIdeal.Gen Idealize.ShloMosaic Idealize.ShloMosaic.TcCoe Idealize.SL.Sem

variable (V : Valuation τ sig (Elt Ideal))

theorem sge_zero (w : BitVec 32) (h : w.toNat < 2048) : IntOp.cmpi CmpIPredicate.sge w 0#32 = 1#1 := by
  have e' : w.toInt = w.toNat := BitVec.toInt_eq_toNat_of_lt (by omega)
  show BitVec.ofBool ((0#32 : BitVec 32).sle w) = BitVec.ofBool true
  refine congrArg _ (decide_eq_true ?_)
  rw [e', show (0#32 : BitVec 32).toInt = 0 from rfl]; omega
theorem slt_zero (w : BitVec 32) (h : w.toNat < 2048) : IntOp.cmpi CmpIPredicate.slt w 0#32 = 0#1 := by
  have e' : w.toInt = w.toNat := BitVec.toInt_eq_toNat_of_lt (by omega)
  show BitVec.ofBool (w.slt 0#32) = BitVec.ofBool false
  refine congrArg _ (decide_eq_false ?_)
  rw [e', show (0#32 : BitVec 32).toInt = 0 from rfl]; omega
theorem sle_last (w : BitVec 32) (h : w.toNat < 2048) : IntOp.cmpi CmpIPredicate.sle w 2047#32 = 1#1 := by
  have e' : w.toInt = w.toNat := BitVec.toInt_eq_toNat_of_lt (by omega)
  show BitVec.ofBool (w.sle 2047#32) = BitVec.ofBool true
  refine congrArg _ (decide_eq_true ?_)
  rw [e', show (2047#32 : BitVec 32).toInt = 2047 from rfl]; omega

/-- Which of the rows looked up lie in the table. -/
def inside1 (L : S2x1000x1.Idx → BitVec 32) : S2x1000.Idx → BitVec 1 :=
  Host.reduce IntOp.andi
    (andi (cmpi CmpIPredicate.sge L (broadcastInDim S2x1000x1 ![] bcast_S_S2x1000x1 (constantI S_ 32 0#32)))
      (cmpi CmpIPredicate.sle L
        (broadcastInDim S2x1000x1 ![0, 1, 2] bcast_S1x1x1_S2x1000x1_0_1_2 (broadcastInDim S1x1x1 ![2] bcast_S1_S1x1x1_2 (constantI S1 32 2047#32)))))
    (constantI S_ 1 1#1) reducesTo_S2x1000x1_S2x1000_d2 h_S_

theorem inside1_at (L : S2x1000x1.Idx → BitVec 32) (b : Fin 2) (r : Fin 1000) (h : (L (ix3 b r (0 : Fin 1))).toNat < 2048) : inside1 L (ix2 b r) = 1#1 := by
  unfold inside1
  pointwise []
  rw [Finset.univ_unique, Finset.fold_singleton, show (default : Fin 1) = 0 from rfl, sge_zero _ (by omega), sle_last _ h]
  rfl

/-- The rows looked up: a negative row counts from the end. -/
def look1 (R : S2x1000x1.Idx → BitVec 32) : S2x1000x1.Idx → BitVec 32 :=
  select (cmpi CmpIPredicate.slt R (broadcastInDim S2x1000x1 ![] bcast_S_S2x1000x1 (constantI S_ 32 0#32)))
    (addi R (broadcastInDim S2x1000x1 ![] bcast_S_S2x1000x1 (constantI S_ 32 2048#32))) R

theorem look1_at (R : S2x1000x1.Idx → BitVec 32) (b : Fin 2) (r : Fin 1000) (h : (R (ix3 b r (0 : Fin 1))).toNat < 2048) :
    look1 R (ix3 b r (0 : Fin 1)) = R (ix3 b r (0 : Fin 1)) := by
  pointwise [look1]
  rw [slt_zero _ (by omega)]
  rfl

/-- The lookup of boxes. -/
def tookP (R : S2x1000x1.Idx → BitVec 32) (A : S2x2048x4.Idx → EReal) : S2x1000x4.Idx → EReal :=
  select (broadcastInDim S2x1000x4 ![0, 1] bcast_S2x1000_S2x1000x4_0_1 (inside1 (look1 R))) (Host.gather gather_S2x2048x4_S2x1000x1_S2x1000x4_2_1_0_0_1_2_114 A (look1 R))
    (broadcastInDim S2x1000x4 ![] bcast_S_S2x1000x4 (constant (F := Ideal) S_ FTy.f32 2143289344#32))

theorem tookP_at (R : S2x1000x1.Idx → BitVec 32) (A : S2x2048x4.Idx → EReal) (b : Fin 2) (r : Fin 1000) (k : Fin 4) (p : Fin 2048) (hp : R (ix3 b r (0 : Fin 1)) = BitVec.ofNat 32 p.val) :
    tookP R A (ix3 b r k) = A (ix3 b p k) := by
  have hn : (R (ix3 b r (0 : Fin 1))).toNat = p.val := by rw [hp, BitVec.toNat_ofNat]; omega
  have el := look1_at R b r (by omega)
  have e := inside1_at (look1 R) b r (by rw [el]; omega)
  have e' := Gather.kernel_at A (look1 R) b r k (by rw [el]; omega)
  unfold tookP
  generalize inside1 (look1 R) = I at *
  generalize Host.gather gather_S2x2048x4_S2x1000x1_S2x1000x4_2_1_0_0_1_2_114 A (look1 R) = G at *
  pointwise []
  rw [e, e']
  show A _ = A _
  congr 2
  exact Fin.ext (by show (look1 R (ix3 b r (0 : Fin 1))).toNat = _; rw [el, hn])

theorem v43_eq : (after hostOps1_3 V (Proc.devRef .tc main_v43) : S2x1000x4.Idx → EReal) = tookP (V (Proc.devRef .tc main_v42)) (V (Proc.devRef .tc main_v41)) := by
  after_reads_simp
  simp only [TRef.ofBuf_toBuf]
  rfl

theorem v42_at (b : Fin 2) (r : Fin 1000) : (after hostOps1_2 V (Proc.devRef .tc main_v42) : S2x1000x1.Idx → BitVec 32) (ix3 b r (0 : Fin 1))
    = (V (Proc.devRef .tc main_v35) : S2x2048.Idx → BitVec 32) (ix2 b (⟨r.val, by omega⟩ : Fin 2048)) := by
  after_reads_simp
  pointwise []

end Cert.Proof.NmsLook
-- ==== Proof.NmsTake.lean ====
/- Hand-written, untrusted: the suppression program's lookup of the head's values. -/
module

public import proofs.«01_k».proof.Proof.NmsValue
public import Idealize.ShloMosaic.Lib.Pointwise
public import Idealize.ShloMosaic.Lib.Routing.Ops
public import Idealize.ShloMosaic.Lib.StableHlo.RunRead

@[expose] public section

set_option maxRecDepth 16384

noncomputable section

namespace Cert.Proof.NmsTake

open Idealize.ShloMosaic.StableHlo Cert.NmsIdeal Cert.NmsIdeal.Gen Idealize.ShloMosaic Idealize.ShloMosaic.TcCoe Idealize.SL.Sem
open Idealize.ShloMosaic.Routing (gather_row)

variable (V : Valuation τ sig (Elt Ideal))

/-- The rows the lookup reads: a negative row counts from the end. -/
def look (R : S4096.Idx → BitVec 32) : S4096x1.Idx → BitVec 32 :=
  broadcastInDim S4096x1 ![0] bcast_S4096_S4096x1_0
    (select (cmpi CmpIPredicate.slt R (broadcastInDim S4096 ![] bcast_S_S4096 (constantI S_ 32 0#32)))
      (addi R (broadcastInDim S4096 ![] bcast_S_S4096 (constantI S_ 32 480000#32))) R)

/-- Which of them lie in the table. -/
def inTab (R : S4096.Idx → BitVec 32) : S4096.Idx → BitVec 1 :=
  Host.reduce IntOp.andi
    (andi (cmpi CmpIPredicate.sge (look R) (broadcastInDim S4096x1 ![] bcast_S_S4096x1 (constantI S_ 32 0#32)))
      (cmpi CmpIPredicate.sle (look R)
        (broadcastInDim S4096x1 ![0, 1] bcast_S1x1_S4096x1_0_1 (broadcastInDim S1x1 ![1] bcast_S1_S1x1_1 (constantI S1 32 479999#32)))))
    (constantI S_ 1 1#1) reducesTo_S4096x1_S4096_d1 h_S_

/-- The lookup. -/
def took (R : S4096.Idx → BitVec 32) (A : S480000x4.Idx → EReal) : S4096x4.Idx → EReal :=
  select (broadcastInDim S4096x4 ![0] bcast_S4096_S4096x4_0 (inTab R))
    (Host.gather gather_S480000x4_S4096x1_S4096x4_1_0_n_n_0_1_14 A (look R))
    (broadcastInDim S4096x4 ![] bcast_S_S4096x4 (constant (F := Ideal) S_ FTy.f32 2143289344#32))

theorem v13_eq : (after hostOps0_1 V (Proc.devRef .tc main_v13) : S4096x4.Idx → EReal) = took (V (Proc.devRef .tc main_v12)) (V (Proc.devRef .tc main_v5)) := by
  after_reads_simp
  simp only [TRef.ofBuf_toBuf]
  rfl

section
variable (R : S4096.Idx → BitVec 32) (A : S480000x4.Idx → EReal) (r : Fin 4096) (h : (R (ix1 r)).toNat < 480000)
include h

theorem not_neg : IntOp.cmpi CmpIPredicate.slt (R (ix1 r)) 0#32 = 0#1 := by
  have e : (R (ix1 r)).toInt = (R (ix1 r)).toNat := BitVec.toInt_eq_toNat_of_lt (by omega)
  show BitVec.ofBool ((R (ix1 r)).slt 0#32) = BitVec.ofBool false
  refine congrArg _ (decide_eq_false ?_)
  rw [e, show (0#32 : BitVec 32).toInt = 0 from rfl]
  omega

theorem look_at : look R (ix2 r (0 : Fin 1)) = R (ix1 r) := by
  pointwise [look]
  rw [not_neg R r h]
  rfl

theorem inTab_at : inTab R (ix1 r) = 1#1 := by
  have e := look_at R r h
  have e' : (R (ix1 r)).toInt = (R (ix1 r)).toNat := BitVec.toInt_eq_toNat_of_lt (by omega)
  unfold inTab
  generalize look R = L at *
  pointwise []
  rw [Finset.univ_unique, Finset.fold_singleton, show (default : Fin 1) = 0 from rfl, e]
  have h1 : IntOp.cmpi CmpIPredicate.sge (R (ix1 r)) 0#32 = 1#1 := by
    show BitVec.ofBool ((0#32 : BitVec 32).sle (R (ix1 r))) = BitVec.ofBool true
    refine congrArg _ (decide_eq_true ?_)
    rw [e', show (0#32 : BitVec 32).toInt = 0 from rfl]; omega
  have h2 : IntOp.cmpi CmpIPredicate.sle (R (ix1 r)) 479999#32 = 1#1 := by
    show BitVec.ofBool ((R (ix1 r)).sle 479999#32) = BitVec.ofBool true
    refine congrArg _ (decide_eq_true ?_)
    rw [e', show (479999#32 : BitVec 32).toInt = 479999 from rfl]; omega
  rw [h1, h2]
  rfl

theorem gather_at (k : Fin 4) : Host.gather gather_S480000x4_S4096x1_S4096x4_1_0_n_n_0_1_14 A (look R) (ix2 r k) = A (ix2 (⟨(R (ix1 r)).toNat, h⟩ : Fin 480000) k) :=
  gather_row _ rfl rfl rfl rfl rfl A (look R) r k ⟨(R (ix1 r)).toNat, h⟩
    ((look_at R r h).trans (BitVec.eq_of_toNat_eq (by rw [BitVec.toNat_ofNat]; show _ = (R (ix1 r)).toNat % 2 ^ 32; omega))) (by norm_num)

theorem took_at (k : Fin 4) : took R A (ix2 r k) = A (ix2 (⟨(R (ix1 r)).toNat, h⟩ : Fin 480000) k) := by
  have e := inTab_at R r h
  have e' := gather_at R A r h k
  unfold took
  generalize inTab R = I at *
  generalize Host.gather gather_S480000x4_S4096x1_S4096x4_1_0_n_n_0_1_14 A (look R) = G at *
  pointwise []
  rw [e, e']
  rfl

end

end Cert.Proof.NmsTake
-- ==== Proof.NmsChosen.lean ====
/- Hand-written, untrusted: the rows chosen and the head's values there, in the program of the selection. -/
module

public import proofs.«01_k».proof.Proof.NmsValue
public import proofs.«01_k».proof.Proof.NmsTake
public import proofs.«01_k».proof.Proof.NmsTop
public import proofs.«01_k».proof.Proof.NmsKernelGoal

@[expose] public section

set_option maxRecDepth 16384

noncomputable section

namespace Cert.Proof

open Idealize.ShloMosaic Idealize.ShloMosaic.TcCoe Idealize.SL.Sem
open Idealize.ShloMosaic.StableHlo (after TRef)

/-! ## A row chosen is a row of the scores -/

section Range

open Cert.NmsIdeal Cert.NmsIdeal.Gen

/-- A position along the scores. -/
theorem position_lt (j : S2x240000.Idx) : (iotaInDim S2x240000 32 1 j).toNat < 240000 := by
  show (BitVec.ofNat 32 (j 1).val).toNat < 240000
  have h : (j 1).val < 240000 := (j 1).isLt
  rw [BitVec.toNat_ofNat]
  omega

/-- The places of the greatest scores are positions along the scores. -/
theorem chosen_lt (x : S2x240000.Idx → EReal) (i : S2x2000.Idx) :
    ((Host.topK S2x2000 1 (FloatOps.cmpfTotal (F := Ideal) (φ := .f32) .gt) x sliceFits_S2x240000_S2x2000).2 i).toNat < 240000 :=
  position_lt _

/-- So is every row chosen, the padding being row 0. -/
theorem padded_lt (K : S2x2000.Idx → BitVec 32) (h : ∀ i, (K i).toNat < 240000) (b : Fin 2) (n : Fin 2048) :
    (concatenate S2x2048 1 [⟨S2x2000, K⟩, ⟨S2x48, broadcastInDim S2x48 ![] bcast_S_S2x48 (constantI S_ 32 0#32)⟩]
      concatenates_S2x2000_S2x48_S2x2048_d1 (ix2 b n)).toNat < 240000 := by
  pointwise []
  by_cases hn : n.val < 2000
  · rw [dif_pos hn]; exact h _
  · rw [dif_neg hn]; norm_num

/-- The rows chosen: the places of the 2000 greatest scores, padded with row 0. -/
def chosen (x : S2x16000x15.Idx → EReal) : S2x2048.Idx → BitVec 32 :=
  concatenate S2x2048 1
    [⟨S2x2000, (Host.topK S2x2000 1 (FloatOps.cmpfTotal (F := Ideal) (φ := .f32) .gt) (shapeCast S2x240000 x shapeCasts_S2x16000x15_S2x240000)
      sliceFits_S2x240000_S2x2000).2⟩, ⟨S2x48, broadcastInDim S2x48 ![] bcast_S_S2x48 (constantI S_ 32 0#32)⟩]
    concatenates_S2x2000_S2x48_S2x2048_d1

theorem rows_lt (x : S2x16000x15.Idx → EReal) (b : Fin 2) (n : Fin 2048) : (chosen x (ix2 b n)).toNat < 240000 :=
  padded_lt _ (chosen_lt _) b n

/-- Their places in the table of both images' values. -/
def places (R : S2x2048.Idx → BitVec 32) : S4096.Idx → BitVec 32 :=
  shapeCast S4096 (addi R (broadcastInDim S2x2048 ![0, 1] bcast_S2x1_S2x2048_0_1
    (muli (broadcastInDim S2x1 ![0] bcast_S2_S2x1_0 (iotaInDim S2 32 0)) (broadcastInDim S2x1 ![] bcast_S_S2x1 (constantI S_ 32 240000#32)))))
    shapeCasts_S2x2048_S4096

end Range

/-- An image's row among the rows of both. -/
def flat (b : Fin 2) (n : Fin 2048) : Fin 4096 := ⟨b.val * 2048 + n.val, by omega⟩

section Place

open Cert.NmsIdeal Cert.NmsIdeal.Gen

variable (V : Valuation τ sig (Elt Ideal)) (b : Fin 2) (n : Fin 2048)

theorem v16_at : (after hostOps0_2 V (Proc.devRef .tc main_v16) : S2x2048.Idx → EReal) (ix2 b n)
    = (V (Proc.devRef .tc main_v13) : S4096x4.Idx → EReal) (ix2 (flat b n) (0 : Fin 4)) := by
  after_reads_simp
  pointwise []
  rfl

theorem v18_at : (after hostOps0_2 V (Proc.devRef .tc main_v18) : S2x2048.Idx → EReal) (ix2 b n)
    = (V (Proc.devRef .tc main_v13) : S4096x4.Idx → EReal) (ix2 (flat b n) (1 : Fin 4)) := by
  after_reads_simp
  pointwise []
  rfl

theorem v20_at : (after hostOps0_2 V (Proc.devRef .tc main_v20) : S2x2048.Idx → EReal) (ix2 b n)
    = (V (Proc.devRef .tc main_v13) : S4096x4.Idx → EReal) (ix2 (flat b n) (2 : Fin 4)) := by
  after_reads_simp
  pointwise []
  rfl

theorem v22_at : (after hostOps0_2 V (Proc.devRef .tc main_v22) : S2x2048.Idx → EReal) (ix2 b n)
    = (V (Proc.devRef .tc main_v13) : S4096x4.Idx → EReal) (ix2 (flat b n) (3 : Fin 4)) := by
  after_reads_simp
  pointwise []
  rfl

end Place

section Values

open Cert.NmsIdeal Cert.NmsIdeal.Gen
open Cert.Proof.Chunk (a1 a2 a3 a4 a5 before mid kX1 kY1 kX2 kY2 lo hi)
open Cert.Proof.Top (top spot val)

variable (V : Valuation τ sig (Elt Ideal))

/-- The rows chosen. -/
theorem chosen_kernel : (after hostOps0 V (Proc.devRef .tc main_v4) : S2x2048.Idx → BitVec 32) = chosen (V (Proc.devRef .tc main_arg0)) := by
  after_reads_simp
  rfl

/-- Their places. -/
theorem places_kernel : (after hostOps0 V (Proc.devRef .tc main_v12) : S4096.Idx → BitVec 32) = places (chosen (V (Proc.devRef .tc main_arg0))) := by
  after_reads_simp
  rfl

/-- The table. -/
theorem table_kernel : (after hostOps0 V (Proc.devRef .tc main_v5) : S480000x4.Idx → EReal) = Top.table (V (Proc.devRef .tc main_arg1)) := by
  after_reads_simp
  rfl

theorem keep_v4 : after hostOps0_1 V (Proc.devRef .tc main_v4) = V (Proc.devRef .tc main_v4) := by after_reads_simp

/-- One of the 2000 proposals among the 2048 rows. -/
abbrev wideRow (n : Fin 2000) : Fin 2048 := Fin.castLE (by norm_num) n

theorem chosen_at (x : S2x16000x15.Idx → EReal) (b : Fin 2) (n : Fin 2000) : chosen x (ix2 b (wideRow n)) = BitVec.ofNat 32 (top x b n).val := by
  refine Eq.trans ?_ (Top.places_at x b n (Top.rows x) rfl)
  have hn : n.val < 2000 := n.isLt
  unfold chosen
  generalize hK : (Host.topK S2x2000 1 (FloatOps.cmpfTotal (F := Ideal) (φ := .f32) .gt) (shapeCast S2x240000 x shapeCasts_S2x16000x15_S2x240000)
      sliceFits_S2x240000_S2x2000).2 = K
  have e : (Host.topK S2x2000 1 (FloatOps.cmpfTotal (F := Ideal) (φ := .f32) .gt) (Top.rows x) sliceFits_S2x240000_S2x2000).2 = K := hK
  rw [e]
  pointwise []
  exact dif_pos hn

theorem places_at (R : S2x2048.Idx → BitVec 32) (b : Fin 2) (n : Fin 2048) :
    places R (ix1 (flat b n)) = R (ix2 b n) + BitVec.ofNat 32 b.val * 240000#32 := by
  have e1 : (flat b n).val / 2048 = b.val := by show (b.val * 2048 + n.val) / 2048 = b.val; omega
  have e2 : (flat b n).val % 2048 = n.val := by show (b.val * 2048 + n.val) % 2048 = n.val; omega
  pointwise [places]
  simp only [e1, e2]
  rfl

theorem spot_at (x : S2x16000x15.Idx → EReal) (b : Fin 2) (n : Fin 2000) : (places (chosen x) (ix1 (flat b (wideRow n)))).toNat = (spot x b n).val := by
  have ht := (top x b n).isLt
  rw [places_at, chosen_at]
  show _ = (top x b n).val + b.val * 240000
  rw [BitVec.toNat_add, BitVec.toNat_mul, BitVec.toNat_ofNat, BitVec.toNat_ofNat, show (240000#32 : BitVec 32).toNat = 240000 from rfl]
  omega

variable (m : (ℓ : Loc nD τ sig) → Buf (Elt Ideal) ℓ) (c : Dev nD)

/-- The two arguments. -/
abbrev sco : S2x16000x15.Idx → EReal := m ((c : Thread nD τ).loc main_arg0)
abbrev hea : S2x16000x60.Idx → EReal := m ((c : Thread nD τ).loc main_arg1)

/-- The call is handed the rows of the greatest scores. -/
theorem a1_eq : a1 m c = chosen (sco m c) := (keep_v4 _).trans (chosen_kernel _)

theorem a1_lt (b : Fin 2) (n : Fin 2048) : (a1 m c (ix2 b n)).toNat < 240000 := by
  rw [a1_eq]
  exact rows_lt _ b n

variable (b : Fin 2) (n : Fin 2000)

/-- The head's values for them. -/
theorem looked_at (k : Fin 4) : (before m c (Proc.devRef .tc main_v13) : S4096x4.Idx → EReal) (ix2 (flat b (wideRow n)) k) = val (sco m c) (hea m c) b n k := by
  have e1 := places_kernel fun b => m (c, b)
  have e2 := table_kernel fun b => m (c, b)
  unfold before
  generalize after hostOps0 (fun b => m (c, b)) = W at *
  rw [NmsTake.v13_eq, e1, e2, NmsTake.took_at _ _ _ (by rw [spot_at]; exact (spot _ b n).isLt)]
  unfold Top.val
  congr 2
  exact Fin.ext (spot_at _ b n)

theorem d0_at : a2 m c (ix2 b (wideRow n)) = val (sco m c) (hea m c) b n 0 := (v16_at (before m c) b _).trans (looked_at m c b n 0)
theorem d1_at : a3 m c (ix2 b (wideRow n)) = val (sco m c) (hea m c) b n 1 := (v18_at (before m c) b _).trans (looked_at m c b n 1)
theorem d2_at : a4 m c (ix2 b (wideRow n)) = val (sco m c) (hea m c) b n 2 := (v20_at (before m c) b _).trans (looked_at m c b n 2)
theorem d3_at : a5 m c (ix2 b (wideRow n)) = val (sco m c) (hea m c) b n 3 := (v22_at (before m c) b _).trans (looked_at m c b n 3)

theorem wide_of (r : BitVec 32) (x : S2x16000x15.Idx → EReal) (h : r = BitVec.ofNat 32 (top x b n).val) : Chunk.wTab r = Top.wide x b n := by
  have ht := (top x b n).isLt
  have e : r.toNat = (top x b n).val := by rw [h, BitVec.toNat_ofNat]; omega
  exact congrArg (fun q => Ideal.ofBits .f32 (Chunk.wBits q)) (Fin.ext (congrArg (· % 15) e))

theorem high_of (r : BitVec 32) (x : S2x16000x15.Idx → EReal) (h : r = BitVec.ofNat 32 (top x b n).val) : Chunk.hTab r = Top.high x b n := by
  have ht := (top x b n).isLt
  have e : r.toNat = (top x b n).val := by rw [h, BitVec.toNat_ofNat]; omega
  exact congrArg (fun q => Ideal.ofBits .f32 (Chunk.hBits q)) (Fin.ext (congrArg (· % 15) e))

theorem row_at : a1 m c (ix2 b (wideRow n)) = BitVec.ofNat 32 (top (sco m c) b n).val :=
  (congrFun (a1_eq m c) (ix2 b (wideRow n))).trans (chosen_at (sco m c) b n)

/-- A box of the rows, the shifts and the growths. -/
theorem box_gen (R : Chunk.SI.Idx → BitVec 32) (d0 d1 d2 d3 : Chunk.SI.Idx → EReal) (i : Chunk.SI.Idx) (w h : EReal) (v : Fin 4 → EReal)
    (hw : Chunk.wTab (R i) = w) (hh : Chunk.hTab (R i) = h) (h0 : d0 i = v 0) (h1 : d1 i = v 1) (h2 : d2 i = v 2) (h3 : d3 i = v 3) (k : Fin 4) :
    (![Chunk.lows Chunk.wTab R d0 d3, Chunk.lows Chunk.hTab R d1 d2, Chunk.highs Chunk.wTab R d0 d3, Chunk.highs Chunk.hTab R d1 d2] : Fin 4 → Chunk.SI.Idx → EReal) k i
      = (![lo w (v 0) (v 3), lo h (v 1) (v 2), hi w (v 0) (v 3), hi h (v 1) (v 2)] : Fin 4 → EReal) k := by
  subst hw hh
  rw [← h0, ← h1, ← h2, ← h3]
  fin_cases k <;> rfl

/-- Their boxes. -/
theorem kernel_box (k : Fin 4) : (![kX1 m c, kY1 m c, kX2 m c, kY2 m c] : Fin 4 → S2x2048.Idx → EReal) k (ix2 b (wideRow n)) = Top.box (sco m c) (hea m c) b n k :=
  box_gen _ _ _ _ _ _ _ _ (fun k => val (sco m c) (hea m c) b n k) (wide_of b n _ _ (row_at m c b n)) (high_of b n _ _ (row_at m c b n))
    (d0_at m c b n) (d1_at m c b n) (d2_at m c b n) (d3_at m c b n) k

end Values

end Cert.Proof
-- ==== Proof.NmsPick.lean ====
/- Hand-written, untrusted: the boxes the program of the selection chooses from. -/
module

public import proofs.«01_k».proof.Proof.NmsValue

@[expose] public section

set_option maxRecDepth 16384

noncomputable section

namespace Cert.Proof

open Idealize.ShloMosaic Idealize.ShloMosaic.TcCoe Idealize.SL.Sem
open Idealize.ShloMosaic.StableHlo (after)

section Stack

open Cert.NmsIdeal Cert.NmsIdeal.Gen

variable (V : Valuation τ sig (Elt Ideal)) (b : Fin 2) (n : Fin 2048)

/-- The kernel's boxes as one array. -/
theorem v41_0 : (after hostOps1_2 V (Proc.devRef .tc main_v41) : S2x2048x4.Idx → EReal) (ix3 b n (0 : Fin 4))
    = (V (Proc.devRef .tc main_v30) : S2x2048.Idx → EReal) (ix2 b n) := by
  after_reads_simp
  pointwise []
  after_reads_simp
  pointwise []
theorem v41_1 : (after hostOps1_2 V (Proc.devRef .tc main_v41) : S2x2048x4.Idx → EReal) (ix3 b n (1 : Fin 4))
    = (V (Proc.devRef .tc main_v31) : S2x2048.Idx → EReal) (ix2 b n) := by
  after_reads_simp
  pointwise []
  after_reads_simp
  pointwise []
theorem v41_2 : (after hostOps1_2 V (Proc.devRef .tc main_v41) : S2x2048x4.Idx → EReal) (ix3 b n (2 : Fin 4))
    = (V (Proc.devRef .tc main_v32) : S2x2048.Idx → EReal) (ix2 b n) := by
  after_reads_simp
  pointwise []
  after_reads_simp
  pointwise []
theorem v41_3 : (after hostOps1_2 V (Proc.devRef .tc main_v41) : S2x2048x4.Idx → EReal) (ix3 b n (3 : Fin 4))
    = (V (Proc.devRef .tc main_v33) : S2x2048.Idx → EReal) (ix2 b n) := by
  after_reads_simp
  pointwise []
  after_reads_simp
  pointwise []

end Stack

end Cert.Proof
-- ==== Proof.NmsAlgebra.lean ====
/- Hand-written, untrusted: the selection and its reference return the same boxes. -/
module

public import proofs.«01_k».proof.Proof.NmsKernelGoal
public import proofs.«01_k».proof.Defs
public import Idealize.ShloMosaic.Lib.ReduceAll
public import proofs.«01_k».proof.Proof.NmsRefDone
public import proofs.«01_k».proof.Proof.NmsLook
public import proofs.«01_k».proof.Proof.NmsChosen
public import proofs.«01_k».proof.Proof.NmsPick

@[expose] public section

set_option maxRecDepth 16384

noncomputable section

namespace Cert.Proof

open Idealize.ShloMosaic Idealize.ShloMosaic.TcCoe Idealize.SL.Sem
open Idealize.ShloMosaic.StableHlo (after launchContents after_of_writes_sub)

section Kernel

open Cert.NmsIdeal Cert.NmsIdeal.Gen Cert.Proof.Chunk

variable (V : Valuation τ sig (Elt Ideal))

theorem keep_v30 : after hostOps1_1 V (Proc.devRef .tc main_v30) = V (Proc.devRef .tc main_v30) := by after_reads_simp
theorem keep_v31 : after hostOps1_1 V (Proc.devRef .tc main_v31) = V (Proc.devRef .tc main_v31) := by after_reads_simp
theorem keep_v32 : after hostOps1_1 V (Proc.devRef .tc main_v32) = V (Proc.devRef .tc main_v32) := by after_reads_simp
theorem keep_v33 : after hostOps1_1 V (Proc.devRef .tc main_v33) = V (Proc.devRef .tc main_v33) := by after_reads_simp
theorem keep_v35 : after hostOps1_2 V (Proc.devRef .tc main_v35) = V (Proc.devRef .tc main_v35) := by after_reads_simp

/-- The places by the codes. -/
theorem v35_eq : (after hostOps1_1 V (Proc.devRef .tc main_v35) : S2x2048.Idx → BitVec 32)
    = (Host.sort2 S2x2048 1 comparator_i32_i32_d1 (V (Proc.devRef .tc main_v34) : S2x2048.Idx → BitVec 32) (iotaInDim S2x2048 32 1)).2 := by
  after_reads_simp
  rfl

theorem by_codes (T : S2x2048.Idx → BitVec 32) (b : Fin 2) (r : Fin 2048) :
    (Host.sort2 S2x2048 1 comparator_i32_i32_d1 T (iotaInDim S2x2048 32 1)).2 (ix2 b r) = BitVec.ofNat 32 (Order.byKey (fun p => (T (ix2 b p)).toInt) r).val :=
  Order.sort_places comparator_i32_i32_d1 BitVec.toInt Order.code_iff T (iotaInDim S2x2048 32 1) b r (fun _ => rfl)

/-- The code of a row is its rank. -/
theorem valid_iff : ∀ n : Fin 2048, Chunk.valB n.val = if n.val < 2000 then 1#1 else 0#1 := by decide +kernel

theorem andi_one (w : BitVec 1) : IntOp.andi w 1#1 = w := by revert w; decide
theorem andi_zero (w : BitVec 1) : IntOp.andi w 0#1 = 0#1 := by revert w; decide

section Codes

variable (X1 Y1 X2 Y2 : Chunk.SI.Idx → EReal) (b : Fin 2)

theorem code_past (p : Fin 2048) (h : 2000 ≤ p.val) : (codeS X1 Y1 X2 Y2 (ix2 b p)).toInt = 3 := by
  have hv : Chunk.valB p.val = 0#1 := by rw [valid_iff, if_neg (by omega)]
  have hk : ¬ Greedy.Kept (candS X1 Y1 X2 Y2 b) (overS X1 Y1 X2 Y2 b) p.val := fun k => by
    obtain ⟨h1, h2⟩ := Greedy.kept_candidate k
    rw [hv, andi_zero] at h2
    exact absurd h2 (by decide)
  show (Chunk.code (Greedy.Kept (candS X1 Y1 X2 Y2 b) (overS X1 Y1 X2 Y2 b) p.val) (okS X1 Y1 X2 Y2 b p) (Chunk.valB p.val)).toInt = 3
  unfold Chunk.code
  rw [if_neg hk, hv, andi_zero, if_neg (by decide), if_neg (by decide)]
  rfl

theorem cand_row (n : Fin 2000) : candS X1 Y1 X2 Y2 b n.val ↔ okS X1 Y1 X2 Y2 b (wideRow n) = 1#1 := by
  have hv : Chunk.valB n.val = 1#1 := (valid_iff (wideRow n)).trans (if_pos n.isLt)
  have hn : n.val < 2048 := by omega
  unfold Chunk.candS
  rw [hv]
  simp only [andi_one]
  exact ⟨fun ⟨_, h⟩ => h, fun h => ⟨hn, h⟩⟩

theorem code_row (ok : Fin 2000 → Prop) (ho : ∀ n, ok n ↔ okS X1 Y1 X2 Y2 b (wideRow n) = 1#1) (n : Fin 2000) :
    (codeS X1 Y1 X2 Y2 (ix2 b (wideRow n))).toInt = (Order.rankOf ok (candS X1 Y1 X2 Y2 b) (overS X1 Y1 X2 Y2 b) n : ℕ) := by
  have hv : Chunk.valB n.val = 1#1 := (valid_iff (wideRow n)).trans (if_pos n.isLt)
  show (Chunk.code (Greedy.Kept (candS X1 Y1 X2 Y2 b) (overS X1 Y1 X2 Y2 b) n.val) (okS X1 Y1 X2 Y2 b (wideRow n)) (Chunk.valB n.val)).toInt = _
  unfold Chunk.code Order.rankOf
  rw [hv, andi_one]
  by_cases k : Greedy.Kept (candS X1 Y1 X2 Y2 b) (overS X1 Y1 X2 Y2 b) n.val
  · rw [if_pos k, if_pos k]; rfl
  · rw [if_neg k, if_neg k]
    by_cases o : okS X1 Y1 X2 Y2 b (wideRow n) = 1#1
    · rw [if_pos o, if_pos ((ho n).mpr o)]; rfl
    · rw [if_neg o, if_neg fun h => o ((ho n).mp h), if_pos rfl]; rfl

/-- The rows by the codes, where choosing goes up by the rank. -/
theorem by_rank (ok : Fin 2000 → Prop) (ho : ∀ n, ok n ↔ okS X1 Y1 X2 Y2 b (wideRow n) = 1#1) (f : Fin 2000 → Fin 2000)
    (hf : ∀ i j, i < j → Order.Before (Order.rankOf ok (candS X1 Y1 X2 Y2 b) (overS X1 Y1 X2 Y2 b)) (f i) (f j)) (i : Fin 2000) :
    Order.byKey (fun p => (codeS X1 Y1 X2 Y2 (ix2 b p)).toInt) (wideRow i) = wideRow (f i) := by
  have h2 : ∀ n, Order.rankOf ok (candS X1 Y1 X2 Y2 b) (overS X1 Y1 X2 Y2 b) n ≤ 2 := fun n => by
    unfold Order.rankOf
    split
    · omega
    · split <;> omega
  refine Order.padded (by norm_num) _ f (fun i j hij => ?_) (fun n p hp => ?_) (fun p q hp hq => ?_) i
  · have e := code_row X1 Y1 X2 Y2 b ok ho
    rcases hf i j hij with h | ⟨h, h'⟩
    · exact Or.inl ((e (f i)).trans_lt ((Int.ofNat_lt.mpr h).trans_eq (e (f j)).symm))
    · exact Or.inr ⟨(e (f i)).trans ((congrArg Int.ofNat h).trans (e (f j)).symm), h'⟩
  · exact (code_row X1 Y1 X2 Y2 b ok ho n).trans_lt ((show ((Order.rankOf ok (candS X1 Y1 X2 Y2 b) (overS X1 Y1 X2 Y2 b) n : ℕ) : ℤ) < 3 by
      have := h2 n; omega).trans_eq (code_past X1 Y1 X2 Y2 b p hp).symm)
  · exact (code_past X1 Y1 X2 Y2 b p hp).trans (code_past X1 Y1 X2 Y2 b q hq).symm

/-- Overlaps, of boxes given one by one. -/
theorem over_gen (B : Fin 2000 → Fin 4 → EReal) (e0 : ∀ n, X1 (ix2 b (wideRow n)) = B n 0) (e1 : ∀ n, Y1 (ix2 b (wideRow n)) = B n 1)
    (e2 : ∀ n, X2 (ix2 b (wideRow n)) = B n 2) (e3 : ∀ n, Y2 (ix2 b (wideRow n)) = B n 3) (i j : Fin 2000) :
    overS X1 Y1 X2 Y2 b i.val j.val ↔ Top.Over (B i) (B j) := by
  have hi : i.val < 2048 := by omega
  have hj : j.val < 2048 := by omega
  have s : Ideal.ofBits .f32 0x3F333333#32 * Chunk.unionS X1 Y1 X2 Y2 b (wideRow i) (wideRow j) < Chunk.shareS X1 Y1 X2 Y2 b (wideRow i) (wideRow j)
      ↔ Top.Over (B i) (B j) := by
    unfold Top.Over Top.cover Top.area Top.share Chunk.unionS Chunk.areaS Chunk.shareS
    rw [e0, e0, e1, e1, e2, e2, e3, e3]
  exact ⟨fun ⟨_, _, h⟩ => s.mp h, fun h => ⟨hi, hj, s.mpr h⟩⟩

end Codes

/-- The box returned at a place, by the codes. -/
theorem picked_of (b : Fin 2) (r : Fin 1000) (k : Fin 4) (T : S2x2048.Idx → BitVec 32) (h : (V (Proc.devRef .tc main_v34) : S2x2048.Idx → BitVec 32) = T)
    (p : Fin 2000) (hp : Order.byKey (fun q => (T (ix2 b q)).toInt) (wideRow ⟨r.val, by omega⟩) = wideRow p) :
    (after hostOps1_3 (after hostOps1_2 (after hostOps1_1 V)) (Proc.devRef .tc main_v43) : S2x1000x4.Idx → EReal) (ix3 b r k)
      = (after hostOps1_2 (after hostOps1_1 V) (Proc.devRef .tc main_v41) : S2x2048x4.Idx → EReal) (ix3 b (wideRow p) k) := by
  have hr : r.val < 2000 := by omega
  have e35 : (after hostOps1_1 V (Proc.devRef .tc main_v35) : S2x2048.Idx → BitVec 32) (ix2 b (wideRow ⟨r.val, hr⟩)) = BitVec.ofNat 32 (wideRow p).val := by
    rw [v35_eq, h, by_codes, hp]
  have e42 := (NmsLook.v42_at (after hostOps1_1 V) b r).trans e35
  exact (congrFun (NmsLook.v43_eq _) _).trans (NmsLook.tookP_at _ _ b r k (wideRow p) e42)

variable (m : (ℓ : Loc nD τ sig) → Buf (Elt Ideal) ℓ) (ρ : Dev nD → PrngReg) (c : Dev nD)

/-- The contents behind the call, its results read back. -/
abbrev back : Valuation τ sig (Elt Ideal) := after hostOps1 (called m c)

/-- The boxes the program chooses from. -/
theorem stacked (b : Fin 2) (n : Fin 2048) (k : Fin 4) :
    (after hostOps1_2 (after hostOps1_1 (back m c)) (Proc.devRef .tc main_v41) : S2x2048x4.Idx → EReal) (ix3 b n k)
      = (![kX1 m c, kY1 m c, kX2 m c, kY2 m c] : Fin 4 → S2x2048.Idx → EReal) k (ix2 b n) := by
  fin_cases k
  · exact (v41_0 _ b n).trans (congrFun ((keep_v30 _).trans ((tail6 m c).trans (nms_x1 m c (a1_lt m c)))) _)
  · exact (v41_1 _ b n).trans (congrFun ((keep_v31 _).trans ((tail7 m c).trans (nms_y1 m c (a1_lt m c)))) _)
  · exact (v41_2 _ b n).trans (congrFun ((keep_v32 _).trans ((tail8 m c).trans (nms_x2 m c (a1_lt m c)))) _)
  · exact (v41_3 _ b n).trans (congrFun ((keep_v33 _).trans ((tail9 m c).trans (nms_y2 m c (a1_lt m c)))) _)

/-- What the program returns. -/
abbrev returned : S2x1000x4.Idx → EReal :=
  after hostOps1_3 (after hostOps1_2 (after hostOps1_1 (back m c))) (Proc.devRef .tc main_v43)

/-- The codes the program orders. -/
theorem coded : (back m c (Proc.devRef .tc main_v34) : S2x2048.Idx → BitVec 32) = codeS (kX1 m c) (kY1 m c) (kX2 m c) (kY2 m c) :=
  (tail10 m c).trans (nms_codes m c (a1_lt m c))

variable (hF : ∀ i, Top.floor < sco m c i)

section Rows

variable (b : Fin 2)

theorem large_iff (n : Fin 2000) : Top.Large (Top.box (sco m c) (hea m c) b n) ↔ okS (kX1 m c) (kY1 m c) (kX2 m c) (kY2 m c) b (wideRow n) = 1#1 := by
  have e := kernel_box m c b n
  have e0 : kX1 m c (ix2 b (wideRow n)) = _ := e 0
  have e1 : kY1 m c (ix2 b (wideRow n)) = _ := e 1
  have e2 : kX2 m c (ix2 b (wideRow n)) = _ := e 2
  have e3 : kY2 m c (ix2 b (wideRow n)) = _ := e 3
  unfold Top.Large Chunk.okS
  rw [e0, e1, e2, e3]

theorem over_iff (i j : Fin 2000) : overS (kX1 m c) (kY1 m c) (kX2 m c) (kY2 m c) b i.val j.val
    ↔ Top.Over (Top.box (sco m c) (hea m c) b i) (Top.box (sco m c) (hea m c) b j) :=
  over_gen _ _ _ _ b _ (fun n => kernel_box m c b n 0) (fun n => kernel_box m c b n 1) (fun n => kernel_box m c b n 2) (fun n => kernel_box m c b n 3) i j

end Rows

include hF in
theorem returned_at (b : Fin 2) (r : Fin 1000) (k : Fin 4) : returned m c (ix3 b r k)
    = Top.box (sco m c) (hea m c) b (Top.inOrder (sco m c) (hea m c) b (Top.best (sco m c) (hea m c) b ⟨r.val, by omega⟩)) k := by
  have rk := Top.ranked (sco m c) (hea m c) b (candS (kX1 m c) (kY1 m c) (kX2 m c) (kY2 m c) b) (overS (kX1 m c) (kY1 m c) (kX2 m c) (kY2 m c) b)
    (fun n => Top.score_mem _ b n _ hF) (fun i => (cand_row _ _ _ _ b i).trans (large_iff m c b i).symm) (over_iff m c b)
  have hp := by_rank (kX1 m c) (kY1 m c) (kX2 m c) (kY2 m c) b _ (large_iff m c b)
    (fun i => Top.inOrder (sco m c) (hea m c) b (Top.best (sco m c) (hea m c) b i)) (fun i j hij => rk.ranks i j hij) ⟨r.val, by omega⟩
  refine (picked_of (back m c) b r k _ (coded m c) _ hp).trans ?_
  exact (stacked m c b _ k).trans (kernel_box m c b _ k)

theorem tails_eq (b : Ref sig .tc) : Pipeline.afterTail₀ cfgs (dats m) 0 (V₀ m) tails c b
    = after hostOps1_3 (after hostOps1_2 (after hostOps1_1 (back m c))) (Proc.devRef .tc b) := by
  show after ([hostOps1, hostOps1_1, hostOps1_2, hostOps1_3] : List (List (HloOp τ sig (Elt Ideal)))).flatten (called m c) _ = _
  simp only [List.flatten_cons, List.flatten_nil, List.append_nil, StableHlo.after_append]

theorem nms_run : θ_run (defs (F := Ideal)) (onTc (τ := τ) (main (F := Ideal))) ⟨m, fun _ => 0, ρ⟩ (fun r => ∀ c : Dev nD,
    r.2.mem ((c.tc : Thread nD τ).loc main_v43) = returned m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨((h.1 c).2 main_v43 (Pipeline.mem_restRefs_of _ (by decide) (by decide))).trans (tails_eq m c main_v43), arg_kept m r h.1 c⟩)
    (run_main m ρ (all_settle m))

end Kernel

/-! ## The precondition -/

/-- The precondition's side conditions. -/
theorem pre_facts : Cert.Pre_scores_above_floor.Facts where
  bcast_S_S2x16000x15 := by decide
  reducesTo_S2x16000x15_S_d0_1_2 := by decide
  h_S_ := by decide

section Pre

open Cert.Pre_scores_above_floor

theorem all_above (x : S2x16000x15.Idx → EReal) (z : S2x16000x60.Idx → EReal)
    (h : @fn pre_facts Ideal _ x z = fun _ => 1#1) (i : S2x16000x15.Idx) : Top.floor < x i := by
  haveI : Subsingleton S_.Idx := ⟨fun a b => funext fun k => k.elim0⟩
  have e : FloatOps.cmpf (F := Ideal) (φ := .f32) .ogt (x i) (FloatOps.ofBits (F := Ideal) .f32 0xD01502F9#32) = 1#1 :=
    Host.reduce_andi_all _ _ _ _ ix0 (congrFun h ix0) i
  have e' : BitVec.ofBool (decide (Top.floor < x i)) = 1#1 := e
  by_contra hn
  rw [decide_eq_false hn] at e'
  exact absurd e' (by decide)

end Pre

/-- Both return the same boxes. -/
theorem returned_same (m : (ℓ : Loc Cert.NmsIdeal.nD Cert.NmsIdeal.τ Cert.NmsIdeal.sig) → Buf (Elt Ideal) ℓ)
    (m' : (ℓ : Loc Cert.NmsRefIdeal.nD Cert.NmsRefIdeal.τ Cert.NmsRefIdeal.sig) → Buf (Elt Ideal) ℓ) (c : Dev Cert.NmsIdeal.nD)
    (h0 : NmsRef.scoR m' c = sco m c) (h1 : NmsRef.heaR m' c = hea m c) (hF : ∀ i, Top.floor < sco m c i) :
    NmsRef.returnedR m' c = returned m c := by
  funext i
  obtain ⟨b, r, k, rfl⟩ : ∃ (b : Fin 2) (r : Fin 1000) (k : Fin 4), i = ix3 b r k := ⟨i 0, i 1, i 2, funext fun a => by fin_cases a <;> rfl⟩
  refine (NmsRef.returnedR_at m' c b r k).trans ?_
  rw [h0, h1]
  exact (returned_at m c hF b r k).symm

/-- The selection and its reference agree. -/
theorem nms_algebraic : Cert.algebraic_NmsIdeal_NmsRefIdeal_pre_scores_above_floor (hNmsIdeal := Cert.NmsIdeal.Gen.facts)
    (hNmsRefIdeal := Cert.NmsRefIdeal.Gen.facts) (hPre_scores_above_floor := pre_facts) := by
  intro m g m' g' hpre hargs
  refine ⟨fun c => returned m c, nms_run m g, (θ_run _ _ _).mono (fun r h c => ?_) (NmsRef.nmsRef_run m' g')⟩
  obtain ⟨h0, h1⟩ := hargs c
  exact ⟨(h c).1.trans (returned_same m m' c h0 h1 (all_above _ _ (hpre c))), (h c).2⟩

end Cert.Proof
-- ==== Proof.lean ====
module

public import proofs.«01_k».proof.Defs
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsIdeal.Value
public import proofs.«01_k».proof.Proof.Gen.HeadsRefIdeal.Read
public import proofs.«01_k».proof.Proof.Gen.HeadsRefIdeal
public import proofs.«01_k».proof.Proof.HeadsAlgebra
public import proofs.«01_k».proof.Proof.NmsRun
public import proofs.«01_k».proof.Proof.NmsRefRun
public import proofs.«01_k».proof.Proof.NmsAlgebra
public import Idealize.ShloMosaic.Lib.Quiescent
public import Idealize.ShloMosaic.Adequacy
public import Idealize.ShloMosaic.Init

@[expose] public section

noncomputable section

namespace Cert.Proof

open Idealize.ShloMosaic Idealize.SL.Sem Cert.Heads

/-- The reference of the heads leaves its arguments and the counters (its signature has none). -/
theorem headsRef_frame : Cert.quiescent_HeadsRefIdeal (hHeadsRefIdeal := Cert.HeadsRefIdeal.Gen.facts) := fun m ρ _ =>
  (θ_run (Cert.HeadsRefIdeal.defs (F := Ideal)) _ _).mono
    (fun r h => ⟨fun c => (h c).2.2, sem_eq_zero_of_no_sems rfl r.2⟩) (Cert.HeadsRefIdeal.Value.run (F := Ideal) m ρ)

/-- The heads call ends with the reference's two arrays. -/
theorem heads_algebraic : Cert.algebraic_HeadsIdeal_HeadsRefIdeal (hHeadsIdeal := Cert.HeadsIdeal.Gen.facts)
    (hHeadsRefIdeal := Cert.HeadsRefIdeal.Gen.facts) := by
  intro m g m' g' _ hagree
  refine ⟨_, _, (θ_run _ _ _).mono (fun r h c => ⟨(h c).1.trans ((HeadsArray.final5 m c).trans (HeadsAlgebra.scores_eq m c)),
    (h c).2.1.trans ((HeadsArray.final6 m c).trans (HeadsAlgebra.regs_eq m c)), (h c).2.2⟩) (Cert.HeadsIdeal.Value.run_blocks (F := Ideal) m g), ?_⟩
  refine (θ_run _ _ _).mono (fun r h c => ⟨(h c).1.trans ?_, (h c).2.1.trans ?_, (h c).2.2⟩) (Cert.HeadsRefIdeal.Value.run (F := Ideal) m' g')
  · obtain ⟨h0, h1, h2, -, -⟩ := hagree c
    rw [h0, h1, h2]; exact Cert.HeadsRefIdeal.Read.val_main_v11_eq ..
  · obtain ⟨h0, -, -, h3, h4⟩ := hagree c
    rw [h0, h3, h4]; exact Cert.HeadsRefIdeal.Read.val_main_v13_eq ..

/-- All claims. -/
theorem claim : Cert.Claim := ⟨Cert.NmsIdeal.Gen.facts, Cert.NmsRefIdeal.Gen.facts, Cert.Heads.Gen.facts, Cert.HeadsIdeal.Gen.facts,
  Cert.HeadsRefIdeal.Gen.facts, pre_facts, fun m ρ _ => Chunk.nms_frame m ρ, fun m ρ _ => Chunk.nms_frame m ρ, NmsRef.ref_frame,
  fun m ρ _ => NmsRef.ref_frame m ρ trivial, fun m ρ _ => Cert.Heads.Gen.frame m ρ,
  fun m ρ _ => Cert.HeadsIdeal.Gen.frame m ρ, headsRef_frame, nms_algebraic, trivial, heads_algebraic⟩

end Cert.Proof

end
